-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v3)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v3) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v6) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hKernelIdeal : Cert.KernelIdeal.Facts) (hReferenceIdeal : Cert.ReferenceIdeal.Facts) (hModulation : Cert.Modulation.Facts) (hModulationIdeal : Cert.ModulationIdeal.Facts) (hModulationReferenceIdeal : Cert.ModulationReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal (hKernelIdeal := hKernelIdeal) (hReferenceIdeal := hReferenceIdeal)
    ∧ preserves_Modulation_ModulationIdeal
    ∧ algebraic_ModulationIdeal_ModulationReferenceIdeal (hModulationIdeal := hModulationIdeal) (hModulationReferenceIdeal := hModulationReferenceIdeal)
-- ==== Kernel.lean ====
abbrev S16x2048x1024 : Shape := ⟨3, ![16, 2048, 1024]⟩
abbrev S16x3072 : Shape := ⟨2, ![16, 3072]⟩
abbrev S1x1024 : Shape := ⟨2, ![1, 1024]⟩
abbrev S1x1024x8704 : Shape := ⟨3, ![1, 1024, 8704]⟩
abbrev S1x3x1024 : Shape := ⟨3, ![1, 3, 1024]⟩
abbrev S1x1024x1024 : Shape := ⟨3, ![1, 1024, 1024]⟩
abbrev S1x4x1280 : Shape := ⟨3, ![1, 4, 1280]⟩
abbrev S1x1280 : Shape := ⟨2, ![1, 1280]⟩
abbrev S1x16x80x80 : Shape := ⟨4, ![1, 16, 80, 80]⟩
abbrev S1x1280x1024 : Shape := ⟨3, ![1, 1280, 1024]⟩
abbrev S1x2x1024 : Shape := ⟨3, ![1, 2, 1024]⟩
abbrev S1024 : Shape := ⟨1, ![1024]⟩
abbrev S16x1024 : Shape := ⟨2, ![16, 1024]⟩
abbrev S16x1x1024 : Shape := ⟨3, ![16, 1, 1024]⟩
abbrev S1024x8704 : Shape := ⟨2, ![1024, 8704]⟩
abbrev S1024x256 : Shape := ⟨2, ![1024, 256]⟩
abbrev S1024x1024 : Shape := ⟨2, ![1024, 1024]⟩
abbrev S4x1024x1024 : Shape := ⟨3, ![4, 1024, 1024]⟩
abbrev S1024x1280 : Shape := ⟨2, ![1024, 1280]⟩
abbrev S1x1024x256 : Shape := ⟨3, ![1, 1024, 256]⟩
abbrev S5x1024x256 : Shape := ⟨3, ![5, 1024, 256]⟩
abbrev S1024x2048 : Shape := ⟨2, ![1024, 2048]⟩
abbrev S3x1024 : Shape := ⟨2, ![3, 1024]⟩
abbrev S3x4x256 : Shape := ⟨3, ![3, 4, 256]⟩
abbrev S4x3x256 : Shape := ⟨3, ![4, 3, 256]⟩
abbrev S4x1x256 : Shape := ⟨3, ![4, 1, 256]⟩
abbrev S16x80x80 : Shape := ⟨3, ![16, 80, 80]⟩
abbrev S16x16 : Shape := ⟨2, ![16, 16]⟩
abbrev S_ : Shape := ⟨0, ![]⟩
abbrev S16x1x16x1 : Shape := ⟨4, ![16, 1, 16, 1]⟩
abbrev S16x80x1x80 : Shape := ⟨4, ![16, 80, 1, 80]⟩
abbrev S16x80x16x80 : Shape := ⟨4, ![16, 80, 16, 80]⟩
abbrev S1280x1280 : Shape := ⟨2, ![1280, 1280]⟩
abbrev S512x256 : Shape := ⟨2, ![512, 256]⟩
abbrev S512x512 : Shape := ⟨2, ![512, 512]⟩
abbrev S1x512x512 : Shape := ⟨3, ![1, 512, 512]⟩
abbrev S5x512x512 : Shape := ⟨3, ![5, 512, 512]⟩
abbrev S1280 : Shape := ⟨1, ![1280]⟩
abbrev S5x1x256 : Shape := ⟨3, ![5, 1, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1280 : Shape := ⟨2, ![4, 1280]⟩
abbrev S1280x1024 : Shape := ⟨2, ![1280, 1024]⟩
abbrev S2x1024 : Shape := ⟨2, ![2, 1024]⟩
abbrev S16x32x1024 : Shape := ⟨3, ![16, 32, 1024]⟩
abbrev S512x1024 : Shape := ⟨2, ![512, 1024]⟩
abbrev S4x544x256 : Shape := ⟨3, ![4, 544, 256]⟩
abbrev S4x512x256 : Shape := ⟨3, ![4, 512, 256]⟩
abbrev S560x1280 : Shape := ⟨2, ![560, 1280]⟩
abbrev S5x512x256 : Shape := ⟨3, ![5, 512, 256]⟩
abbrev S10x512x128 : Shape := ⟨3, ![10, 512, 128]⟩
abbrev S5x16x256 : Shape := ⟨3, ![5, 16, 256]⟩
abbrev S4x32x256 : Shape := ⟨3, ![4, 32, 256]⟩
abbrev S48x1280 : Shape := ⟨2, ![48, 1280]⟩
abbrev S1x1x1024 : Shape := ⟨3, ![1, 1, 1024]⟩
abbrev S16x16x1024 : Shape := ⟨3, ![16, 16, 1024]⟩
abbrev S16x16x1 : Shape := ⟨3, ![16, 16, 1]⟩
abbrev S256x1024 : Shape := ⟨2, ![256, 1024]⟩
abbrev S1x512x256 : Shape := ⟨3, ![1, 512, 256]⟩
abbrev S1x3x256 : Shape := ⟨3, ![1, 3, 256]⟩
abbrev S3x256 : Shape := ⟨2, ![3, 256]⟩
abbrev S1x1x256 : Shape := ⟨3, ![1, 1, 256]⟩
abbrev S32x256 : Shape := ⟨2, ![32, 256]⟩
abbrev S1x32x256 : Shape := ⟨3, ![1, 32, 256]⟩
abbrev S512x1280 : Shape := ⟨2, ![512, 1280]⟩
abbrev S512x128 : Shape := ⟨2, ![512, 128]⟩
abbrev S1x512x128 : Shape := ⟨3, ![1, 512, 128]⟩
abbrev S4x512x128 : Shape := ⟨3, ![4, 512, 128]⟩
abbrev S1x16x256 : Shape := ⟨3, ![1, 16, 256]⟩
abbrev S16x256 : Shape := ⟨2, ![16, 256]⟩
abbrev S512x2048 : Shape := ⟨2, ![512, 2048]⟩

abbrev nBuf : Space → Nat
  | .hbm => 190
  | .vmem => 38
  | .smem => 0
  | _ => 0

abbrev hbmTy0_0 (i : Nat) : BufTy := match i % 128 with
  | 0 => ⟨S16x2048x1024, .f32⟩
  | 1 => ⟨S16x3072, .f32⟩
  | 2 => ⟨S1x1024, .f32⟩
  | 3 => ⟨S1x1024x8704, .f32⟩
  | 4 => ⟨S1x3x1024, .f32⟩
  | 5 => ⟨S1x1024, .f32⟩
  | 6 => ⟨S1x1024x1024, .f32⟩
  | 7 => ⟨S1x4x1280, .f32⟩
  | 8 => ⟨S1x1280, .f32⟩
  | 9 => ⟨S1x16x80x80, .f32⟩
  | 10 => ⟨S1x1280, .f32⟩
  | 11 => ⟨S1x16x80x80, .f32⟩
  | 12 => ⟨S1x1280, .f32⟩
  | 13 => ⟨S1x1280, .f32⟩
  | 14 => ⟨S1x1280x1024, .f32⟩
  | 15 => ⟨S1x2x1024, .f32⟩
  | 16 => ⟨S1x1024x1024, .f32⟩
  | 17 => ⟨S1024, .f32⟩
  | 18 => ⟨S16x1024, .f32⟩
  | 19 => ⟨S16x1x1024, .f32⟩
  | 20 => ⟨S16x1024, .f32⟩
  | 21 => ⟨S16x1x1024, .f32⟩
  | 22 => ⟨S16x1024, .f32⟩
  | 23 => ⟨S16x1x1024, .f32⟩
  | 24 => ⟨S1024x8704, .f32⟩
  | 25 => ⟨S1024x8704, .bf16⟩
  | 26 => ⟨S1024x256, .bf16⟩
  | 27 => ⟨S1024x256, .bf16⟩
  | 28 => ⟨S1024x256, .bf16⟩
  | 29 => ⟨S1024x256, .bf16⟩
  | 30 => ⟨S1024x1024, .bf16⟩
  | 31 => ⟨S1024x256, .bf16⟩
  | 32 => ⟨S1024x256, .bf16⟩
  | 33 => ⟨S1024x256, .bf16⟩
  | 34 => ⟨S1024x256, .bf16⟩
  | 35 => ⟨S1024x1024, .bf16⟩
  | 36 => ⟨S1024x256, .bf16⟩
  | 37 => ⟨S1024x256, .bf16⟩
  | 38 => ⟨S1024x256, .bf16⟩
  | 39 => ⟨S1024x256, .bf16⟩
  | 40 => ⟨S1024x1024, .bf16⟩
  | 41 => ⟨S1024x256, .bf16⟩
  | 42 => ⟨S1024x256, .bf16⟩
  | 43 => ⟨S1024x256, .bf16⟩
  | 44 => ⟨S1024x256, .bf16⟩
  | 45 => ⟨S1024x1024, .bf16⟩
  | 46 => ⟨S1x1024x1024, .bf16⟩
  | 47 => ⟨S1x1024x1024, .bf16⟩
  | 48 => ⟨S1x1024x1024, .bf16⟩
  | 49 => ⟨S1x1024x1024, .bf16⟩
  | 50 => ⟨S4x1024x1024, .bf16⟩
  | 51 => ⟨S1024x1280, .bf16⟩
  | 52 => ⟨S1024x256, .bf16⟩
  | 53 => ⟨S1024x256, .bf16⟩
  | 54 => ⟨S1024x256, .bf16⟩
  | 55 => ⟨S1024x256, .bf16⟩
  | 56 => ⟨S1024x256, .bf16⟩
  | 57 => ⟨S1x1024x256, .bf16⟩
  | 58 => ⟨S1x1024x256, .bf16⟩
  | 59 => ⟨S1x1024x256, .bf16⟩
  | 60 => ⟨S1x1024x256, .bf16⟩
  | 61 => ⟨S1x1024x256, .bf16⟩
  | 62 => ⟨S5x1024x256, .bf16⟩
  | 63 => ⟨S1024x2048, .bf16⟩
  | 64 => ⟨S3x1024, .f32⟩
  | 65 => ⟨S3x4x256, .f32⟩
  | 66 => ⟨S4x3x256, .f32⟩
  | 67 => ⟨S1024, .f32⟩
  | 68 => ⟨S4x1x256, .f32⟩
  | 69 => ⟨S16x80x80, .f32⟩
  | 70 => ⟨S16x80x80, .f32⟩
  | 71 => ⟨S16x16, .i32⟩
  | 72 => ⟨S16x16, .i32⟩
  | 73 => ⟨S_, .i32⟩
  | 74 => ⟨S16x16, .i32⟩
  | 75 => ⟨S16x16, .i32⟩
  | 76 => ⟨S16x16, .i1⟩
  | 77 => ⟨S16x16, .f32⟩
  | 78 => ⟨S16x1x16x1, .f32⟩
  | 79 => ⟨S16x80x1x80, .f32⟩
  | 80 => ⟨S16x80x16x80, .f32⟩
  | 81 => ⟨S16x80x16x80, .f32⟩
  | 82 => ⟨S16x80x16x80, .f32⟩
  | 83 => ⟨S1280x1280, .f32⟩
  | 84 => ⟨S16x16, .i32⟩
  | 85 => ⟨S16x16, .i32⟩
  | 86 => ⟨S_, .i32⟩
  | 87 => ⟨S16x16, .i32⟩
  | 88 => ⟨S16x16, .i32⟩
  | 89 => ⟨S16x16, .i1⟩
  | 90 => ⟨S16x16, .f32⟩
  | 91 => ⟨S16x1x16x1, .f32⟩
  | 92 => ⟨S16x80x1x80, .f32⟩
  | 93 => ⟨S16x80x16x80, .f32⟩
  | 94 => ⟨S16x80x16x80, .f32⟩
  | 95 => ⟨S16x80x16x80, .f32⟩
  | 96 => ⟨S1280x1280, .f32⟩
  | 97 => ⟨S512x256, .f32⟩
  | 98 => ⟨S512x256, .f32⟩
  | 99 => ⟨S512x512, .f32⟩
  | 100 => ⟨S512x256, .f32⟩
  | 101 => ⟨S512x256, .f32⟩
  | 102 => ⟨S512x512, .f32⟩
  | 103 => ⟨S512x256, .f32⟩
  | 104 => ⟨S512x256, .f32⟩
  | 105 => ⟨S512x512, .f32⟩
  | 106 => ⟨S512x256, .f32⟩
  | 107 => ⟨S512x256, .f32⟩
  | 108 => ⟨S512x512, .f32⟩
  | 109 => ⟨S512x256, .f32⟩
  | 110 => ⟨S512x256, .f32⟩
  | 111 => ⟨S512x512, .f32⟩
  | 112 => ⟨S1x512x512, .f32⟩
  | 113 => ⟨S1x512x512, .f32⟩
  | 114 => ⟨S1x512x512, .f32⟩
  | 115 => ⟨S1x512x512, .f32⟩
  | 116 => ⟨S1x512x512, .f32⟩
  | 117 => ⟨S5x512x512, .f32⟩
  | 118 => ⟨S5x512x512, .bf16⟩
  | 119 => ⟨S1280, .f32⟩
  | 120 => ⟨S5x1x256, .f32⟩
  | 121 => ⟨S1280, .f32⟩
  | 122 => ⟨S5x1x256, .f32⟩
  | 123 => ⟨S1280, .f32⟩
  | 124 => ⟨S5x1x256, .f32⟩
  | 125 => ⟨S1024, .f32⟩
  | 126 => ⟨S1x1024, .f32⟩
  | 127 => ⟨S1x1024, .f32⟩
  | _ => ⟨S16x2048x1024, .f32⟩

abbrev hbmTy0_1 (i : Nat) : BufTy := match i % 128 with
  | 0 => ⟨S256, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S256, .i32⟩
  | 8 => ⟨S256, .i32⟩
  | 9 => ⟨S_, .i32⟩
  | 10 => ⟨S256, .i32⟩
  | 11 => ⟨S256, .i1⟩
  | 12 => ⟨S_, .i32⟩
  | 13 => ⟨S256, .i32⟩
  | 14 => ⟨S256, .i1⟩
  | 15 => ⟨S_, .i32⟩
  | 16 => ⟨S_, .i1⟩
  | 17 => ⟨S256, .i1⟩
  | 18 => ⟨S256, .i1⟩
  | 19 => ⟨S256, .i1⟩
  | 20 => ⟨S256, .i32⟩
  | 21 => ⟨S256, .i32⟩
  | 22 => ⟨S256, .i32⟩
  | 23 => ⟨S_, .i32⟩
  | 24 => ⟨S256, .i32⟩
  | 25 => ⟨S256, .i32⟩
  | 26 => ⟨S_, .i32⟩
  | 27 => ⟨S_, .i32⟩
  | 28 => ⟨S256, .i32⟩
  | 29 => ⟨S256, .i32⟩
  | 30 => ⟨S256, .i32⟩
  | 31 => ⟨S_, .i32⟩
  | 32 => ⟨S256, .i32⟩
  | 33 => ⟨S256, .i1⟩
  | 34 => ⟨S256, .i32⟩
  | 35 => ⟨S256, .i32⟩
  | 36 => ⟨S_, .i32⟩
  | 37 => ⟨S256, .i32⟩
  | 38 => ⟨S256, .i1⟩
  | 39 => ⟨S256, .i1⟩
  | 40 => ⟨S_, .i32⟩
  | 41 => ⟨S256, .i32⟩
  | 42 => ⟨S256, .i32⟩
  | 43 => ⟨S256, .i32⟩
  | 44 => ⟨S256, .i32⟩
  | 45 => ⟨S256x1, .i32⟩
  | 46 => ⟨S1x256, .i32⟩
  | 47 => ⟨S256x256, .i32⟩
  | 48 => ⟨S256x256, .i32⟩
  | 49 => ⟨S256x256, .i1⟩
  | 50 => ⟨S256x256, .bf16⟩
  | 51 => ⟨S1024x1024, .f32⟩
  | 52 => ⟨S1024x1024, .bf16⟩
  | 53 => ⟨S4x1280, .f32⟩
  | 54 => ⟨S1280, .f32⟩
  | 55 => ⟨S1x1280, .f32⟩
  | 56 => ⟨S1280x1024, .f32⟩
  | 57 => ⟨S1280x1024, .bf16⟩
  | 58 => ⟨S2x1024, .f32⟩
  | 59 => ⟨S1024x1024, .f32⟩
  | 60 => ⟨S1024x1024, .bf16⟩
  | 61 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S16x32x1024, .f32⟩
  | .local _ .vmem, ⟨1, _⟩ => ⟨S16x32x1024, .f32⟩
  | .local _ .vmem, ⟨2, _⟩ => ⟨S16x1x1024, .f32⟩
  | .local _ .vmem, ⟨3, _⟩ => ⟨S16x1x1024, .f32⟩
  | .local _ .vmem, ⟨4, _⟩ => ⟨S16x1x1024, .f32⟩
  | .local _ .vmem, ⟨5, _⟩ => ⟨S1x1024, .f32⟩
  | .local _ .vmem, ⟨6, _⟩ => ⟨S1x1024, .f32⟩
  | .local _ .vmem, ⟨7, _⟩ => ⟨S256x256, .bf16⟩
  | .local _ .vmem, ⟨8, _⟩ => ⟨S4x1024x1024, .bf16⟩
  | .local _ .vmem, ⟨9, _⟩ => ⟨S4x3x256, .f32⟩
  | .local _ .vmem, ⟨10, _⟩ => ⟨S4x1x256, .f32⟩
  | .local _ .vmem, ⟨11, _⟩ => ⟨S1024x1024, .bf16⟩
  | .local _ .vmem, ⟨12, _⟩ => ⟨S1024x1280, .bf16⟩
  | .local _ .vmem, ⟨13, _⟩ => ⟨S4x1280, .f32⟩
  | .local _ .vmem, ⟨14, _⟩ => ⟨S1x1280, .f32⟩
  | .local _ .vmem, ⟨15, _⟩ => ⟨S5x512x512, .bf16⟩
  | .local _ .vmem, ⟨16, _⟩ => ⟨S5x1x256, .f32⟩
  | .local _ .vmem, ⟨17, _⟩ => ⟨S5x1x256, .f32⟩
  | .local _ .vmem, ⟨18, _⟩ => ⟨S5x1x256, .f32⟩
  | .local _ .vmem, ⟨19, _⟩ => ⟨S5x1024x256, .bf16⟩
  | .local _ .vmem, ⟨20, _⟩ => ⟨S1280x1024, .bf16⟩
  | .local _ .vmem, ⟨21, _⟩ => ⟨S1024x2048, .bf16⟩
  | .local _ .vmem, ⟨22, _⟩ => ⟨S2x1024, .f32⟩
  | .local _ .vmem, ⟨23, _⟩ => ⟨S1024x1024, .bf16⟩
  | .local _ .vmem, ⟨24, _⟩ => ⟨S16x32x1024, .f32⟩
  | .local _ .vmem, ⟨25, _⟩ => ⟨S16x32x1024, .f32⟩
  | .local _ .vmem, ⟨26, _⟩ => ⟨S512x1024, .bf16⟩
  | .local _ .vmem, ⟨27, _⟩ => ⟨S4x544x256, .f32⟩
  | .local _ .vmem, ⟨28, _⟩ => ⟨S4x512x256, .bf16⟩
  | .local _ .vmem, ⟨29, _⟩ => ⟨S560x1280, .f32⟩
  | .local _ .vmem, ⟨30, _⟩ => ⟨S5x512x256, .f32⟩
  | .local _ .vmem, ⟨31, _⟩ => ⟨S10x512x128, .bf16⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S5x512x256, .bf16⟩
  | .local _ .vmem, ⟨36, _⟩ => ⟨S5x16x256, .f32⟩
  | .local _ .vmem, ⟨37, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_0 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_c_1 : Ref sig .tc := ⟨.hbm, 129, rfl⟩
abbrev main_call0_v0 : Ref sig .tc := ⟨.hbm, 130, rfl⟩
abbrev main_call0_c : Ref sig .tc := ⟨.hbm, 131, rfl⟩
abbrev main_call0_v1 : Ref sig .tc := ⟨.hbm, 132, rfl⟩
abbrev main_call0_c_0 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_call0_c_1 : Ref sig .tc := ⟨.hbm, 137, rfl⟩
abbrev main_call0_v5 : Ref sig .tc := ⟨.hbm, 138, rfl⟩
abbrev main_call0_v6 : Ref sig .tc := ⟨.hbm, 139, rfl⟩
abbrev main_call0_c_2 : Ref sig .tc := ⟨.hbm, 140, rfl⟩
abbrev main_call0_v7 : Ref sig .tc := ⟨.hbm, 141, rfl⟩
abbrev main_call0_v8 : Ref sig .tc := ⟨.hbm, 142, rfl⟩
abbrev main_call0_c_3 : Ref sig .tc := ⟨.hbm, 143, rfl⟩
abbrev main_call0_v9 : Ref sig .tc := ⟨.hbm, 144, rfl⟩
abbrev main_call0_v10 : Ref sig .tc := ⟨.hbm, 145, rfl⟩
abbrev main_call0_v11 : Ref sig .tc := ⟨.hbm, 146, rfl⟩
abbrev main_call0_v12 : Ref sig .tc := ⟨.hbm, 147, rfl⟩
abbrev main_call0_v13 : Ref sig .tc := ⟨.hbm, 148, rfl⟩
abbrev main_call0_v14 : Ref sig .tc := ⟨.hbm, 149, rfl⟩
abbrev main_v109 : Ref sig .tc := ⟨.hbm, 150, rfl⟩
abbrev main_c_2 : Ref sig .tc := ⟨.hbm, 151, rfl⟩
abbrev main_v110 : Ref sig .tc := ⟨.hbm, 152, rfl⟩
abbrev main_v111 : Ref sig .tc := ⟨.hbm, 153, rfl⟩
abbrev main_c_3 : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_call1_v5 : Ref sig .tc := ⟨.hbm, 160, rfl⟩
abbrev main_call1_v6 : Ref sig .tc := ⟨.hbm, 161, rfl⟩
abbrev main_call1_v7 : Ref sig .tc := ⟨.hbm, 162, rfl⟩
abbrev main_call1_v8 : Ref sig .tc := ⟨.hbm, 163, rfl⟩
abbrev main_call1_c : Ref sig .tc := ⟨.hbm, 164, rfl⟩
abbrev main_call1_v9 : Ref sig .tc := ⟨.hbm, 165, rfl⟩
abbrev main_call1_v10 : Ref sig .tc := ⟨.hbm, 166, rfl⟩
abbrev main_call1_v11 : Ref sig .tc := ⟨.hbm, 167, rfl⟩
abbrev main_call1_c_0 : Ref sig .tc := ⟨.hbm, 168, rfl⟩
abbrev main_call1_v12 : Ref sig .tc := ⟨.hbm, 169, rfl⟩
abbrev main_call1_v13 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_29 : BitVec 32 := 0#32
  let c4_i32 : BitVec 32 := 4#32
  let v64 : BitVec 32 := Scalar.addi c0_i32_29 c4_i32
  let c1_i32 : BitVec 32 := 1#32
  ⟨c0_i32_29, v64, c1_i32⟩
def k0_off1 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v279 : Index := Scalar.indexCast arg37
  let c0_168 : Index := 0#32
  let c0_169 : Index := 0#32
  ![v279.toNat, 0, 0]
def k0_off2 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v288 : Index := Scalar.indexCast arg37
  let c32_171 : Index := 32#32
  let c0_172 : Index := 0#32
  ![v288.toNat, 32, 0]
def k0_off3 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v292 : Index := Scalar.indexCast arg37
  let c0_173 : Index := 0#32
  let c0_174 : Index := 0#32
  ![v292.toNat, 0, 0]
def k0_off4 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v295 : Index := Scalar.indexCast arg37
  let c0_175 : Index := 0#32
  let c0_176 : Index := 0#32
  ![v295.toNat, 0, 0]
def k0_off5 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v298 : Index := Scalar.indexCast arg37
  let c0_177 : Index := 0#32
  let c0_178 : Index := 0#32
  ![v298.toNat, 0, 0]
def k0_off6 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v306 : Index := Scalar.indexCast arg37
  let c16_179 : Index := 16#32
  let c0_180 : Index := 0#32
  ![v306.toNat, 16, 0]
def k0_off7 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v318 : Index := Scalar.indexCast arg37
  let c0_181 : Index := 0#32
  let c0_182 : Index := 0#32
  ![v318.toNat, 0, 0]
def k0_off8 (k0_t1 : Fin k0_t1_loop.trips) : Fin 3 → Nat :=
  let c0_i32_29 : BitVec 32 := 0#32
  let c1_i32 : BitVec 32 := 1#32
  let arg37 : BitVec 32 := Scf.iv c0_i32_29 c1_i32 k0_t1
  let v327 : Index := Scalar.indexCast arg37
  let c0_183 : Index := 0#32
  let c0_184 : Index := 0#32
  ![v327.toNat, 0, 0]
@[reducible] def k0_t2_loop : Scf.Loop 32 :=
  let c0_i32_99 : BitVec 32 := 0#32
  let c5_i32 : BitVec 32 := 5#32
  let v182 : BitVec 32 := Scalar.addi c0_i32_99 c5_i32
  let c1_i32_100 : BitVec 32 := 1#32
  ⟨c0_i32_99, v182, c1_i32_100⟩
def k0_off9 (k0_t2 : Fin k0_t2_loop.trips) : Fin 3 → Nat :=
  let c6_i32 : BitVec 32 := 6#32
  let c0_i32_167 : BitVec 32 := 0#32
  let c2_i32 : BitVec 32 := 2#32
  let c0_i32_99 : BitVec 32 := 0#32
  let c1_i32_100 : BitVec 32 := 1#32
  let arg37 : BitVec 32 := Scf.iv c0_i32_99 c1_i32_100 k0_t2
  let v278 : BitVec 32 := Scalar.muli c2_i32 arg37
  let c1_i32_166 : BitVec 32 := 1#32
  let v279 : BitVec 32 := Scalar.subi v278 c1_i32_166
  let v280 : BitVec 32 := Scalar.maxsi c0_i32_167 v279
  let v281 : BitVec 32 := Scalar.minsi c6_i32 v280
  let v282 : Index := Scalar.indexCast v281
  let c0_168 : Index := 0#32
  let c0_169 : Index := 0#32
  ![v282.toNat, 0, 0]
def k0_off10 (k0_t2 : Fin k0_t2_loop.trips) : Fin 3 → Nat :=
  let c0_i32_99 : BitVec 32 := 0#32
  let c1_i32_100 : BitVec 32 := 1#32
  let arg37 : BitVec 32 := Scf.iv c0_i32_99 c1_i32_100 k0_t2
  let v293 : Index := Scalar.indexCast arg37
  let c0_170 : Index := 0#32
  let c0_171 : Index := 0#32
  ![v293.toNat, 0, 0]
def k0_off11 (k0_t2 : Fin k0_t2_loop.trips) : Fin 3 → Nat :=
  let c0_i32_99 : BitVec 32 := 0#32
  let c1_i32_100 : BitVec 32 := 1#32
  let arg37 : BitVec 32 := Scf.iv c0_i32_99 c1_i32_100 k0_t2
  let v298 : Index := Scalar.indexCast arg37
  let c0_173 : Index := 0#32
  let c0_174 : Index := 0#32
  ![v298.toNat, 0, 0]
def k0_off12 (k0_t2 : Fin k0_t2_loop.trips) : Fin 3 → Nat :=
  let c0_i32_99 : BitVec 32 := 0#32
  let c1_i32_100 : BitVec 32 := 1#32
  let arg37 : BitVec 32 := Scf.iv c0_i32_99 c1_i32_100 k0_t2
  let v346 : Index := Scalar.indexCast arg37
  let c0_187 : Index := 0#32
  let c0_188 : Index := 0#32
  ![v346.toNat, 0, 0]
def k0_off13 (k0_t2 : Fin k0_t2_loop.trips) : Fin 3 → Nat :=
  let c0_i32_99 : BitVec 32 := 0#32
  let c1_i32_100 : BitVec 32 := 1#32
  let arg37 : BitVec 32 := Scf.iv c0_i32_99 c1_i32_100 k0_t2
  let v354 : Index := Scalar.indexCast arg37
  let c0_191 : Index := 0#32
  let c0_192 : Index := 0#32
  ![v354.toNat, 0, 0]
def k0_off14 (k0_t2 : Fin k0_t2_loop.trips) : Fin 3 → Nat :=
  let c0_i32_99 : BitVec 32 := 0#32
  let c1_i32_100 : BitVec 32 := 1#32
  let arg37 : BitVec 32 := Scf.iv c0_i32_99 c1_i32_100 k0_t2
  let v586 : Index := Scalar.indexCast arg37
  let c0_362 : Index := 0#32
  let c0_363 : Index := 0#32
  ![v586.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1280 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S5x1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S5x1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S5x1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1280x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S16x32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S16x2048x1024 : Shape := ⟨3, ![16, 2048, 1024]⟩
abbrev S16x3072 : Shape := ⟨2, ![16, 3072]⟩
abbrev S1x1024 : Shape := ⟨2, ![1, 1024]⟩
abbrev S1x1024x8704 : Shape := ⟨3, ![1, 1024, 8704]⟩
abbrev S1x3x1024 : Shape := ⟨3, ![1, 3, 1024]⟩
abbrev S1x1024x1024 : Shape := ⟨3, ![1, 1024, 1024]⟩
abbrev S1x4x1280 : Shape := ⟨3, ![1, 4, 1280]⟩
abbrev S1x1280 : Shape := ⟨2, ![1, 1280]⟩
abbrev S1x16x80x80 : Shape := ⟨4, ![1, 16, 80, 80]⟩
abbrev S1x1280x1024 : Shape := ⟨3, ![1, 1280, 1024]⟩
abbrev S1x2x1024 : Shape := ⟨3, ![1, 2, 1024]⟩
abbrev S1024 : Shape := ⟨1, ![1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1024x8704 : Shape := ⟨2, ![1024, 8704]⟩
abbrev S16x2048x8704 : Shape := ⟨3, ![16, 2048, 8704]⟩
abbrev S16x2048x1280 : Shape := ⟨3, ![16, 2048, 1280]⟩
abbrev S3x1024 : Shape := ⟨2, ![3, 1024]⟩
abbrev S16x2050x1024 : Shape := ⟨3, ![16, 2050, 1024]⟩
abbrev S1024x1024 : Shape := ⟨2, ![1024, 1024]⟩
abbrev S4x1280 : Shape := ⟨2, ![4, 1280]⟩
abbrev S1280 : Shape := ⟨1, ![1280]⟩
abbrev S16x2051x1280 : Shape := ⟨3, ![16, 2051, 1280]⟩
abbrev S1x1x1280 : Shape := ⟨3, ![1, 1, 1280]⟩
abbrev S16x80x80 : Shape := ⟨3, ![16, 80, 80]⟩
abbrev S16x2048x16x80 : Shape := ⟨4, ![16, 2048, 16, 80]⟩
abbrev S16x80x16x2048 : Shape := ⟨4, ![16, 80, 16, 2048]⟩
abbrev S16x1280 : Shape := ⟨2, ![16, 1280]⟩
abbrev S2048x16x1280 : Shape := ⟨3, ![2048, 16, 1280]⟩
abbrev S1x16x1280 : Shape := ⟨3, ![1, 16, 1280]⟩
abbrev S1280x1024 : Shape := ⟨2, ![1280, 1024]⟩

abbrev nBuf : Space → Nat
  | .hbm => 292
  | .vmem => 0
  | .smem => 0
  | _ => 0

abbrev hbmTy0_0 (i : Nat) : BufTy := match i % 128 with
  | 0 => ⟨S16x2048x1024, .f32⟩
  | 1 => ⟨S16x3072, .f32⟩
  | 2 => ⟨S1x1024, .f32⟩
  | 3 => ⟨S1x1024x8704, .f32⟩
  | 4 => ⟨S1x3x1024, .f32⟩
  | 5 => ⟨S1x1024, .f32⟩
  | 6 => ⟨S1x1024x1024, .f32⟩
  | 7 => ⟨S1x4x1280, .f32⟩
  | 8 => ⟨S1x1280, .f32⟩
  | 9 => ⟨S1x16x80x80, .f32⟩
  | 10 => ⟨S1x1280, .f32⟩
  | 11 => ⟨S1x16x80x80, .f32⟩
  | 12 => ⟨S1x1280, .f32⟩
  | 13 => ⟨S1x1280, .f32⟩
  | 14 => ⟨S1x1280x1024, .f32⟩
  | 15 => ⟨S1x2x1024, .f32⟩
  | 16 => ⟨S1x1024x1024, .f32⟩
  | 17 => ⟨S1024, .f32⟩
  | 18 => ⟨S16x1024, .f32⟩
  | 19 => ⟨S16x1024, .f32⟩
  | 20 => ⟨S16x1024, .f32⟩
  | 21 => ⟨S1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S_, .f32⟩
  | 30 => ⟨S16x2048x1, .f32⟩
  | 31 => ⟨S16x2048x1, .f32⟩
  | 32 => ⟨S16x2048x1, .f32⟩
  | 33 => ⟨S16x2048x1024, .f32⟩
  | 34 => ⟨S16x2048x1024, .f32⟩
  | 35 => ⟨S1x1x1024, .f32⟩
  | 36 => ⟨S16x2048x1024, .f32⟩
  | 37 => ⟨S16x2048x1024, .f32⟩
  | 38 => ⟨S16x1x1024, .f32⟩
  | 39 => ⟨S_, .f32⟩
  | 40 => ⟨S16x1x1024, .f32⟩
  | 41 => ⟨S16x1x1024, .f32⟩
  | 42 => ⟨S16x2048x1024, .f32⟩
  | 43 => ⟨S16x2048x1024, .f32⟩
  | 44 => ⟨S16x1x1024, .f32⟩
  | 45 => ⟨S16x2048x1024, .f32⟩
  | 46 => ⟨S16x2048x1024, .f32⟩
  | 47 => ⟨S1024x8704, .f32⟩
  | 48 => ⟨S16x2048x8704, .f32⟩
  | 49 => ⟨S16x2048x1024, .f32⟩
  | 50 => ⟨S16x2048x1024, .f32⟩
  | 51 => ⟨S16x2048x1024, .f32⟩
  | 52 => ⟨S16x2048x1024, .f32⟩
  | 53 => ⟨S16x2048x1280, .f32⟩
  | 54 => ⟨S16x2048x1280, .f32⟩
  | 55 => ⟨S16x2048x1024, .f32⟩
  | 56 => ⟨S16x2048x1024, .f32⟩
  | 57 => ⟨S16x2048x1024, .f32⟩
  | 58 => ⟨S3x1024, .f32⟩
  | 59 => ⟨S1024, .f32⟩
  | 60 => ⟨S_, .i32⟩
  | 61 => ⟨S_, .f32⟩
  | 62 => ⟨S16x2050x1024, .f32⟩
  | 63 => ⟨S16x2048x1024, .f32⟩
  | 64 => ⟨S1x1024, .f32⟩
  | 65 => ⟨S1024, .f32⟩
  | 66 => ⟨S1x1x1024, .f32⟩
  | 67 => ⟨S16x2048x1024, .f32⟩
  | 68 => ⟨S16x2048x1024, .f32⟩
  | 69 => ⟨S1x1x1024, .f32⟩
  | 70 => ⟨S16x2048x1024, .f32⟩
  | 71 => ⟨S16x2048x1024, .f32⟩
  | 72 => ⟨S16x2048x1024, .f32⟩
  | 73 => ⟨S1x1024, .f32⟩
  | 74 => ⟨S1024, .f32⟩
  | 75 => ⟨S1x1x1024, .f32⟩
  | 76 => ⟨S16x2048x1024, .f32⟩
  | 77 => ⟨S16x2048x1024, .f32⟩
  | 78 => ⟨S16x2048x1024, .f32⟩
  | 79 => ⟨S16x2048x1024, .f32⟩
  | 80 => ⟨S1x1024, .f32⟩
  | 81 => ⟨S1024, .f32⟩
  | 82 => ⟨S1x1x1024, .f32⟩
  | 83 => ⟨S16x2048x1024, .f32⟩
  | 84 => ⟨S16x2048x1024, .f32⟩
  | 85 => ⟨S16x2048x1024, .f32⟩
  | 86 => ⟨S16x2048x1024, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S_, .f32⟩
  | 93 => ⟨S16x2048x1024, .f32⟩
  | 94 => ⟨S16x2048x1024, .f32⟩
  | 95 => ⟨S16x2048x1024, .f32⟩
  | 96 => ⟨S16x2048x1024, .f32⟩
  | 97 => ⟨S1024x1024, .f32⟩
  | 98 => ⟨S16x2048x1024, .f32⟩
  | 99 => ⟨S4x1280, .f32⟩
  | 100 => ⟨S1280, .f32⟩
  | 101 => ⟨S_, .i32⟩
  | 102 => ⟨S_, .f32⟩
  | 103 => ⟨S16x2051x1280, .f32⟩
  | 104 => ⟨S16x2048x1280, .f32⟩
  | 105 => ⟨S1x1280, .f32⟩
  | 106 => ⟨S1280, .f32⟩
  | 107 => ⟨S1x1x1280, .f32⟩
  | 108 => ⟨S16x2048x1280, .f32⟩
  | 109 => ⟨S16x2048x1280, .f32⟩
  | 110 => ⟨S1x1x1280, .f32⟩
  | 111 => ⟨S16x2048x1280, .f32⟩
  | 112 => ⟨S16x2048x1280, .f32⟩
  | 113 => ⟨S16x2048x1280, .f32⟩
  | 114 => ⟨S1x1280, .f32⟩
  | 115 => ⟨S1280, .f32⟩
  | 116 => ⟨S1x1x1280, .f32⟩
  | 117 => ⟨S16x2048x1280, .f32⟩
  | 118 => ⟨S16x2048x1280, .f32⟩
  | 119 => ⟨S16x2048x1280, .f32⟩
  | 120 => ⟨S16x2048x1280, .f32⟩
  | 121 => ⟨S1x1280, .f32⟩
  | 122 => ⟨S1280, .f32⟩
  | 123 => ⟨S1x1x1280, .f32⟩
  | 124 => ⟨S16x2048x1280, .f32⟩
  | 125 => ⟨S16x2048x1280, .f32⟩
  | 126 => ⟨S16x2048x1280, .f32⟩
  | 127 => ⟨S16x2048x1280, .f32⟩
  | _ => ⟨S16x2048x1024, .f32⟩

abbrev hbmTy0_1 (i : Nat) : BufTy := match i % 128 with
  | 0 => ⟨S1x1280, .f32⟩
  | 1 => ⟨S1280, .f32⟩
  | 2 => ⟨S1x1x1280, .f32⟩
  | 3 => ⟨S16x2048x1280, .f32⟩
  | 4 => ⟨S16x2048x1280, .f32⟩
  | 5 => ⟨S16x2048x1280, .f32⟩
  | 6 => ⟨S16x80x80, .f32⟩
  | 7 => ⟨S1280, .f32⟩
  | 8 => ⟨S16x80x80, .f32⟩
  | 9 => ⟨S1280, .f32⟩
  | 10 => ⟨S1280, .f32⟩
  | 11 => ⟨S16x2048x16x80, .f32⟩
  | 12 => ⟨S16x80x16x2048, .f32⟩
  | 13 => ⟨S16x2048x16x80, .f32⟩
  | 14 => ⟨S16x2048x1280, .f32⟩
  | 15 => ⟨S1x1x1280, .f32⟩
  | 16 => ⟨S16x2048x1280, .f32⟩
  | 17 => ⟨S16x2048x1280, .f32⟩
  | 18 => ⟨S16x2048x1280, .f32⟩
  | 19 => ⟨S16x2048x1280, .f32⟩
  | 20 => ⟨S_, .f32⟩
  | 21 => ⟨S16x2048x1280, .f32⟩
  | 22 => ⟨S16x2048x1280, .f32⟩
  | 23 => ⟨S_, .f32⟩
  | 24 => ⟨S16x2048x1280, .f32⟩
  | 25 => ⟨S16x2048x1280, .f32⟩
  | 26 => ⟨S16x80x16x2048, .f32⟩
  | 27 => ⟨S16x2048x16x80, .f32⟩
  | 28 => ⟨S16x2048x1280, .f32⟩
  | 29 => ⟨S1x1x1280, .f32⟩
  | 30 => ⟨S16x2048x1280, .f32⟩
  | 31 => ⟨S16x2048x1280, .f32⟩
  | 32 => ⟨S16x2048x1280, .f32⟩
  | 33 => ⟨S16x2048x1280, .f32⟩
  | 34 => ⟨S_, .f32⟩
  | 35 => ⟨S16x2048x1280, .f32⟩
  | 36 => ⟨S16x2048x1280, .f32⟩
  | 37 => ⟨S_, .f32⟩
  | 38 => ⟨S16x2048x1280, .f32⟩
  | 39 => ⟨S16x2048x1280, .f32⟩
  | 40 => ⟨S_, .f32⟩
  | 41 => ⟨S16x2048x1280, .f32⟩
  | 42 => ⟨S16x2048x1280, .f32⟩
  | 43 => ⟨S1280, .f32⟩
  | 44 => ⟨S_, .f32⟩
  | 45 => ⟨S1280, .f32⟩
  | 46 => ⟨S1280, .f32⟩
  | 47 => ⟨S1280, .f32⟩
  | 48 => ⟨S1280, .f32⟩
  | 49 => ⟨S1280, .i1⟩
  | 50 => ⟨S1280, .f32⟩
  | 51 => ⟨S1280, .f32⟩
  | 52 => ⟨S1280, .f32⟩
  | 53 => ⟨S1280, .f32⟩
  | 54 => ⟨S1280, .f32⟩
  | 55 => ⟨S1280, .f32⟩
  | 56 => ⟨S1280, .f32⟩
  | 57 => ⟨S1280, .f32⟩
  | 58 => ⟨S1x1x1280, .f32⟩
  | 59 => ⟨S16x2048x1280, .f32⟩
  | 60 => ⟨S16x2048x1280, .f32⟩
  | 61 => ⟨S16x2048x1280, .f32⟩
  | 62 => ⟨S_, .f32⟩
  | 63 => ⟨S16x2048x1280, .f32⟩
  | 64 => ⟨S16x2048x1280, .f32⟩
  | 65 => ⟨S16x2048x1280, .f32⟩
  | 66 => ⟨S16x2048x1280, .f32⟩
  | 67 => ⟨S16x2048x1280, .f32⟩
  | 68 => ⟨S16x2048x1280, .f32⟩
  | 69 => ⟨S16x2048x1280, .f32⟩
  | 70 => ⟨S_, .f32⟩
  | 71 => ⟨S16x1280, .f32⟩
  | 72 => ⟨S2048x16x1280, .f32⟩
  | 73 => ⟨S2048x16x1280, .f32⟩
  | 74 => ⟨S_, .f32⟩
  | 75 => ⟨S2048x16x1280, .f32⟩
  | 76 => ⟨S_, .i32⟩
  | 77 => ⟨S2048x16x1280, .f32⟩
  | 78 => ⟨S2048x16x1280, .f32⟩
  | 79 => ⟨S_, .i32⟩
  | 80 => ⟨S16x1280, .f32⟩
  | 81 => ⟨S2048x16x1280, .f32⟩
  | 82 => ⟨S_, .i32⟩
  | 83 => ⟨S_, .i1⟩
  | 84 => ⟨S_, .i32⟩
  | 85 => ⟨S_, .i32⟩
  | 86 => ⟨S1x16x1280, .f32⟩
  | 87 => ⟨S16x1280, .f32⟩
  | 88 => ⟨S_, .i32⟩
  | 89 => ⟨S_, .i32⟩
  | 90 => ⟨S1x16x1280, .f32⟩
  | 91 => ⟨S16x1280, .f32⟩
  | 92 => ⟨S16x1280, .f32⟩
  | 93 => ⟨S16x1280, .f32⟩
  | 94 => ⟨S1x16x1280, .f32⟩
  | 95 => ⟨S_, .i32⟩
  | 96 => ⟨S_, .i32⟩
  | 97 => ⟨S2048x16x1280, .f32⟩
  | 98 => ⟨S_, .i32⟩
  | 99 => ⟨S_, .i32⟩
  | 100 => ⟨S16x2048x1280, .f32⟩
  | 101 => ⟨S16x2048x1280, .f32⟩
  | 102 => ⟨S16x2048x1280, .f32⟩
  | 103 => ⟨S_, .f32⟩
  | 104 => ⟨S16x2048x1280, .f32⟩
  | 105 => ⟨S16x2048x1280, .f32⟩
  | 106 => ⟨S_, .f32⟩
  | 107 => ⟨S16x2048x1280, .f32⟩
  | 108 => ⟨S16x2048x1280, .f32⟩
  | 109 => ⟨S16x2048x1280, .f32⟩
  | 110 => ⟨S16x2048x1280, .f32⟩
  | 111 => ⟨S1280x1024, .f32⟩
  | 112 => ⟨S16x2048x1024, .f32⟩
  | 113 => ⟨S1x1x1024, .f32⟩
  | 114 => ⟨S1024, .f32⟩
  | 115 => ⟨S1x1x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S_, .f32⟩
  | 121 => ⟨S16x2048x1024, .f32⟩
  | 122 => ⟨S16x2048x1024, .f32⟩
  | 123 => ⟨S_, .f32⟩
  | 124 => ⟨S16x2048x1024, .f32⟩
  | 125 => ⟨S16x2048x1024, .f32⟩
  | 126 => ⟨S1x1x1024, .f32⟩
  | 127 => ⟨S1024, .f32⟩
  | _ => ⟨S16x2048x1024, .f32⟩

abbrev hbmTy0_2 (i : Nat) : BufTy := match i % 128 with
  | 0 => ⟨S1x1x1024, .f32⟩
  | 1 => ⟨S16x2048x1024, .f32⟩
  | 2 => ⟨S16x2048x1024, .f32⟩
  | 3 => ⟨S16x2048x1024, .f32⟩
  | 4 => ⟨S16x2048x1024, .f32⟩
  | 5 => ⟨S_, .f32⟩
  | 6 => ⟨S16x2048x1024, .f32⟩
  | 7 => ⟨S16x2048x1024, .f32⟩
  | 8 => ⟨S_, .f32⟩
  | 9 => ⟨S16x2048x1024, .f32⟩
  | 10 => ⟨S16x2048x1024, .f32⟩
  | 11 => ⟨S16x2048x1024, .f32⟩
  | 12 => ⟨S16x2048x1024, .f32⟩
  | 13 => ⟨S16x2048x1024, .f32⟩
  | 14 => ⟨S16x1x1024, .f32⟩
  | 15 => ⟨S1024x1024, .f32⟩
  | 16 => ⟨S16x2048x1024, .f32⟩
  | 17 => ⟨S16x2048x1024, .f32⟩
  | 18 => ⟨S16x2048x1024, .f32⟩
  | 19 => ⟨S16x2048x1024, .f32⟩
  | 20 => ⟨S16x2048x1024, .f32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S_, .f32⟩
  | 28 => ⟨S16x2048x1, .f32⟩
  | 29 => ⟨S16x2048x1, .f32⟩
  | 30 => ⟨S16x2048x1, .f32⟩
  | 31 => ⟨S16x2048x1024, .f32⟩
  | 32 => ⟨S16x2048x1024, .f32⟩
  | 33 => ⟨S1x1x1024, .f32⟩
  | 34 => ⟨S16x2048x1024, .f32⟩
  | 35 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_3 : Ref sig .tc := ⟨.hbm, 101, rfl⟩
abbrev main_call2_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_4 : Ref sig .tc := ⟨.hbm, 148, rfl⟩
abbrev main_v114 : Ref sig .tc := ⟨.hbm, 149, rfl⟩
abbrev main_v115 : Ref sig .tc := ⟨.hbm, 150, rfl⟩
abbrev main_cst_5 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_6 : Ref sig .tc := ⟨.hbm, 162, rfl⟩
abbrev main_v126 : Ref sig .tc := ⟨.hbm, 163, rfl⟩
abbrev main_v127 : Ref sig .tc := ⟨.hbm, 164, rfl⟩
abbrev main_cst_7 : Ref sig .tc := ⟨.hbm, 165, rfl⟩
abbrev main_v128 : Ref sig .tc := ⟨.hbm, 166, rfl⟩
abbrev main_v129 : Ref sig .tc := ⟨.hbm, 167, rfl⟩
abbrev main_cst_8 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_v6 : Ref sig .tc := ⟨.hbm, 179, rfl⟩
abbrev main_call3_v7 : Ref sig .tc := ⟨.hbm, 180, rfl⟩
abbrev main_call3_v8 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_9 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_10 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_11 : Ref sig .tc := ⟨.hbm, 202, rfl⟩
abbrev main_v148 : Ref sig .tc := ⟨.hbm, 203, rfl⟩
abbrev main_c_12 : Ref sig .tc := ⟨.hbm, 204, rfl⟩
abbrev main_v149_0 : Ref sig .tc := ⟨.hbm, 205, rfl⟩
abbrev main_v149_1 : Ref sig .tc := ⟨.hbm, 206, rfl⟩
abbrev main_v149_2 : Ref sig .tc := ⟨.hbm, 207, rfl⟩
abbrev main_v149_3 : Ref sig .tc := ⟨.hbm, 208, rfl⟩
abbrev main_v149_4 : Ref sig .tc := ⟨.hbm, 209, rfl⟩
abbrev main_while0c_c_24 : Ref sig .tc := ⟨.hbm, 210, rfl⟩
abbrev main_while0c_v199 : Ref sig .tc := ⟨.hbm, 211, rfl⟩
abbrev main_while0b_call4_c : Ref sig .tc := ⟨.hbm, 212, rfl⟩
abbrev main_while0b_call4_c_0 : Ref sig .tc := ⟨.hbm, 213, rfl⟩
abbrev main_while0b_call4_v0 : Ref sig .tc := ⟨.hbm, 214, rfl⟩
abbrev main_while0b_v199 : Ref sig .tc := ⟨.hbm, 215, rfl⟩
abbrev main_while0b_call5_c : Ref sig .tc := ⟨.hbm, 216, rfl⟩
abbrev main_while0b_call5_c_0 : Ref sig .tc := ⟨.hbm, 217, rfl⟩
abbrev main_while0b_call5_v0 : Ref sig .tc := ⟨.hbm, 218, rfl⟩
abbrev main_while0b_v200 : Ref sig .tc := ⟨.hbm, 219, rfl⟩
abbrev main_while0b_v201 : Ref sig .tc := ⟨.hbm, 220, rfl⟩
abbrev main_while0b_v202 : Ref sig .tc := ⟨.hbm, 221, rfl⟩
abbrev main_while0b_call6_v0 : Ref sig .tc := ⟨.hbm, 222, rfl⟩
abbrev main_while0b_call6_c : Ref sig .tc := ⟨.hbm, 223, rfl⟩
abbrev main_while0b_call6_c_0 : Ref sig .tc := ⟨.hbm, 224, rfl⟩
abbrev main_while0b_v203 : Ref sig .tc := ⟨.hbm, 225, rfl⟩
abbrev main_while0b_c_24 : Ref sig .tc := ⟨.hbm, 226, rfl⟩
abbrev main_while0b_v204 : Ref sig .tc := ⟨.hbm, 227, rfl⟩
abbrev main_v150 : Ref sig .tc := ⟨.hbm, 228, rfl⟩
abbrev main_call7_v0 : Ref sig .tc := ⟨.hbm, 229, rfl⟩
abbrev main_call7_v1 : Ref sig .tc := ⟨.hbm, 230, rfl⟩
abbrev main_call7_cst : Ref sig .tc := ⟨.hbm, 231, rfl⟩
abbrev main_call7_v2 : Ref sig .tc := ⟨.hbm, 232, rfl⟩
abbrev main_call7_v3 : Ref sig .tc := ⟨.hbm, 233, rfl⟩
abbrev main_call7_cst_0 : Ref sig .tc := ⟨.hbm, 234, rfl⟩
abbrev main_call7_v4 : Ref sig .tc := ⟨.hbm, 235, rfl⟩
abbrev main_call7_v5 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_13 : Ref sig .tc := ⟨.hbm, 248, rfl⟩
abbrev main_v162 : Ref sig .tc := ⟨.hbm, 249, rfl⟩
abbrev main_v163 : Ref sig .tc := ⟨.hbm, 250, rfl⟩
abbrev main_cst_14 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_cst_15 : Ref sig .tc := ⟨.hbm, 261, rfl⟩
abbrev main_v173 : Ref sig .tc := ⟨.hbm, 262, rfl⟩
abbrev main_v174 : Ref sig .tc := ⟨.hbm, 263, rfl⟩
abbrev main_cst_16 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_cst_17 : Ref sig .tc := ⟨.hbm, 277, rfl⟩
abbrev main_v187 : Ref sig .tc := ⟨.hbm, 278, rfl⟩
abbrev main_v188 : Ref sig .tc := ⟨.hbm, 279, rfl⟩
abbrev main_cst_18 : Ref sig .tc := ⟨.hbm, 280, rfl⟩
abbrev main_v189 : Ref sig .tc := ⟨.hbm, 281, rfl⟩
abbrev main_v190 : Ref sig .tc := ⟨.hbm, 282, rfl⟩
abbrev main_cst_19 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩

abbrev nD : Nat := 1
abbrev τ : Topo := Topo.v7x

variable {F : FTy → Type} [FloatOps F]

abbrev main_while0_count : Scf.Loop 32 := ⟨0#32, 2048#32, 1#32⟩
-- ==== Modulation.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x3072, .f32⟩
  | .hbm, ⟨13, _⟩ => ⟨S16x3072, .f32⟩
  | .hbm, ⟨14, _⟩ => ⟨S3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Mem.lean ====
/-
  Memory rules of the block kernel's run, stated on whole memrefs by their CONTENTS: what is held of a memref is the function it reads
  (`hold`), a load at a rectangle gives that function at the rectangle's indices (`ld`), and a store puts its payload there (`put`).
-/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.ValueIdxCoords

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Contents of a memref as a function of the index -/

section Put

variable {α : Type} {s : Shape}

open Classical in
/-- The contents `d` with the payload `w` put at the rectangle `r`. -/
def put (d : s.Idx → α) (r : Rect s) (w : r.shape.Idx → α) : s.Idx → α :=
  fun y => if h : ∃ x, r.emb x = y then w h.choose else d y

/-- The contents `d` at the rectangle `r`. -/
def ld (d : s.Idx → α) (r : Rect s) : r.shape.Idx → α := fun x => d (r.emb x)

/-- At an index of the rectangle, the payload. -/
theorem put_emb (d : s.Idx → α) (r : Rect s) (w : r.shape.Idx → α) (x : r.shape.Idx) : put d r w (r.emb x) = w x := by
  unfold put
  have h : ∃ x', r.emb x' = r.emb x := ⟨x, rfl⟩
  rw [dif_pos h]
  exact congrArg w (r.emb.injective h.choose_spec)

/-- At an index outside it, the contents before. -/
theorem put_miss (d : s.Idx → α) (r : Rect s) (w : r.shape.Idx → α) (y : s.Idx) (h : ∀ x, r.emb x ≠ y) : put d r w y = d y := by
  unfold put
  rw [dif_neg (fun ⟨x, hx⟩ => h x hx)]

variable {off size : Fin s.rank → ℕ} {inb : ∀ a, off a + size a ≤ s.size a}

/-- A payload read back at an index of its rectangle, by coordinates. -/
theorem put_hit (d : s.Idx → α) (w : (Rect.unit (s := s) off size inb).shape.Idx → α) (y : s.Idx) (x : (Rect.unit (s := s) off size inb).shape.Idx)
    (h : ∀ a, (y a).val = off a + (x a).val) : put d (Rect.unit (s := s) off size inb) w y = w x := by
  have e : (Rect.unit (s := s) off size inb).emb x = y := funext fun a => Fin.ext (by rw [Rect.emb_apply, h a]; exact congrArg (off a + ·) (Nat.one_mul _))
  rw [← e, put_emb]

/-- The contents before at an index which leaves the rectangle along some axis. -/
theorem put_out (d : s.Idx → α) (w : (Rect.unit (s := s) off size inb).shape.Idx → α) (y : s.Idx) (a : Fin s.rank)
    (h : (y a).val < off a ∨ off a + size a ≤ (y a).val) : put d (Rect.unit (s := s) off size inb) w y = d y := by
  refine put_miss d _ w y fun x e => ?_
  have e1 : (y a).val = off a + (x a).val := by rw [← e, Rect.emb_apply]; exact congrArg (off a + ·) (Nat.one_mul _)
  have e2 : (x a).val < size a := (x a).isLt
  omega

/-- The contents at an index of the rectangle, by coordinates. -/
theorem ld_at (d : s.Idx → α) (y : s.Idx) (x : (Rect.unit (s := s) off size inb).shape.Idx) (h : ∀ a, (y a).val = off a + (x a).val) :
    ld d (Rect.unit (s := s) off size inb) x = d y := by
  have e : (Rect.unit (s := s) off size inb).emb x = y := funext fun a => Fin.ext (by rw [Rect.emb_apply, h a]; exact congrArg (off a + ·) (Nat.one_mul _))
  show d _ = d _
  rw [e]

end Put

section PutAt

variable {α : Type}

/-- A statement about the three axes. -/
theorem ax3 {p : Fin 3 → Prop} (h0 : p 0) (h1 : p 1) (h2 : p 2) : ∀ a, p a := fun a => by
  match a with
  | 0 => exact h0
  | 1 => exact h1
  | 2 => exact h2

/-- A statement about the two axes. -/
theorem ax2 {p : Fin 2 → Prop} (h0 : p 0) (h1 : p 1) : ∀ a, p a := fun a => by
  match a with
  | 0 => exact h0
  | 1 => exact h1

variable {n0 n1 n2 m0 m1 m2 a0 a1 a2 : ℕ}

/-- A payload of rank three read back inside its rectangle. -/
theorem put3_hit {off : Fin 3 → ℕ} {inb : ∀ a, off a + (![m0, m1, m2] : Fin 3 → ℕ) a ≤ (⟨3, ![n0, n1, n2]⟩ : Shape).size a} (ho : off = ![a0, a1, a2])
    (d : (⟨3, ![n0, n1, n2]⟩ : Shape).Idx → α) (w : (⟨3, ![m0, m1, m2]⟩ : Shape).Idx → α) (i0 : Fin n0) (i1 : Fin n1) (i2 : Fin n2)
    (j0 : Fin m0) (j1 : Fin m1) (j2 : Fin m2) (h0 : i0.val = a0 + j0.val) (h1 : i1.val = a1 + j1.val) (h2 : i2.val = a2 + j2.val) :
    put d (Rect.unit (s := ⟨3, ![n0, n1, n2]⟩) off ![m0, m1, m2] inb) w (ix3 i0 i1 i2) = w (ix3 j0 j1 j2) := by
  subst ho
  exact put_hit d w _ (ix3 j0 j1 j2) (ax3 h0 h1 h2)

/-- The contents before, outside a rectangle of rank three. -/
theorem put3_out {off : Fin 3 → ℕ} {inb : ∀ a, off a + (![m0, m1, m2] : Fin 3 → ℕ) a ≤ (⟨3, ![n0, n1, n2]⟩ : Shape).size a} (ho : off = ![a0, a1, a2])
    (d : (⟨3, ![n0, n1, n2]⟩ : Shape).Idx → α) (w : (⟨3, ![m0, m1, m2]⟩ : Shape).Idx → α) (i0 : Fin n0) (i1 : Fin n1) (i2 : Fin n2)
    (h : (i0.val < a0 ∨ a0 + m0 ≤ i0.val) ∨ (i1.val < a1 ∨ a1 + m1 ≤ i1.val)) :
    put d (Rect.unit (s := ⟨3, ![n0, n1, n2]⟩) off ![m0, m1, m2] inb) w (ix3 i0 i1 i2) = d (ix3 i0 i1 i2) := by
  subst ho
  rcases h with h | h
  · exact put_out d w _ 0 h
  · exact put_out d w _ 1 h

/-- A load of rank three, by coordinates. -/
theorem ld3 {off : Fin 3 → ℕ} {inb : ∀ a, off a + (![m0, m1, m2] : Fin 3 → ℕ) a ≤ (⟨3, ![n0, n1, n2]⟩ : Shape).size a} (ho : off = ![a0, a1, a2])
    (d : (⟨3, ![n0, n1, n2]⟩ : Shape).Idx → α) (i0 : Fin n0) (i1 : Fin n1) (i2 : Fin n2)
    (j0 : Fin m0) (j1 : Fin m1) (j2 : Fin m2) (h0 : i0.val = a0 + j0.val) (h1 : i1.val = a1 + j1.val) (h2 : i2.val = a2 + j2.val) :
    ld d (Rect.unit (s := ⟨3, ![n0, n1, n2]⟩) off ![m0, m1, m2] inb) (ix3 j0 j1 j2) = d (ix3 i0 i1 i2) := by
  subst ho
  exact ld_at d _ (ix3 j0 j1 j2) (ax3 h0 h1 h2)

/-- A payload of rank two read back inside its rectangle. -/
theorem put2_hit {inb : ∀ a, (![a0, a1] : Fin 2 → ℕ) a + (![m0, m1] : Fin 2 → ℕ) a ≤ (⟨2, ![n0, n1]⟩ : Shape).size a}
    (d : (⟨2, ![n0, n1]⟩ : Shape).Idx → α) (w : (⟨2, ![m0, m1]⟩ : Shape).Idx → α) (i0 : Fin n0) (i1 : Fin n1)
    (j0 : Fin m0) (j1 : Fin m1) (h0 : i0.val = a0 + j0.val) (h1 : i1.val = a1 + j1.val) :
    put d (Rect.unit (s := ⟨2, ![n0, n1]⟩) ![a0, a1] ![m0, m1] inb) w (ix2 i0 i1) = w (ix2 j0 j1) :=
  put_hit d w _ (ix2 j0 j1) (ax2 h0 h1)

/-- The contents before, outside a rectangle of rank two. -/
theorem put2_out {inb : ∀ a, (![a0, a1] : Fin 2 → ℕ) a + (![m0, m1] : Fin 2 → ℕ) a ≤ (⟨2, ![n0, n1]⟩ : Shape).size a}
    (d : (⟨2, ![n0, n1]⟩ : Shape).Idx → α) (w : (⟨2, ![m0, m1]⟩ : Shape).Idx → α) (i0 : Fin n0) (i1 : Fin n1)
    (h : i0.val < a0 ∨ a0 + m0 ≤ i0.val) :
    put d (Rect.unit (s := ⟨2, ![n0, n1]⟩) ![a0, a1] ![m0, m1] inb) w (ix2 i0 i1) = d (ix2 i0 i1) :=
  put_out d w _ 0 h

/-- A load of rank two, by coordinates. -/
theorem ld2 {inb : ∀ a, (![a0, a1] : Fin 2 → ℕ) a + (![m0, m1] : Fin 2 → ℕ) a ≤ (⟨2, ![n0, n1]⟩ : Shape).size a}
    (d : (⟨2, ![n0, n1]⟩ : Shape).Idx → α) (i0 : Fin n0) (i1 : Fin n1)
    (j0 : Fin m0) (j1 : Fin m1) (h0 : i0.val = a0 + j0.val) (h1 : i1.val = a1 + j1.val) :
    ld d (Rect.unit (s := ⟨2, ![n0, n1]⟩) ![a0, a1] ![m0, m1] inb) (ix2 j0 j1) = d (ix2 i0 i1) :=
  ld_at d _ (ix2 j0 j1) (ax2 h0 h1)

end PutAt

/-! ## The rules -/

variable {F : FTy → Type} [FloatOps F]

local notation "𝕄" => MT nD τ sig Unit (Elt F) ℕ (UR sig nD τ) ℕ

/-- Core `c` holds the whole of the memref `m` at the contents `d`. -/
def hold (c : Dev nD) {s : Shape} {e : EltTy} (m : Memref sig .tc .vmem s e) (d : s.Idx → Elt F e) : sProp 𝕄 :=
  owns (c : Thread nD τ) m fullShare d

/-- The weakest precondition at which every program of the body is run. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A load at a rectangle reads the contents there. -/
theorem w_load (c : Dev nD) {α : Type} {s : Shape} {e : EltTy} {m : Memref sig .tc .vmem s e} {r : Rect s}
    {hl : m.view.LoadsAt r.toLoadRect} {k : (r.shape.Idx → Elt F e) → Prog (TpuEff nD τ sig (Elt F) Λ₀ .tc) α} {d : s.Idx → Elt F e}
    {Q : α → sProp 𝕄} :
    hold c m d ⊢ iprop((hold c m d -∗ W c (k (ld d r)) Q) -∗ W c (Prog.lift (.load m r.toLoadRect hl) >>= k) Q) := by
  unfold hold owns
  iintro ⟨%f, %hf, H⟩ HK
  rw [show (Prog.lift (.load m r.toLoadRect hl) >>= k : Prog (TpuEff nD τ sig (Elt F) Λ₀ .tc) α) = .op (.load m r.toLoadRect hl) k from rfl]
  iapply (wp_load Variants.none (c : Thread nD τ) none Set.univ (m := m) (View.setOn_subset_set _ _)) $$ H
  iintro H
  have e : m.view.readAt (Elt F) r.toLoadRect f = ld d r := by rw [← hf]; rfl
  rw [e]
  iapply HK
  iexists f
  isplitr
  · ipureintro; exact hf
  · iexact H

/-- A store at a rectangle puts its payload there. -/
theorem w_store (c : Dev nD) {α : Type} {s : Shape} {e : EltTy} {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {d : s.Idx → Elt F e} {Q : α → sProp 𝕄} :
    hold c m d ⊢ iprop((hold c m (put d r w) -∗ W c (k ⟨⟩) Q) -∗ W c (Prog.lift (.store m r w Finset.univ hx hm) >>= k) Q) := by
  unfold hold owns
  iintro ⟨%f, %hf, H⟩ HK
  rw [show (Prog.lift (.store m r w Finset.univ hx hm) >>= k : Prog (TpuEff nD τ sig (Elt F) Λ₀ .tc) α) = .op (.store m r w Finset.univ hx hm) k from rfl]
  iapply (wp_store Variants.none (c : Thread nD τ) none Set.univ (m := m) (r := r) (Mk := Finset.univ) (View.set_slice_subset _ _)) $$ H
  iintro H
  iapply HK
  iexists ((m.access r).write (Elt F) f w Finset.univ)
  isplitr
  · ipureintro
    show m.view.read (Elt F) ((m.access r).write (Elt F) f w Finset.univ) = put d r w
    funext y
    by_cases h : ∃ x, r.emb x = y
    · obtain ⟨x, rfl⟩ := h
      rw [put_emb]
      exact View.read_slice_write_emb (v := m.view) r f w (Finset.mem_univ x)
    · rw [put_miss _ _ _ _ (fun x hx => h ⟨x, hx⟩), ← hf]
      exact View.read_slice_write_of_not_mem (v := m.view) r f w _ (fun hy => by
        obtain ⟨x, -, hx⟩ := Finset.mem_map.mp hy
        exact h ⟨x, hx⟩)
  · iexact H

/-- The run of a part and then the rest. -/
theorem w_bind (c : Dev nD) {α β : Type} {p : Prog (TpuEff nD τ sig (Elt F) Λ₀ .tc) β} {k : β → Prog (TpuEff nD τ sig (Elt F) Λ₀ .tc) α}
    {Q : α → sProp 𝕄} {R : β → sProp 𝕄} :
    W c p R ⊢ iprop((∀ v, R v -∗ W c (k v) Q) -∗ W c (p >>= k) Q) := by
  unfold W
  rw [wp_bind]
  exact wp_wand frame _ Set.univ

/-- A program which returns. -/
theorem w_pure {β : Type} (c : Dev nD) (v : β) (Q : β → sProp 𝕄) : Q v ⊢ W (F := F) c (pure v) Q := by
  show _ ⊢ wp _ _ _ (Prog.ret v) _
  rw [wp_ret]
  exact fupd_intro

/-- A part whose value and after-state are known, and what follows it. -/
theorem w_part {α β : Type} (c : Dev nD) {p : Prog (TpuEff nD τ sig (Elt F) Λ₀ .tc) β} {k : β → Prog (TpuEff nD τ sig (Elt F) Λ₀ .tc) α} {v : β}
    {P R : sProp 𝕄} {Q : α → sProp 𝕄} (h : P ⊢ W (F := F) c p (fun u => iprop(⌜u = v⌝ ∗ R))) :
    P ⊢ iprop((R -∗ W (F := F) c (k v) Q) -∗ W (F := F) c (p >>= k) Q) := by
  iintro HP HK
  ihave H := h $$ HP
  iapply (w_bind (F := F) c (R := fun u => iprop(⌜u = v⌝ ∗ R))) $$ H
  iintro %u
  iintro ⟨%hu, HR⟩
  rw [hu]
  iapply HK $$ HR

end Cert.KernelIdeal.Hand
-- ==== Proof.Spec.lean ====
/-
  What one grid point of the block kernel computes, as functions of its input blocks (`Ins`) and of what is carried from the point before
  (`St`: the last 32 rows of the four column blocks of `u`, the last 48 rows of the recurrent branch's convolution input, the state of the
  recurrence), in the terms of the kernel's own payloads.
-/
module

public import proofs.«01_k».proof.Proof.Mem
public import Idealize.ShloMosaic.Lib.ValueIdxCoords

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- The input blocks of a grid point. -/
structure Ins (F : FTy → Type) where
  x1 : Vec F S16x32x1024 .f32
  x2 : Vec F S16x1x1024 .f32
  x3 : Vec F S16x1x1024 .f32
  x4 : Vec F S16x1x1024 .f32
  x5 : Vec F S1x1024 .f32
  x6 : Vec F S1x1024 .f32
  x7 : Vec F S256x256 .bf16
  x8 : Vec F S4x1024x1024 .bf16
  x9 : Vec F S4x3x256 .f32
  x10 : Vec F S4x1x256 .f32
  x11 : Vec F S1024x1024 .bf16
  x12 : Vec F S1024x1280 .bf16
  x13 : Vec F S4x1280 .f32
  x14 : Vec F S1x1280 .f32
  x15 : Vec F S5x512x512 .bf16
  x16 : Vec F S5x1x256 .f32
  x17 : Vec F S5x1x256 .f32
  x18 : Vec F S5x1x256 .f32
  x19 : Vec F S5x1024x256 .bf16
  x20 : Vec F S1280x1024 .bf16
  x21 : Vec F S1024x2048 .bf16
  x22 : Vec F S2x1024 .f32
  x23 : Vec F S1024x1024 .bf16

/-- What is carried from one grid point to the next. -/
structure St (F : FTy → Type) where
  u : Vec F S4x32x256 .f32
  vz : Vec F S48x1280 .f32
  h : Vec F S5x16x256 .f32

/-- Two blocks of 256 rows, one above the other. -/
def two {e : EltTy} (a b : Vec F S256x1024 e) : Vec F S512x1024 e :=
  fun y => if h : (y 0).val < 256 then a (ix2 ⟨(y 0).val, h⟩ (y 1)) else b (ix2 ⟨(y 0).val - 256, by have := idx2_lt0 y; omega⟩ (y 1))

/-- The permutation block as loaded. -/
def perm (X : Ins F) : FVec F S256x256 .bf16 := k0_pay84 (ld X.x7 (Rect.unit (s := S256x256) ![0, 0] S256x256.size inb_S256x256_S256x256_0_0))
/-- The scale of the first normalisation as loaded. -/
def gn (X : Ins F) : FVec F S1x1x1024 .f32 := k0_pay85 (ld X.x5 (Rect.unit (s := S1x1024) ![0, 0] S1x1024.size inb_S1x1024_S1x1024_0_0))
/-- One plus the modulation's scale. -/
def sc1 (X : Ins F) : FVec F S16x1x1024 .f32 := k0_pay86 (ld X.x3 (Rect.unit (s := S16x1x1024) ![0, 0, 0] S16x1x1024.size inb_S16x1x1024_S16x1x1024_0_0_0))
/-- The first half of the modulated rows in time-major order. -/
def hbA (X : Ins F) : FVec F S256x1024 .bf16 :=
  k0_pay87 (ld X.x7 (Rect.unit (s := S256x256) ![0, 0] S256x256.size inb_S256x256_S256x256_0_0))
    (ld X.x5 (Rect.unit (s := S1x1024) ![0, 0] S1x1024.size inb_S1x1024_S1x1024_0_0))
    (ld X.x3 (Rect.unit (s := S16x1x1024) ![0, 0, 0] S16x1x1024.size inb_S16x1x1024_S16x1x1024_0_0_0))
    (ld X.x1 (Rect.unit (s := S16x32x1024) ![0, 0, 0] S16x16x1024.size inb_S16x32x1024_S16x16x1024_0_0_0))
    (ld X.x2 (Rect.unit (s := S16x1x1024) ![0, 0, 0] S16x1x1024.size inb_S16x1x1024_S16x1x1024_0_0_0))
/-- The modulated rows in time-major order. -/
def htb (X : Ins F) : Vec F S512x1024 .bf16 :=
  two (k0_pay88 (hbA X)) (k0_pay89 (perm X) (gn X) (sc1 X)
    (ld X.x1 (Rect.unit (s := S16x32x1024) ![0, 16, 0] S16x16x1024.size inb_S16x32x1024_S16x16x1024_0_16_0))
    (ld X.x2 (Rect.unit (s := S16x1x1024) ![0, 0, 0] S16x1x1024.size inb_S16x1x1024_S16x1x1024_0_0_0)))
/-- The same, as a whole load reads it. -/
def htbL (X : Ins F) : Vec F S512x1024 .bf16 := ld (htb X) (Rect.unit (s := S512x1024) ![0, 0] S512x1024.size inb_S512x1024_S512x1024_0_0)

/-- The whole of the modulated rows' buffer. -/
abbrev rH : Rect S512x1024 := Rect.unit (s := S512x1024) ![0, 0] S512x1024.size inb_S512x1024_S512x1024_0_0
/-- The modulated rows' buffer as a whole load reads it. -/
abbrev ldH (H : Vec F S512x1024 .bf16) : Vec F S512x1024 .bf16 := ld H rH

/-! ### The short-convolution branch -/

/-- Trip `k`'s block of the packed weights. -/
abbrev r8 (k : Fin k0_t1_loop.trips) : Rect S4x1024x1024 := Rect.unit (s := S4x1024x1024) (k0_off1 k) S1x1024x1024.size (k0_off1_inb k)
/-- Trip `k`'s rows of this point in the convolution's buffer. -/
abbrev r2 (k : Fin k0_t1_loop.trips) : Rect S4x544x256 := Rect.unit (s := S4x544x256) (k0_off2 k) S1x512x256.size (k0_off2_inb k)
/-- Trip `k`'s taps. -/
abbrev r9 (k : Fin k0_t1_loop.trips) : Rect S4x3x256 := Rect.unit (s := S4x3x256) (k0_off3 k) S1x3x256.size (k0_off3_inb k)
/-- Trip `k`'s bias. -/
abbrev r10 (k : Fin k0_t1_loop.trips) : Rect S4x1x256 := Rect.unit (s := S4x1x256) (k0_off4 k) S1x1x256.size (k0_off4_inb k)
/-- Trip `k`'s rows two steps back. -/
abbrev r5 (k : Fin k0_t1_loop.trips) : Rect S4x544x256 := Rect.unit (s := S4x544x256) (k0_off5 k) S1x512x256.size (k0_off5_inb k)
/-- Trip `k`'s rows one step back. -/
abbrev r6 (k : Fin k0_t1_loop.trips) : Rect S4x544x256 := Rect.unit (s := S4x544x256) (k0_off6 k) S1x512x256.size (k0_off6_inb k)
/-- Trip `k`'s carried rows. -/
abbrev r7 (k : Fin k0_t1_loop.trips) : Rect S4x544x256 := Rect.unit (s := S4x544x256) (k0_off7 k) S1x32x256.size (k0_off7_inb k)
/-- Trip `k`'s block of the branch. -/
abbrev r27 (k : Fin k0_t1_loop.trips) : Rect S4x512x256 := Rect.unit (s := S4x512x256) (k0_off8 k) S1x512x256.size (k0_off8_inb k)

/-- The trips are four. -/
theorem trips1 : k0_t1_loop.trips = 4 := by decide
/-- The trip of a column block. -/
def t1 (j : Fin 4) : Fin k0_t1_loop.trips := ⟨j.val, by rw [trips1]; exact j.isLt⟩
/-- The column block of a trip. -/
def n1 (k : Fin k0_t1_loop.trips) : Fin 4 := ⟨k.val, by rw [← trips1]; exact k.isLt⟩

/-- The rows of carried values followed by those of this point, from row `16 * o` on. -/
def win (u : Vec F S4x32x256 .f32) (p : Vec F S1x512x256 .f32) (k : Fin 4) (o : ℕ) (ho : o < 2) : Vec F S1x512x256 .f32 :=
  fun y => if h : (y 1).val + 16 * o < 32 then u (ix3 k ⟨(y 1).val + 16 * o, h⟩ (y 2))
    else p (ix3 0 ⟨(y 1).val + 16 * o - 32, by have h1 : (y 1).val < 512 := (y 1).isLt; omega⟩ (y 2))
/-- Trip `k`'s convolution. -/
def conv3 (X : Ins F) (s : St F) (k : Fin k0_t1_loop.trips) : FVec F S512x256 .f32 :=
  k0_pay7 (ldH (htb X)) (ld X.x8 (r8 k)) (ld X.x9 (r9 k)) (ld X.x10 (r10 k)) (win s.u (k0_pay6 (ldH (htb X)) (ld X.x8 (r8 k))) (n1 k) 0 (by decide))
    (win s.u (k0_pay6 (ldH (htb X)) (ld X.x8 (r8 k))) (n1 k) 1 (by decide))
/-- Trip `k`'s block of the short-convolution branch. -/
def ss (X : Ins F) (s : St F) (k : Fin k0_t1_loop.trips) : FVec F S1x512x256 .bf16 :=
  k0_pay91 (k0_pay3 (ldH (htb X)) (ld X.x8 (r8 k))) (k0_pay4 (ldH (htb X)) (ld X.x8 (r8 k))) (conv3 X s k)
/-- What trip `k` leaves to be carried. -/
def nu (X : Ins F) (k : Fin k0_t1_loop.trips) : FVec F S1x32x256 .f32 := k0_pay90 (k0_pay8 (ldH (htb X)) (ld X.x8 (r8 k)))
/-- What the branch leaves to be carried. -/
def nextU (X : Ins F) : Vec F S4x32x256 .f32 := fun y => nu X (t1 (y 0)) (ix3 0 (y 1) (y 2))
/-- The branch's blocks, one after another. -/
def sAll (X : Ins F) (s : St F) : Vec F S4x512x256 .bf16 := fun y => ss X s (t1 (y 0)) (ix3 0 (y 1) (y 2))
/-- Block `j` of the branch's buffer. -/
abbrev r27s (j : ℕ) (inb : ∀ a, (![j, 0, 0] : Fin 3 → ℕ) a + S1x512x256.size a ≤ S4x512x256.size a) : Rect S4x512x256 := Rect.unit (s := S4x512x256) ![j, 0, 0] S1x512x256.size inb
/-- The short-convolution branch's projection. -/
def ya (X : Ins F) (s : St F) : FVec F S512x1024 .f32 :=
  k0_pay94 (k0_pay92 (ld (sAll X s) (r27s 0 inb_S4x512x256_S1x512x256_0_0_0))) (k0_pay93 (ld (sAll X s) (r27s 1 inb_S4x512x256_S1x512x256_1_0_0)))
    (ld (sAll X s) (r27s 2 inb_S4x512x256_S1x512x256_2_0_0)) (ld (sAll X s) (r27s 3 inb_S4x512x256_S1x512x256_3_0_0))
    (ld X.x11 (Rect.unit (s := S1024x1024) ![0, 0] S1024x1024.size inb_S1024x1024_S1024x1024_0_0))

/-! ### The recurrent branch's convolution -/

/-- The whole of the recurrent branch's value weights. -/
abbrev r12 : Rect S1024x1280 := Rect.unit (s := S1024x1280) ![0, 0] S1024x1280.size inb_S1024x1280_S1024x1280_0_0
/-- The recurrent branch's values. -/
def pv (X : Ins F) : FVec F S512x1280 .f32 := k0_pay95 (ldH (htb X)) (ld X.x12 r12)
/-- The rows of carried values followed by those of this point, from row `16 * o` on. -/
def winV (z : Vec F S48x1280 .f32) (p : Vec F S512x1280 .f32) (o : ℕ) (ho : o < 3) : Vec F S512x1280 .f32 :=
  fun y => if h : (y 0).val + 16 * o < 48 then z (ix2 ⟨(y 0).val + 16 * o, h⟩ (y 1))
    else p (ix2 ⟨(y 0).val + 16 * o - 48, by have h1 : (y 0).val < 512 := (y 0).isLt; omega⟩ (y 1))
/-- The taps as loaded. -/
def taps (X : Ins F) : FVec F S4x1280 .f32 := k0_pay97 (ld X.x13 (Rect.unit (s := S4x1280) ![0, 0] S4x1280.size inb_S4x1280_S4x1280_0_0))
/-- The convolution's bias and its first three taps. -/
def v103 (X : Ins F) (s : St F) : FVec F S512x1280 .f32 :=
  k0_pay98 (ld X.x13 (Rect.unit (s := S4x1280) ![0, 0] S4x1280.size inb_S4x1280_S4x1280_0_0))
    (ld X.x14 (Rect.unit (s := S1x1280) ![0, 0] S1x1280.size inb_S1x1280_S1x1280_0_0))
    (winV s.vz (k0_pay96 (ldH (htb X)) (ld X.x12 r12)) 0 (by decide)) (winV s.vz (k0_pay96 (ldH (htb X)) (ld X.x12 r12)) 1 (by decide))
    (winV s.vz (k0_pay96 (ldH (htb X)) (ld X.x12 r12)) 2 (by decide))
/-- The convolution. -/
def v107 (X : Ins F) (s : St F) : FVec F S512x1280 .f32 := k0_pay99 (pv X) (taps X) (v103 X s)
/-- What the convolution leaves to be carried. -/
def nextZ (X : Ins F) : Vec F S48x1280 .f32 := k0_pay100 (pv X)
/-- The convolution's narrowed column slabs, one by one. -/
def slab (X : Ins F) (s : St F) : ℕ → Vec F S1x512x128 .bf16
  | 0 => k0_pay101 (pv X) (taps X) (v103 X s)
  | 1 => k0_pay102 (pv X) (taps X) (v103 X s)
  | 2 => k0_pay103 (pv X) (taps X) (v103 X s)
  | 3 => k0_pay104 (pv X) (taps X) (v103 X s)
  | 4 => k0_pay105 (pv X) (taps X) (v103 X s)
  | 5 => k0_pay107 (k0_pay106 (pv X) (taps X) (v103 X s))
  | 6 => k0_pay108 (v107 X s)
  | 7 => k0_pay109 (v107 X s)
  | 8 => k0_pay110 (v107 X s)
  | _ => k0_pay111 (v107 X s)
/-- The narrowed column slabs. -/
def slabs (X : Ins F) (s : St F) : Vec F S10x512x128 .bf16 := fun y => slab X s (y 0).val (ix3 0 (y 1) (y 2))
/-- The convolution's column blocks, one by one. -/
def block (X : Ins F) (s : St F) : ℕ → Vec F S1x512x256 .f32
  | 0 => k0_pay112 (v107 X s)
  | 1 => k0_pay113 (v107 X s)
  | 2 => k0_pay115 (k0_pay114 (v107 X s))
  | 3 => k0_pay116 (v107 X s)
  | _ => k0_pay117 (v107 X s)
/-- The column blocks. -/
def blocks (X : Ins F) (s : St F) : Vec F S5x512x256 .f32 := fun y => block X s (y 0).val (ix3 0 (y 1) (y 2))

/-! ### The recurrence -/

/-- Trip `k`'s four slabs. -/
abbrev r30 (k : Fin k0_t2_loop.trips) : Rect S10x512x128 := Rect.unit (s := S10x512x128) (k0_off9 k) S4x512x128.size (k0_off9_inb k)
/-- Trip `k`'s gate weights. -/
abbrev r15 (k : Fin k0_t2_loop.trips) : Rect S5x512x512 := Rect.unit (s := S5x512x512) (k0_off10 k) S1x512x512.size (k0_off10_inb k)
/-- Trip `k`'s row of a gate parameter. -/
abbrev r16 (k : Fin k0_t2_loop.trips) : Rect S5x1x256 := Rect.unit (s := S5x1x256) (k0_off11 k) S1x1x256.size (k0_off11_inb k)
/-- Trip `k`'s block of columns. -/
abbrev r29 (k : Fin k0_t2_loop.trips) : Rect S5x512x256 := Rect.unit (s := S5x512x256) (k0_off12 k) S1x512x256.size (k0_off12_inb k)
/-- Trip `k`'s state. -/
abbrev r35 (k : Fin k0_t2_loop.trips) : Rect S5x16x256 := Rect.unit (s := S5x16x256) (k0_off13 k) S1x16x256.size (k0_off13_inb k)
/-- Trip `k`'s output-gate weights. -/
abbrev r19 (k : Fin k0_t2_loop.trips) : Rect S5x1024x256 := Rect.unit (s := S5x1024x256) (k0_off14 k) S1x1024x256.size (k0_off14_inb k)
/-- The whole of a block of columns. -/
abbrev rY : Rect S512x256 := Rect.unit (s := S512x256) ![0, 0] S512x256.size inb_S512x256_S512x256_0_0

/-- The trips are five. -/
theorem trips2 : k0_t2_loop.trips = 5 := by decide
/-- The trip of a column block. -/
def t2 (j : Fin 5) : Fin k0_t2_loop.trips := ⟨j.val, by rw [trips2]; exact j.isLt⟩
/-- The column block of a trip. -/
def n2 (k : Fin k0_t2_loop.trips) : Fin 5 := ⟨k.val, by rw [← trips2]; exact k.isLt⟩

/-- Rows `16 * t` to `16 * t + 15`. -/
def row (A : Vec F S512x256 .f32) (t : ℕ) : Vec F S16x256 .f32 := fun y => A (ix2 ⟨(16 * t + (y 0).val) % 512, Nat.mod_lt _ (by decide)⟩ (y 1))
/-- The state of the recurrence after step `t`, from the carried state `h`. -/
def HS (A B : Vec F S512x256 .f32) (h : Vec F S1x16x256 .f32) : ℕ → FVec F S16x256 .f32
  | 0 => k0_pay18 h (row A 0) (row B 0)
  | t + 1 => addf (mulf (row A (t + 1)) (HS A B h t)) (row B (t + 1))
/-- The states, one under the other. -/
def hist (A B : Vec F S512x256 .f32) (h : Vec F S1x16x256 .f32) : Vec F S512x256 .f32 :=
  fun y => k0_pay19 (HS A B h ((y 0).val / 16)) (ix2 ⟨(y 0).val % 16, Nat.mod_lt _ (by decide)⟩ (y 1))

/-- Trip `k`'s decay factors, from the slabs `E` and the gate parameters. -/
def aOf (E : Vec F S10x512x128 .bf16) (w15 : Vec F S5x512x512 .bf16) (w16 w17 w18 : Vec F S5x1x256 .f32) (k : Fin k0_t2_loop.trips) : FVec F S512x256 .f32 :=
  k0_pay16 (k0_pay11 (ld E (r30 k)) (ld w15 (r15 k)) (ld w16 (r16 k))) (k0_pay12 (ld w18 (r16 k))) (Scalar.ofBits .f32 0x00000000#32) (k0_pay13 (F := F))
/-- Trip `k`'s inputs of the recurrence. -/
def bOf (E : Vec F S10x512x128 .bf16) (G : Vec F S5x512x256 .f32) (w15 : Vec F S5x512x512 .bf16) (w16 w17 w18 : Vec F S5x1x256 .f32) (k : Fin k0_t2_loop.trips) : FVec F S512x256 .f32 :=
  k0_pay17 (k0_pay10 (ld E (r30 k)) (ld w15 (r15 k)) (ld w17 (r16 k))) (k0_pay11 (ld E (r30 k)) (ld w15 (r15 k)) (ld w16 (r16 k))) (k0_pay12 (ld w18 (r16 k)))
    (Scalar.ofBits .f32 0x00000000#32) (k0_pay13 (F := F)) (ld G (r29 k))
/-- Trip `k`'s decay factors at a grid point. -/
def aa (X : Ins F) (s : St F) (k : Fin k0_t2_loop.trips) : FVec F S512x256 .f32 := aOf (slabs X s) X.x15 X.x16 X.x17 X.x18 k
/-- Trip `k`'s inputs of the recurrence at a grid point. -/
def bb (X : Ins F) (s : St F) (k : Fin k0_t2_loop.trips) : FVec F S512x256 .f32 := bOf (slabs X s) (blocks X s) X.x15 X.x16 X.x17 X.x18 k
/-- Trip `k`'s state as loaded. -/
def h0 (s : St F) (k : Fin k0_t2_loop.trips) : Vec F S1x16x256 .f32 := ld s.h (r35 k)
/-- Trip `k`'s block of the recurrent branch. -/
def rr (X : Ins F) (s : St F) (k : Fin k0_t2_loop.trips) : FVec F S1x512x256 .bf16 :=
  k0_pay122 (ldH (htb X)) (ld X.x19 (r19 k)) (ld (hist (aa X s k) (bb X s k) (h0 s k)) rY)
/-- The state trip `k` leaves. -/
def nh (X : Ins F) (s : St F) (k : Fin k0_t2_loop.trips) : FVec F S1x16x256 .f32 :=
  k0_pay121 (HS (aa X s k) (bb X s k) (h0 s k) 30) (row (aa X s k) 31) (row (bb X s k) 31)
/-- The state left to be carried. -/
def nextH (X : Ins F) (s : St F) : Vec F S5x16x256 .f32 := fun y => nh X s (t2 (y 0)) (ix3 0 (y 1) (y 2))
/-- The recurrent branch's blocks, one after another. -/
def rAll (X : Ins F) (s : St F) : Vec F S5x512x256 .bf16 := fun y => rr X s (t2 (y 0)) (ix3 0 (y 1) (y 2))
/-- Block `j` of the recurrent branch's buffer. -/
abbrev r34s (j : ℕ) (inb : ∀ a, (![j, 0, 0] : Fin 3 → ℕ) a + S1x512x256.size a ≤ S5x512x256.size a) : Rect S5x512x256 := Rect.unit (s := S5x512x256) ![j, 0, 0] S1x512x256.size inb
/-- The recurrent branch's projection. -/
def yb (X : Ins F) (s : St F) : FVec F S512x1024 .f32 :=
  k0_pay123 (ld (rAll X s) (r34s 0 inb_S5x512x256_S1x512x256_0_0_0)) (ld (rAll X s) (r34s 1 inb_S5x512x256_S1x512x256_1_0_0))
    (ld (rAll X s) (r34s 2 inb_S5x512x256_S1x512x256_2_0_0)) (ld (rAll X s) (r34s 3 inb_S5x512x256_S1x512x256_3_0_0))
    (ld (rAll X s) (r34s 4 inb_S5x512x256_S1x512x256_4_0_0)) (ld X.x20 (Rect.unit (s := S1280x1024) ![0, 0] S1280x1024.size inb_S1280x1024_S1280x1024_0_0))

/-! ### The merge and the output -/

/-- The merged rows back in batch-major order. -/
def mbt (X : Ins F) (s : St F) : Vec F S512x1024 .bf16 :=
  two (k0_pay125 (perm X) (ya X s) (yb X s) (ldH (htb X)) (ld X.x21 (Rect.unit (s := S1024x2048) ![0, 0] S1024x2048.size inb_S1024x2048_S1024x2048_0_0))
      (ld X.x22 (Rect.unit (s := S2x1024) ![0, 0] S1x1024.size inb_S2x1024_S1x1024_0_0)) (ld X.x22 (Rect.unit (s := S2x1024) ![1, 0] S1x1024.size inb_S2x1024_S1x1024_1_0)))
    (k0_pay126 (perm X) (ya X s) (yb X s) (ldH (htb X)) (ld X.x21 (Rect.unit (s := S1024x2048) ![0, 0] S1024x2048.size inb_S1024x2048_S1024x2048_0_0))
      (ld X.x22 (Rect.unit (s := S2x1024) ![0, 0] S1x1024.size inb_S2x1024_S1x1024_0_0)) (ld X.x22 (Rect.unit (s := S2x1024) ![1, 0] S1x1024.size inb_S2x1024_S1x1024_1_0)))
/-- The block's output projection. -/
def v232 (X : Ins F) (s : St F) : FVec F S512x1024 .f32 := k0_pay127 (ldH (mbt X s)) (ld X.x23 (Rect.unit (s := S1024x1024) ![0, 0] S1024x1024.size inb_S1024x1024_S1024x1024_0_0))
/-- The last normalisation's scale as loaded. -/
def gf (X : Ins F) : Vec F S1x1024 .f32 := ld X.x6 (Rect.unit (s := S1x1024) ![0, 0] S1x1024.size inb_S1x1024_S1x1024_0_0)
/-- The first 16 steps of the input block. -/
def xA (X : Ins F) : Vec F S16x16x1024 .f32 := ld X.x1 (Rect.unit (s := S16x32x1024) ![0, 0, 0] S16x16x1024.size inb_S16x32x1024_S16x16x1024_0_0_0)
/-- The last 16 steps of the input block. -/
def xB (X : Ins F) : Vec F S16x16x1024 .f32 := ld X.x1 (Rect.unit (s := S16x32x1024) ![0, 16, 0] S16x16x1024.size inb_S16x32x1024_S16x16x1024_0_16_0)
/-- The residual's gate as loaded. -/
def gt (X : Ins F) : Vec F S16x1x1024 .f32 := ld X.x4 (Rect.unit (s := S16x1x1024) ![0, 0, 0] S16x1x1024.size inb_S16x1x1024_S16x1x1024_0_0_0)
/-- The first 16 steps of the output block. -/
def outA (X : Ins F) (s : St F) : FVec F S16x16x1024 .f32 := k0_pay129 (v232 X s) (gf X) (xA X) (gt X)
/-- The last 16 steps of the output block. -/
def outB (X : Ins F) (s : St F) : FVec F S16x16x1024 .f32 := k0_pay1 (k0_pay128 (gf X)) (k0_pay130 (v232 X s) (xB X) (gt X)) (k0_pay131 (v232 X s) (xB X) (gt X))
/-- The output block. -/
def out (X : Ins F) (s : St F) : Vec F S16x32x1024 .f32 :=
  fun y => if h : (y 1).val < 16 then outA X s (ix3 (y 0) ⟨(y 1).val, h⟩ (y 2))
    else outB X s (ix3 (y 0) ⟨(y 1).val - 16, by have h1 : (y 1).val < 32 := (y 1).isLt; omega⟩ (y 2))

/-- Whether a grid point is the first, as the kernel tests it. -/
def first (i : grid0.Coords) : Prop := Scalar.cmpi .ne (Scalar.extui (Scalar.cmpi .eq (BitVec.ofNat 32 (i 0).val) 0#32) : BitVec 32) 0#32 = 1#1
/-- What the kernel starts the carried values from at the first point. -/
def zero : St F := ⟨k0_pay81 (F := F), k0_pay82 (F := F), k0_pay83 (F := F)⟩
open Classical in
/-- The carried values a grid point works with. -/
def start (i : grid0.Coords) (s : St F) : St F := if first i then zero else s
/-- What a grid point leaves. -/
def next (X : Ins F) (s : St F) : St F := ⟨nextU X, nextZ X, nextH X s⟩

end Cert.KernelIdeal.Hand
-- ==== Proof.LoopA.lean ====
/-
  The kernel's first loop: the four column blocks of the short-convolution branch. One trip run over the contents of the buffers, and the
  loop by the invariant that the blocks before the trip are done.
-/
module

public import proofs.«01_k».proof.Proof.Spec

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {arg1 : Memref sig .tc .vmem S16x32x1024 .f32} {harg1 : arg1.IsWhole} {arg2 : Memref sig .tc .vmem S16x1x1024 .f32} {harg2 : arg2.IsWhole} {arg3 : Memref sig .tc .vmem S16x1x1024 .f32} {harg3 : arg3.IsWhole} {arg4 : Memref sig .tc .vmem S16x1x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S256x256 .bf16} {harg7 : arg7.IsWhole} {arg8 : Memref sig .tc .vmem S4x1024x1024 .bf16} {harg8 : arg8.IsWhole} {arg9 : Memref sig .tc .vmem S4x3x256 .f32} {harg9 : arg9.IsWhole} {arg10 : Memref sig .tc .vmem S4x1x256 .f32} {harg10 : arg10.IsWhole} {arg11 : Memref sig .tc .vmem S1024x1024 .bf16} {harg11 : arg11.IsWhole} {arg12 : Memref sig .tc .vmem S1024x1280 .bf16} {harg12 : arg12.IsWhole} {arg13 : Memref sig .tc .vmem S4x1280 .f32} {harg13 : arg13.IsWhole} {arg14 : Memref sig .tc .vmem S1x1280 .f32} {harg14 : arg14.IsWhole} {arg15 : Memref sig .tc .vmem S5x512x512 .bf16} {harg15 : arg15.IsWhole} {arg16 : Memref sig .tc .vmem S5x1x256 .f32} {harg16 : arg16.IsWhole} {arg17 : Memref sig .tc .vmem S5x1x256 .f32} {harg17 : arg17.IsWhole} {arg18 : Memref sig .tc .vmem S5x1x256 .f32} {harg18 : arg18.IsWhole} {arg19 : Memref sig .tc .vmem S5x1024x256 .bf16} {harg19 : arg19.IsWhole} {arg20 : Memref sig .tc .vmem S1280x1024 .bf16} {harg20 : arg20.IsWhole} {arg21 : Memref sig .tc .vmem S1024x2048 .bf16} {harg21 : arg21.IsWhole} {arg22 : Memref sig .tc .vmem S2x1024 .f32} {harg22 : arg22.IsWhole} {arg23 : Memref sig .tc .vmem S1024x1024 .bf16} {harg23 : arg23.IsWhole} {arg24 : Memref sig .tc .vmem S16x32x1024 .f32} {harg24 : arg24.IsWhole} {arg25 : Memref sig .tc .vmem S512x1024 .bf16} {harg25 : arg25.IsWhole} {arg26 : Memref sig .tc .vmem S4x544x256 .f32} {harg26 : arg26.IsWhole} {arg27 : Memref sig .tc .vmem S4x512x256 .bf16} {harg27 : arg27.IsWhole} {arg28 : Memref sig .tc .vmem S560x1280 .f32} {harg28 : arg28.IsWhole} {arg29 : Memref sig .tc .vmem S5x512x256 .f32} {harg29 : arg29.IsWhole} {arg30 : Memref sig .tc .vmem S10x512x128 .bf16} {harg30 : arg30.IsWhole} {arg31 : Memref sig .tc .vmem S512x256 .f32} {harg31 : arg31.IsWhole} {arg32 : Memref sig .tc .vmem S512x256 .f32} {harg32 : arg32.IsWhole} {arg33 : Memref sig .tc .vmem S512x256 .f32} {harg33 : arg33.IsWhole} {arg34 : Memref sig .tc .vmem S5x512x256 .bf16} {harg34 : arg34.IsWhole} {arg35 : Memref sig .tc .vmem S5x16x256 .f32} {harg35 : arg35.IsWhole} {arg36 : Memref sig .tc .vmem S512x1024 .bf16} {harg36 : arg36.IsWhole}

/-- A trip's rows two steps back, read over the carried rows and this point's. -/
theorem win_two (d : Vec F S4x544x256 .f32) (u : Vec F S4x32x256 .f32) (P : Vec F S1x512x256 .f32) (k : Fin k0_t1_loop.trips)
    (h : ∀ (r : Fin 32) (q : Fin 256), d (ix3 (n1 k) ⟨r.val, by omega⟩ q) = u (ix3 (n1 k) r q)) :
    ld (put d (r2 k) P) (r5 k) = win u P (n1 k) 0 (by decide) := by
  funext y
  obtain ⟨q0, q1, q2, rfl⟩ : ∃ (q0 : Fin 1) (q1 : Fin 512) (q2 : Fin 256), y = ix3 q0 q1 q2 := ⟨y 0, y 1, y 2, eq_ix3 y⟩
  refine (ld3 (k0_off5_eq k) (put d (r2 k) P) (n1 k) ⟨q1.val + 16 * 0, by omega⟩ q2 q0 q1 q2 (by show k.val = k.val + q0.val; omega) (by show q1.val + 16 * 0 = 0 + q1.val; omega) (by omega)).trans ?_
  unfold win
  by_cases hy : q1.val + 16 * 0 < 32
  · refine (put3_out (k0_off2_eq k) d P (n1 k) _ q2 (by right; left; exact hy)).trans ?_
    rw [dif_pos (show ((ix3 q0 q1 q2 : S1x512x256.Idx) 1).val + 16 * 0 < 32 from hy)]
    exact h ⟨q1.val + 16 * 0, hy⟩ q2
  · refine (put3_hit (k0_off2_eq k) d P (n1 k) ⟨q1.val + 16 * 0, by omega⟩ q2 0 ⟨q1.val + 16 * 0 - 32, by omega⟩ q2 rfl (by show q1.val + 16 * 0 = 32 + (q1.val + 16 * 0 - 32); omega) (by omega)).trans ?_
    rw [dif_neg (show ¬ ((ix3 q0 q1 q2 : S1x512x256.Idx) 1).val + 16 * 0 < 32 from hy)]

/-- A trip's rows one step back, read over the carried rows and this point's. -/
theorem win_one (d : Vec F S4x544x256 .f32) (u : Vec F S4x32x256 .f32) (P : Vec F S1x512x256 .f32) (k : Fin k0_t1_loop.trips)
    (h : ∀ (r : Fin 32) (q : Fin 256), d (ix3 (n1 k) ⟨r.val, by omega⟩ q) = u (ix3 (n1 k) r q)) :
    ld (put d (r2 k) P) (r6 k) = win u P (n1 k) 1 (by decide) := by
  funext y
  obtain ⟨q0, q1, q2, rfl⟩ : ∃ (q0 : Fin 1) (q1 : Fin 512) (q2 : Fin 256), y = ix3 q0 q1 q2 := ⟨y 0, y 1, y 2, eq_ix3 y⟩
  refine (ld3 (k0_off6_eq k) (put d (r2 k) P) (n1 k) ⟨q1.val + 16 * 1, by omega⟩ q2 q0 q1 q2 (by show k.val = k.val + q0.val; omega) (by show q1.val + 16 * 1 = 16 + q1.val; omega) (by omega)).trans ?_
  unfold win
  by_cases hy : q1.val + 16 * 1 < 32
  · refine (put3_out (k0_off2_eq k) d P (n1 k) _ q2 (by right; left; exact hy)).trans ?_
    rw [dif_pos (show ((ix3 q0 q1 q2 : S1x512x256.Idx) 1).val + 16 * 1 < 32 from hy)]
    exact h ⟨q1.val + 16 * 1, hy⟩ q2
  · refine (put3_hit (k0_off2_eq k) d P (n1 k) ⟨q1.val + 16 * 1, by omega⟩ q2 0 ⟨q1.val + 16 * 1 - 32, by omega⟩ q2 rfl (by show q1.val + 16 * 1 = 32 + (q1.val + 16 * 1 - 32); omega) (by omega)).trans ?_
    rw [dif_neg (show ¬ ((ix3 q0 q1 q2 : S1x512x256.Idx) 1).val + 16 * 1 < 32 from hy)]

/-- The values of a trip before its convolution, and the convolution's two results, with `P` its block of `u`. -/
def vals1 (i : grid0.Coords) (a b : BitVec 32) (k : Fin k0_t1_loop.trips) (H : Vec F S512x1024 .bf16) (w : Vec F S4x1024x1024 .bf16)
    (d9 : Vec F S4x3x256 .f32) (d10 : Vec F S4x1x256 .f32) (d26 : Vec F S4x544x256 .f32) : (Σ' (arg37 : BitVec 32) (v283 : FVec F S512x256 .f32) (v286 : FVec F S512x256 .f32) (v316 : FVec F S512x256 .f32), FVec F S32x256 .f32) :=
  ⟨Scf.iv a b k, k0_pay3 (ldH H) (ld w (r8 k)), k0_pay4 (ldH H) (ld w (r8 k)),
    k0_pay7 (ldH H) (ld w (r8 k)) (ld d9 (r9 k)) (ld d10 (r10 k)) (ld (put d26 (r2 k) (k0_pay6 (ldH H) (ld w (r8 k)))) (r5 k))
      (ld (put d26 (r2 k) (k0_pay6 (ldH H) (ld w (r8 k)))) (r6 k)),
    k0_pay8 (ldH H) (ld w (r8 k))⟩

/-- The first part of a trip, from any contents of the buffers. -/
theorem run_part1 (c : Dev nD) (i : grid0.Coords) (a b : BitVec 32) (k : Fin k0_t1_loop.trips)
    (H : Vec F S512x1024 .bf16) (w : Vec F S4x1024x1024 .bf16) (d9 : Vec F S4x3x256 .f32) (d10 : Vec F S4x1x256 .f32) (d26 : Vec F S4x544x256 .f32) :
    iprop(hold c arg25 H ∗ hold c arg8 w ∗ hold c arg9 d9 ∗ hold c arg10 d10 ∗ hold c arg26 d26)
      ⊢ W c (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 a b k) (fun v => iprop(⌜v = vals1 i a b k H w d9 d10 d26⌝ ∗ hold c arg25 H ∗ hold c arg8 w ∗ hold c arg9 d9
        ∗ hold c arg10 d10 ∗ hold c arg26 (put d26 (r2 k) (k0_pay6 (ldH H) (ld w (r8 k)))))) := by
  rw [k0_part1_eq_skeleton]
  unfold k0_part1_skel
  iintro ⟨H25, H8, H9, H10, H26⟩
  iapply (w_load c) $$ H25; iintro H25
  iapply (w_load c) $$ H8; iintro H8
  iapply (w_load c) $$ H26; iintro H26
  iapply (w_store c) $$ H26; iintro H26
  iapply (w_load c) $$ H9; iintro H9
  iapply (w_load c) $$ H10; iintro H10
  iapply (w_load c) $$ H26; iintro H26
  iapply (w_load c) $$ H26; iintro H26
  iapply (w_pure c)
  isplitr
  · ipureintro; rfl
  · iframe

/-- One trip, from any contents of the buffers. -/
theorem run_trip1 (c : Dev nD) (i : grid0.Coords) (v4 : FVec F S256x256 .bf16) (v7 : FVec F S1x1x1024 .f32) (v11 : FVec F S16x1x1024 .f32) (v34 : FVec F S256x1024 .bf16) (v35 : Vec F S256x1024 .bf16) (k : Fin k0_t1_loop.trips) (x : Unit)
    (H : Vec F S512x1024 .bf16) (w : Vec F S4x1024x1024 .bf16) (d9 : Vec F S4x3x256 .f32) (d10 : Vec F S4x1x256 .f32) (d26 : Vec F S4x544x256 .f32)
    (d27 : Vec F S4x512x256 .bf16) :
    iprop(hold c arg25 H ∗ hold c arg8 w ∗ hold c arg9 d9 ∗ hold c arg10 d10 ∗ hold c arg26 d26 ∗ hold c arg27 d27)
      ⊢ W c (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v7 v11 v34 v35 k x) (fun _ => iprop(hold c arg25 H ∗ hold c arg8 w ∗ hold c arg9 d9 ∗ hold c arg10 d10
        ∗ hold c arg26 (put (put d26 (r2 k) (k0_pay6 (ldH H) (ld w (r8 k)))) (r7 k) (k0_pay90 (k0_pay8 (ldH H) (ld w (r8 k)))))
        ∗ hold c arg27 (put d27 (r27 k) (k0_pay91 (vals1 i 0 0 k H w d9 d10 d26).2.1 (vals1 i 0 0 k H w d9 d10 d26).2.2.1 (vals1 i 0 0 k H w d9 d10 d26).2.2.2.1)))) := by
  unfold k0_t1_body
  iintro ⟨H25, H8, H9, H10, H26, H27⟩
  iapply (w_part c (run_part1 c i _ _ k H w d9 d10 d26)) $$ [H25 H8 H9 H10 H26]
  · iframe
  iintro ⟨H25, H8, H9, H10, H26⟩
  dsimp only [vals1]
  iapply (w_load c) $$ H26; iintro H26
  iapply (w_store c) $$ H26; iintro H26
  iapply (w_load c) $$ H27; iintro H27
  iapply (w_store c) $$ H27; iintro H27
  iapply (w_pure c)
  iframe

/-- Before trip `n` the first `n` blocks' carried rows are the new ones. -/
def doneU (X : Ins F) (s : St F) (n : ℕ) (d : Vec F S4x544x256 .f32) : Prop :=
  ∀ (j : Fin 4) (r : Fin 32) (q : Fin 256), d (ix3 j ⟨r.val, by omega⟩ q) = if j.val < n then nextU X (ix3 j r q) else s.u (ix3 j r q)

/-- Before trip `n` the first `n` blocks of the branch are done. -/
def doneS (X : Ins F) (s : St F) (n : ℕ) (d : Vec F S4x512x256 .bf16) : Prop :=
  ∀ (j : Fin 4) (r : Fin 512) (q : Fin 256), j.val < n → d (ix3 j r q) = sAll X s (ix3 j r q)

/-- A trip puts its carried rows. -/
theorem doneU_succ (X : Ins F) (s : St F) (k : Fin k0_t1_loop.trips) (d : Vec F S4x544x256 .f32) (P : Vec F S1x512x256 .f32) (h : doneU X s k.val d) :
    doneU X s (k.val + 1) (put (put d (r2 k) P) (r7 k) (nu X k)) := by
  intro j r q
  by_cases hj : j.val = k.val
  · rw [if_pos (by omega)]
    have e : t1 j = k := Fin.ext hj
    show _ = nu X (t1 j) (ix3 0 r q)
    rw [e]
    exact put3_hit (k0_off7_eq k) _ _ j _ q 0 r q (by show j.val = k.val + 0; omega) (by show r.val = 0 + r.val; omega) (by omega)
  · refine (put3_out (k0_off7_eq k) _ _ j _ q (by omega)).trans ((put3_out (k0_off2_eq k) _ _ j _ q (by omega)).trans ((h j r q).trans ?_))
    by_cases h1 : j.val < k.val
    · rw [if_pos h1, if_pos (by omega)]
    · rw [if_neg h1, if_neg (by omega)]

/-- A trip puts its block of the branch. -/
theorem doneS_succ (X : Ins F) (s : St F) (k : Fin k0_t1_loop.trips) (d : Vec F S4x512x256 .bf16) (h : doneS X s k.val d) :
    doneS X s (k.val + 1) (put d (r27 k) (ss X s k)) := by
  intro j r q hjk
  by_cases hj : j.val = k.val
  · have e : t1 j = k := Fin.ext hj
    show _ = ss X s (t1 j) (ix3 0 r q)
    rw [e]
    exact put3_hit (k0_off8_eq k) _ _ j r q 0 r q (by show j.val = k.val + 0; omega) (by omega) (by omega)
  · exact (put3_out (k0_off8_eq k) _ _ j r q (by omega)).trans (h j r q (by omega))

/-- What the loop holds before trip `n`. -/
def inv1 (c : Dev nD) (arg25 : Memref sig .tc .vmem S512x1024 .bf16) (arg8 : Memref sig .tc .vmem S4x1024x1024 .bf16) (arg9 : Memref sig .tc .vmem S4x3x256 .f32)
    (arg10 : Memref sig .tc .vmem S4x1x256 .f32) (arg26 : Memref sig .tc .vmem S4x544x256 .f32) (arg27 : Memref sig .tc .vmem S4x512x256 .bf16)
    (X : Ins F) (s : St F) (n : ℕ) : sProp 𝕄 :=
  iprop(hold c arg25 (htb X) ∗ hold c arg8 X.x8 ∗ hold c arg9 X.x9 ∗ hold c arg10 X.x10 ∗ ∃ d26 d27, hold c arg26 d26 ∗ hold c arg27 d27
    ∗ ⌜doneU X s n d26⌝ ∗ ⌜doneS X s n d27⌝)

/-- A trip takes the invariant to the next one. -/
theorem inv1_succ (c : Dev nD) (i : grid0.Coords) (v4 : FVec F S256x256 .bf16) (v7 : FVec F S1x1x1024 .f32) (v11 : FVec F S16x1x1024 .f32) (v34 : FVec F S256x1024 .bf16) (v35 : Vec F S256x1024 .bf16) (X : Ins F) (s : St F) (k : Fin k0_t1_loop.trips) (x : Unit) :
    inv1 c arg25 arg8 arg9 arg10 arg26 arg27 X s k.val
      ⊢ W c (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v7 v11 v34 v35 k x) (fun _ => inv1 c arg25 arg8 arg9 arg10 arg26 arg27 X s (k.val + 1)) := by
  unfold inv1
  iintro ⟨H25, H8, H9, H10, %d26, %d27, H26, H27, %hU, %hS⟩
  have hk : ∀ (r : Fin 32) (q : Fin 256), d26 (ix3 (n1 k) ⟨r.val, by omega⟩ q) = s.u (ix3 (n1 k) r q) := fun r q => by
    rw [hU (n1 k) r q, if_neg (by show ¬ k.val < k.val; omega)]
  rw [← bind_pure (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v7 v11 v34 v35 k x)]
  iapply (w_bind c (R := _)) $$ [H25 H8 H9 H10 H26 H27]
  · iapply (run_trip1 c i v4 v7 v11 v34 v35 k x (htb X) X.x8 X.x9 X.x10 d26 d27)
    iframe
  iintro %u
  iintro ⟨H25, H8, H9, H10, H26, H27⟩
  iapply (w_pure c)
  iframe
  iexists _
  iexists _
  isplitl [H26]
  · iexact H26
  isplitl [H27]
  · iexact H27
  isplitr
  · ipureintro; exact doneU_succ X s k d26 _ hU
  · ipureintro
    have e : vals1 i 0 0 k (htb X) X.x8 X.x9 X.x10 d26 = ⟨Scf.iv 0 0 k, k0_pay3 (ldH (htb X)) (ld X.x8 (r8 k)), k0_pay4 (ldH (htb X)) (ld X.x8 (r8 k)), conv3 X s k, k0_pay8 (ldH (htb X)) (ld X.x8 (r8 k))⟩ := by
      unfold vals1 conv3
      rw [win_two d26 s.u _ k hk, win_one d26 s.u _ k hk]
    rw [e]
    exact doneS_succ X s k d27 hS

/-- The loop at the head of a program. -/
theorem run_loop1 (c : Dev nD) (i : grid0.Coords) (v4 : FVec F S256x256 .bf16) (v7 : FVec F S1x1x1024 .f32) (v11 : FVec F S16x1x1024 .f32) (v34 : FVec F S256x1024 .bf16) (v35 : Vec F S256x1024 .bf16) (X : Ins F) (s : St F)
    {β : Type} {kk : Unit → Prog (TpuEff nD τ sig (Elt F) Λ₀ .tc) β} {Q : β → sProp 𝕄} :
    inv1 c arg25 arg8 arg9 arg10 arg26 arg27 X s 0
      ⊢ iprop((inv1 c arg25 arg8 arg9 arg10 arg26 arg27 X s 4 -∗ W c (kk ⟨⟩) Q)
        -∗ W c (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v7 v11 v34 v35) >>= kk) Q) := by
  iintro H HK
  iapply (Scf.wp_for_bind frame _ Set.univ k0_t1_loop.lb k0_t1_loop.ub k0_t1_loop.st k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v4 v7 v11 v34 v35)
    (fun n _ => inv1 c arg25 arg8 arg9 arg10 arg26 arg27 X s n) (fun k x => inv1_succ c i v4 v7 v11 v34 v35 X s k x)) $$ H
  iintro %u
  iintro H
  iapply HK
  iexact H

/-- The first blocks done, all of them are. -/
theorem doneS_all {X : Ins F} {s : St F} {d : Vec F S4x512x256 .bf16} (h : doneS X s 4 d) : d = sAll X s := by
  funext y
  rw [eq_ix3 y]
  exact h (y 0) (y 1) (y 2) (y 0).isLt

end Cert.KernelIdeal.Hand
-- ==== Proof.LoopB.lean ====
/-
  The kernel's second loop: the five column blocks of the recurrent branch. The recurrence is unrolled over the 32 steps of a grid point,
  each reading its rows of the decay factors and of the inputs and putting the state it reaches under the states before.
-/
module

public import proofs.«01_k».proof.Proof.LoopA

@[expose] public section

set_option maxRecDepth 8192
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {arg1 : Memref sig .tc .vmem S16x32x1024 .f32} {harg1 : arg1.IsWhole} {arg2 : Memref sig .tc .vmem S16x1x1024 .f32} {harg2 : arg2.IsWhole} {arg3 : Memref sig .tc .vmem S16x1x1024 .f32} {harg3 : arg3.IsWhole} {arg4 : Memref sig .tc .vmem S16x1x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S256x256 .bf16} {harg7 : arg7.IsWhole} {arg8 : Memref sig .tc .vmem S4x1024x1024 .bf16} {harg8 : arg8.IsWhole} {arg9 : Memref sig .tc .vmem S4x3x256 .f32} {harg9 : arg9.IsWhole} {arg10 : Memref sig .tc .vmem S4x1x256 .f32} {harg10 : arg10.IsWhole} {arg11 : Memref sig .tc .vmem S1024x1024 .bf16} {harg11 : arg11.IsWhole} {arg12 : Memref sig .tc .vmem S1024x1280 .bf16} {harg12 : arg12.IsWhole} {arg13 : Memref sig .tc .vmem S4x1280 .f32} {harg13 : arg13.IsWhole} {arg14 : Memref sig .tc .vmem S1x1280 .f32} {harg14 : arg14.IsWhole} {arg15 : Memref sig .tc .vmem S5x512x512 .bf16} {harg15 : arg15.IsWhole} {arg16 : Memref sig .tc .vmem S5x1x256 .f32} {harg16 : arg16.IsWhole} {arg17 : Memref sig .tc .vmem S5x1x256 .f32} {harg17 : arg17.IsWhole} {arg18 : Memref sig .tc .vmem S5x1x256 .f32} {harg18 : arg18.IsWhole} {arg19 : Memref sig .tc .vmem S5x1024x256 .bf16} {harg19 : arg19.IsWhole} {arg20 : Memref sig .tc .vmem S1280x1024 .bf16} {harg20 : arg20.IsWhole} {arg21 : Memref sig .tc .vmem S1024x2048 .bf16} {harg21 : arg21.IsWhole} {arg22 : Memref sig .tc .vmem S2x1024 .f32} {harg22 : arg22.IsWhole} {arg23 : Memref sig .tc .vmem S1024x1024 .bf16} {harg23 : arg23.IsWhole} {arg24 : Memref sig .tc .vmem S16x32x1024 .f32} {harg24 : arg24.IsWhole} {arg25 : Memref sig .tc .vmem S512x1024 .bf16} {harg25 : arg25.IsWhole} {arg26 : Memref sig .tc .vmem S4x544x256 .f32} {harg26 : arg26.IsWhole} {arg27 : Memref sig .tc .vmem S4x512x256 .bf16} {harg27 : arg27.IsWhole} {arg28 : Memref sig .tc .vmem S560x1280 .f32} {harg28 : arg28.IsWhole} {arg29 : Memref sig .tc .vmem S5x512x256 .f32} {harg29 : arg29.IsWhole} {arg30 : Memref sig .tc .vmem S10x512x128 .bf16} {harg30 : arg30.IsWhole} {arg31 : Memref sig .tc .vmem S512x256 .f32} {harg31 : arg31.IsWhole} {arg32 : Memref sig .tc .vmem S512x256 .f32} {harg32 : arg32.IsWhole} {arg33 : Memref sig .tc .vmem S512x256 .f32} {harg33 : arg33.IsWhole} {arg34 : Memref sig .tc .vmem S5x512x256 .bf16} {harg34 : arg34.IsWhole} {arg35 : Memref sig .tc .vmem S5x16x256 .f32} {harg35 : arg35.IsWhole} {arg36 : Memref sig .tc .vmem S512x1024 .bf16} {harg36 : arg36.IsWhole}

/-- The states of the first `n` steps are in place. -/
def rowsTo (H : ℕ → Vec F S16x256 .f32) (n : ℕ) (d : Vec F S512x256 .f32) : Prop :=
  ∀ (t : ℕ) (r : Fin 16) (q : Fin 256) (ht : 16 * t + r.val < 512), t < n → d (ix2 ⟨16 * t + r.val, ht⟩ q) = k0_pay19 (H t) (ix2 r q)

/-- The column buffer with the states of the first `n` steps in place. -/
def upto (c : Dev nD) (m : Memref sig .tc .vmem S512x256 .f32) (H : ℕ → Vec F S16x256 .f32) (n : ℕ) : sProp 𝕄 :=
  iprop(∃ d, hold c m d ∗ ⌜rowsTo H n d⌝)

/-- The rows of step `t`, loaded. -/
theorem ld_row (A : Vec F S512x256 .f32) (t : ℕ) (ht : t < 32) {inb : ∀ a, (![16 * t, 0] : Fin 2 → ℕ) a + S16x256.size a ≤ S512x256.size a} :
    ld A (Rect.unit (s := S512x256) ![16 * t, 0] S16x256.size inb) = row A t := by
  funext y
  obtain ⟨q0, q1, rfl⟩ : ∃ (q0 : Fin 16) (q1 : Fin 256), y = ix2 q0 q1 := ⟨y 0, y 1, eq_ix2 y⟩
  exact ld2 A ⟨(16 * t + q0.val) % 512, Nat.mod_lt _ (by decide)⟩ q1 q0 q1 (Nat.mod_eq_of_lt (by omega)) (by omega)

/-- The load of the rows of step `t`. -/
theorem w_row (c : Dev nD) (t : ℕ) (ht : t < 32) {o : ℕ} (ho : o = 16 * t) {β : Type} {m : Memref sig .tc .vmem S512x256 .f32}
    {inb : ∀ a, (![o, 0] : Fin 2 → ℕ) a + S16x256.size a ≤ S512x256.size a} {A : Vec F S512x256 .f32}
    {hl : m.view.LoadsAt (Rect.unit (s := S512x256) ![o, 0] S16x256.size inb).toLoadRect}
    {k : Vec F S16x256 .f32 → Prog (TpuEff nD τ sig (Elt F) Λ₀ .tc) β} {Q : β → sProp 𝕄} :
    hold c m A ⊢ iprop((hold c m A -∗ W c (k (row A t)) Q)
      -∗ W c (Prog.lift (.load m (Rect.unit (s := S512x256) ![o, 0] S16x256.size inb).toLoadRect hl) >>= k) Q) := by
  subst ho
  rw [← ld_row A t ht (inb := inb)]
  exact w_load c

/-- The load of rows whose value is not used. -/
theorem w_dead (c : Dev nD) {n o : ℕ} {β : Type} {m : Memref sig .tc .vmem S512x256 .f32} {H : ℕ → Vec F S16x256 .f32}
    {inb : ∀ a, (![o, 0] : Fin 2 → ℕ) a + S16x256.size a ≤ S512x256.size a}
    {hl : m.view.LoadsAt (Rect.unit (s := S512x256) ![o, 0] S16x256.size inb).toLoadRect}
    {p : Prog (TpuEff nD τ sig (Elt F) Λ₀ .tc) β} {Q : β → sProp 𝕄} :
    upto c m H n ⊢ iprop((upto c m H n -∗ W c p Q)
      -∗ W c (Prog.lift (.load m (Rect.unit (s := S512x256) ![o, 0] S16x256.size inb).toLoadRect hl) >>= fun _ => p) Q) := by
  unfold upto
  iintro ⟨%d, HY, %hd⟩ HK
  iapply (w_load c) $$ HY
  iintro HY
  iapply HK
  iexists d
  isplitl [HY]
  · iexact HY
  · ipureintro; exact hd

/-- The store of the state of step `t`. -/
theorem w_state (c : Dev nD) (t : ℕ) {o : ℕ} (ho : o = 16 * t) {β : Type} {m : Memref sig .tc .vmem S512x256 .f32} {H : ℕ → Vec F S16x256 .f32}
    {inb : ∀ a, (![o, 0] : Fin 2 → ℕ) a + S16x256.size a ≤ S512x256.size a} {w : Vec F S16x256 .f32} (hw : w = k0_pay19 (H t))
    {hx} {hm} {k : PUnit → Prog (TpuEff nD τ sig (Elt F) Λ₀ .tc) β} {Q : β → sProp 𝕄} :
    upto c m H t ⊢ iprop((upto c m H (t + 1) -∗ W c (k ⟨⟩) Q)
      -∗ W c (Prog.lift (.store m (Rect.unit (s := S512x256) ![o, 0] S16x256.size inb) w Finset.univ hx hm) >>= k) Q) := by
  subst ho
  unfold upto
  iintro ⟨%d, HY, %hd⟩ HK
  iapply (w_store c) $$ HY
  iintro HY
  iapply HK
  iexists _
  isplitl [HY]
  · iexact HY
  · ipureintro
    intro t' r q hr ht'
    by_cases e : t' = t
    · subst e
      rw [hw]
      exact put2_hit d _ _ q r q rfl (by omega)
    · exact (put2_out d w ⟨16 * t' + r.val, hr⟩ q (by left; show 16 * t' + r.val < 16 * t; omega)).trans (hd t' r q hr (by omega))

/-- Steps 0 to 3. -/
theorem run_part4 (c : Dev nD) (i : grid0.Coords) (A B : Vec F S512x256 .f32) (h : Vec F S1x16x256 .f32) :
    iprop(hold c arg31 A ∗ hold c arg32 B ∗ upto c arg33 (HS A B h) 0)
      ⊢ W c (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (HS A B h 0)) (fun v => iprop(⌜v = ⟨HS A B h 4, k0_pay19 (HS A B h 4)⟩⌝ ∗ hold c arg31 A ∗ hold c arg32 B ∗ upto c arg33 (HS A B h) 4)) := by
  rw [k0_part4_eq_skeleton]
  unfold k0_part4_skel
  iintro ⟨HA, HB, HY⟩
  iapply (w_dead c) $$ HY; iintro HY
  iapply (w_state c 0 rfl rfl) $$ HY; iintro HY
  iapply (w_row c 1 (by decide) rfl) $$ HA; iintro HA
  iapply (w_row c 1 (by decide) rfl) $$ HB; iintro HB
  iapply (w_dead c) $$ HY; iintro HY
  iapply (w_state c 1 rfl rfl) $$ HY; iintro HY
  iapply (w_row c 2 (by decide) rfl) $$ HA; iintro HA
  iapply (w_row c 2 (by decide) rfl) $$ HB; iintro HB
  iapply (w_dead c) $$ HY; iintro HY
  iapply (w_state c 2 rfl rfl) $$ HY; iintro HY
  iapply (w_row c 3 (by decide) rfl) $$ HA; iintro HA
  iapply (w_row c 3 (by decide) rfl) $$ HB; iintro HB
  iapply (w_dead c) $$ HY; iintro HY
  iapply (w_state c 3 rfl rfl) $$ HY; iintro HY
  iapply (w_row c 4 (by decide) rfl) $$ HA; iintro HA
  iapply (w_row c 4 (by decide) rfl) $$ HB; iintro HB
  iapply (w_dead c) $$ HY; iintro HY
  iapply (w_pure c)
  isplitr
  · ipureintro; rfl
  · iframe

/-- Steps 4 to 8. -/
theorem run_part5 (c : Dev nD) (i : grid0.Coords) (A B : Vec F S512x256 .f32) (h : Vec F S1x16x256 .f32) :
    iprop(hold c arg31 A ∗ hold c arg32 B ∗ upto c arg33 (HS A B h) 4)
      ⊢ W c (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (HS A B h 4) (k0_pay19 (HS A B h 4))) (fun v => iprop(⌜v = ⟨HS A B h 8, row A 9⟩⌝ ∗ hold c arg31 A ∗ hold c arg32 B ∗ upto c arg33 (HS A B h) 9)) := by
  rw [k0_part5_eq_skeleton]
  unfold k0_part5_skel
  iintro ⟨HA, HB, HY⟩
  iapply (w_state c 4 rfl rfl) $$ HY; iintro HY
  iapply (w_row c 5 (by decide) rfl) $$ HA; iintro HA
  iapply (w_row c 5 (by decide) rfl) $$ HB; iintro HB
  iapply (w_dead c) $$ HY; iintro HY
  iapply (w_state c 5 rfl rfl) $$ HY; iintro HY
  iapply (w_row c 6 (by decide) rfl) $$ HA; iintro HA
  iapply (w_row c 6 (by decide) rfl) $$ HB; iintro HB
  iapply (w_dead c) $$ HY; iintro HY
  iapply (w_state c 6 rfl rfl) $$ HY; iintro HY
  iapply (w_row c 7 (by decide) rfl) $$ HA; iintro HA
  iapply (w_row c 7 (by decide) rfl) $$ HB; iintro HB
  iapply (w_dead c) $$ HY; iintro HY
  iapply (w_state c 7 rfl rfl) $$ HY; iintro HY
  iapply (w_row c 8 (by decide) rfl) $$ HA; iintro HA
  iapply (w_row c 8 (by decide) rfl) $$ HB; iintro HB
  iapply (w_dead c) $$ HY; iintro HY
  iapply (w_state c 8 rfl rfl) $$ HY; iintro HY
  iapply (w_row c 9 (by decide) rfl) $$ HA; iintro HA
  iapply (w_pure c)
  isplitr
  · ipureintro; rfl
  · iframe

/-- Steps 9 to 12. -/
theorem run_part6 (c : Dev nD) (i : grid0.Coords) (A B : Vec F S512x256 .f32) (h : Vec F S1x16x256 .f32) :
    iprop(hold c arg31 A ∗ hold c arg32 B ∗ upto c arg33 (HS A B h) 9)
      ⊢ W c (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (HS A B h 8) (row A 9)) (fun v => iprop(⌜v = ⟨mulf (row A 13) (HS A B h 12), row B 13⟩⌝ ∗ hold c arg31 A ∗ hold c arg32 B ∗ upto c arg33 (HS A B h) 13)) := by
  rw [k0_part6_eq_skeleton]
  unfold k0_part6_skel
  iintro ⟨HA, HB, HY⟩
  iapply (w_row c 9 (by decide) rfl) $$ HB; iintro HB
  iapply (w_dead c) $$ HY; iintro HY
  iapply (w_state c 9 rfl rfl) $$ HY; iintro HY
  iapply (w_row c 10 (by decide) rfl) $$ HA; iintro HA
  iapply (w_row c 10 (by decide) rfl) $$ HB; iintro HB
  iapply (w_dead c) $$ HY; iintro HY
  iapply (w_state c 10 rfl rfl) $$ HY; iintro HY
  iapply (w_row c 11 (by decide) rfl) $$ HA; iintro HA
  iapply (w_row c 11 (by decide) rfl) $$ HB; iintro HB
  iapply (w_dead c) $$ HY; iintro HY
  iapply (w_state c 11 rfl rfl) $$ HY; iintro HY
  iapply (w_row c 12 (by decide) rfl) $$ HA; iintro HA
  iapply (w_row c 12 (by decide) rfl) $$ HB; iintro HB
  iapply (w_dead c) $$ HY; iintro HY
  iapply (w_state c 12 rfl rfl) $$ HY; iintro HY
  iapply (w_row c 13 (by decide) rfl) $$ HA; iintro HA
  iapply (w_row c 13 (by decide) rfl) $$ HB; iintro HB
  iapply (w_pure c)
  isplitr
  · ipureintro; rfl
  · iframe

/-- Steps 13 to 16. -/
theorem run_part7 (c : Dev nD) (i : grid0.Coords) (A B : Vec F S512x256 .f32) (h : Vec F S1x16x256 .f32) :
    iprop(hold c arg31 A ∗ hold c arg32 B ∗ upto c arg33 (HS A B h) 13)
      ⊢ W c (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (mulf (row A 13) (HS A B h 12)) (row B 13)) (fun v => iprop(∃ y : Vec F S16x256 .f32, ⌜v = ⟨HS A B h 17, y⟩⌝ ∗ hold c arg31 A ∗ hold c arg32 B ∗ upto c arg33 (HS A B h) 17)) := by
  rw [k0_part7_eq_skeleton]
  unfold k0_part7_skel
  iintro ⟨HA, HB, HY⟩
  iapply (w_dead c) $$ HY; iintro HY
  iapply (w_state c 13 rfl rfl) $$ HY; iintro HY
  iapply (w_row c 14 (by decide) rfl) $$ HA; iintro HA
  iapply (w_row c 14 (by decide) rfl) $$ HB; iintro HB
  iapply (w_dead c) $$ HY; iintro HY
  iapply (w_state c 14 rfl rfl) $$ HY; iintro HY
  iapply (w_row c 15 (by decide) rfl) $$ HA; iintro HA
  iapply (w_row c 15 (by decide) rfl) $$ HB; iintro HB
  iapply (w_dead c) $$ HY; iintro HY
  iapply (w_state c 15 rfl rfl) $$ HY; iintro HY
  iapply (w_row c 16 (by decide) rfl) $$ HA; iintro HA
  iapply (w_row c 16 (by decide) rfl) $$ HB; iintro HB
  iapply (w_dead c) $$ HY; iintro HY
  iapply (w_state c 16 rfl rfl) $$ HY; iintro HY
  iapply (w_row c 17 (by decide) rfl) $$ HA; iintro HA
  iapply (w_row c 17 (by decide) rfl) $$ HB; iintro HB
  unfold upto
  icases HY with ⟨%d, HY, %hd⟩
  iapply (w_load c) $$ HY; iintro HY
  iapply (w_pure c)
  iexists _
  isplitr
  · ipureintro; rfl
  iframe
  iexists d
  isplitl [HY]
  · iexact HY
  · ipureintro; exact hd

/-- Steps 17 to 21. -/
theorem run_part8 (c : Dev nD) (i : grid0.Coords) (A B : Vec F S512x256 .f32) (h : Vec F S1x16x256 .f32) (y : Vec F S16x256 .f32) :
    iprop(hold c arg31 A ∗ hold c arg32 B ∗ upto c arg33 (HS A B h) 17)
      ⊢ W c (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (HS A B h 17) y) (fun v => iprop(⌜v = HS A B h 21⌝ ∗ hold c arg31 A ∗ hold c arg32 B ∗ upto c arg33 (HS A B h) 22)) := by
  rw [k0_part8_eq_skeleton]
  unfold k0_part8_skel
  iintro ⟨HA, HB, HY⟩
  iapply (w_state c 17 rfl rfl) $$ HY; iintro HY
  iapply (w_row c 18 (by decide) rfl) $$ HA; iintro HA
  iapply (w_row c 18 (by decide) rfl) $$ HB; iintro HB
  iapply (w_dead c) $$ HY; iintro HY
  iapply (w_state c 18 rfl rfl) $$ HY; iintro HY
  iapply (w_row c 19 (by decide) rfl) $$ HA; iintro HA
  iapply (w_row c 19 (by decide) rfl) $$ HB; iintro HB
  iapply (w_dead c) $$ HY; iintro HY
  iapply (w_state c 19 rfl rfl) $$ HY; iintro HY
  iapply (w_row c 20 (by decide) rfl) $$ HA; iintro HA
  iapply (w_row c 20 (by decide) rfl) $$ HB; iintro HB
  iapply (w_dead c) $$ HY; iintro HY
  iapply (w_state c 20 rfl rfl) $$ HY; iintro HY
  iapply (w_row c 21 (by decide) rfl) $$ HA; iintro HA
  iapply (w_row c 21 (by decide) rfl) $$ HB; iintro HB
  iapply (w_dead c) $$ HY; iintro HY
  iapply (w_state c 21 rfl rfl) $$ HY; iintro HY
  iapply (w_pure c)
  isplitr
  · ipureintro; rfl
  · iframe

/-- Steps 22 to 25. -/
theorem run_part9 (c : Dev nD) (i : grid0.Coords) (A B : Vec F S512x256 .f32) (h : Vec F S1x16x256 .f32) :
    iprop(hold c arg31 A ∗ hold c arg32 B ∗ upto c arg33 (HS A B h) 22)
      ⊢ W c (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (HS A B h 21)) (fun v => iprop(⌜v = mulf (row A 26) (HS A B h 25)⌝ ∗ hold c arg31 A ∗ hold c arg32 B ∗ upto c arg33 (HS A B h) 26)) := by
  rw [k0_part9_eq_skeleton]
  unfold k0_part9_skel
  iintro ⟨HA, HB, HY⟩
  iapply (w_row c 22 (by decide) rfl) $$ HA; iintro HA
  iapply (w_row c 22 (by decide) rfl) $$ HB; iintro HB
  iapply (w_dead c) $$ HY; iintro HY
  iapply (w_state c 22 rfl rfl) $$ HY; iintro HY
  iapply (w_row c 23 (by decide) rfl) $$ HA; iintro HA
  iapply (w_row c 23 (by decide) rfl) $$ HB; iintro HB
  iapply (w_dead c) $$ HY; iintro HY
  iapply (w_state c 23 rfl rfl) $$ HY; iintro HY
  iapply (w_row c 24 (by decide) rfl) $$ HA; iintro HA
  iapply (w_row c 24 (by decide) rfl) $$ HB; iintro HB
  iapply (w_dead c) $$ HY; iintro HY
  iapply (w_state c 24 rfl rfl) $$ HY; iintro HY
  iapply (w_row c 25 (by decide) rfl) $$ HA; iintro HA
  iapply (w_row c 25 (by decide) rfl) $$ HB; iintro HB
  iapply (w_dead c) $$ HY; iintro HY
  iapply (w_state c 25 rfl rfl) $$ HY; iintro HY
  iapply (w_row c 26 (by decide) rfl) $$ HA; iintro HA
  iapply (w_pure c)
  isplitr
  · ipureintro; rfl
  · iframe

/-- Steps 26 to 29. -/
theorem run_part10 (c : Dev nD) (i : grid0.Coords) (A B : Vec F S512x256 .f32) (h : Vec F S1x16x256 .f32) :
    iprop(hold c arg31 A ∗ hold c arg32 B ∗ upto c arg33 (HS A B h) 26)
      ⊢ W c (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (mulf (row A 26) (HS A B h 25))) (fun v => iprop(⌜v = HS A B h 30⌝ ∗ hold c arg31 A ∗ hold c arg32 B ∗ upto c arg33 (HS A B h) 30)) := by
  rw [k0_part10_eq_skeleton]
  unfold k0_part10_skel
  iintro ⟨HA, HB, HY⟩
  iapply (w_row c 26 (by decide) rfl) $$ HB; iintro HB
  iapply (w_dead c) $$ HY; iintro HY
  iapply (w_state c 26 rfl rfl) $$ HY; iintro HY
  iapply (w_row c 27 (by decide) rfl) $$ HA; iintro HA
  iapply (w_row c 27 (by decide) rfl) $$ HB; iintro HB
  iapply (w_dead c) $$ HY; iintro HY
  iapply (w_state c 27 rfl rfl) $$ HY; iintro HY
  iapply (w_row c 28 (by decide) rfl) $$ HA; iintro HA
  iapply (w_row c 28 (by decide) rfl) $$ HB; iintro HB
  iapply (w_dead c) $$ HY; iintro HY
  iapply (w_state c 28 rfl rfl) $$ HY; iintro HY
  iapply (w_row c 29 (by decide) rfl) $$ HA; iintro HA
  iapply (w_row c 29 (by decide) rfl) $$ HB; iintro HB
  iapply (w_dead c) $$ HY; iintro HY
  iapply (w_state c 29 rfl rfl) $$ HY; iintro HY
  iapply (w_row c 30 (by decide) rfl) $$ HA; iintro HA
  iapply (w_row c 30 (by decide) rfl) $$ HB; iintro HB
  iapply (w_pure c)
  isplitr
  · ipureintro; rfl
  · iframe

/-- A whole store of a column buffer leaves its payload. -/
theorem put_wholeY (d w : Vec F S512x256 .f32) : put d rY w = w := by
  funext y
  obtain ⟨q0, q1, rfl⟩ : ∃ (q0 : Fin 512) (q1 : Fin 256), y = ix2 q0 q1 := ⟨y 0, y 1, eq_ix2 y⟩
  exact put2_hit d w q0 q1 q0 q1 (by omega) (by omega)

/-- The gates of a trip. -/
theorem run_part2 (c : Dev nD) (i : grid0.Coords) (a b : BitVec 32) (k : Fin k0_t2_loop.trips) (E : Vec F S10x512x128 .bf16) (w15 : Vec F S5x512x512 .bf16)
    (w16 w17 w18 : Vec F S5x1x256 .f32) :
    iprop(hold c arg30 E ∗ hold c arg15 w15 ∗ hold c arg16 w16 ∗ hold c arg17 w17 ∗ hold c arg18 w18)
      ⊢ W c (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 a b k) (fun v => iprop(⌜v = ⟨Scf.iv a b k, k0_pay10 (ld E (r30 k)) (ld w15 (r15 k)) (ld w17 (r16 k)),
          k0_pay11 (ld E (r30 k)) (ld w15 (r15 k)) (ld w16 (r16 k)), k0_pay12 (ld w18 (r16 k)), Scalar.ofBits .f32 0x00000000#32, k0_pay13 (F := F)⟩⌝
        ∗ hold c arg30 E ∗ hold c arg15 w15 ∗ hold c arg16 w16 ∗ hold c arg17 w17 ∗ hold c arg18 w18)) := by
  rw [k0_part2_eq_skeleton]
  unfold k0_part2_skel
  iintro ⟨HE, H15, H16, H17, H18⟩
  iapply (w_load c) $$ HE; iintro HE
  iapply (w_load c) $$ H15; iintro H15
  iapply (w_load c) $$ H16; iintro H16
  iapply (w_load c) $$ H17; iintro H17
  iapply (w_load c) $$ H18; iintro H18
  iapply (w_pure c)
  isplitr
  · ipureintro; rfl
  · iframe

/-- The decay factors and the inputs of a trip put in their buffers, and the first step's state. -/
theorem run_part3 (c : Dev nD) (i : grid0.Coords) (k : Fin k0_t2_loop.trips) (a : BitVec 32) (v310 : FVec F S512x256 .f32) (v312 : FVec F S512x256 .f32) (v317 : FVec F S1x256 .f32) (cst : F .f32) (v318 : FVec F S1x256 .f32)
    (G : Vec F S5x512x256 .f32) (d31 d32 : Vec F S512x256 .f32) (d35 : Vec F S5x16x256 .f32) :
    iprop(hold c arg31 d31 ∗ hold c arg32 d32 ∗ hold c arg29 G ∗ hold c arg35 d35)
      ⊢ W c (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 k a v310 v312 v317 cst v318) (fun v => iprop(
        ⌜v = HS (k0_pay16 v312 v317 cst v318) (k0_pay17 v310 v312 v317 cst v318 (ld G (r29 k))) (ld d35 (r35 k)) 0⌝
        ∗ hold c arg31 (k0_pay16 v312 v317 cst v318) ∗ hold c arg32 (k0_pay17 v310 v312 v317 cst v318 (ld G (r29 k))) ∗ hold c arg29 G ∗ hold c arg35 d35)) := by
  rw [k0_part3_eq_skeleton]
  unfold k0_part3_skel
  iintro ⟨HA, HB, HG, HH⟩
  iapply (w_load c) $$ HA; iintro HA
  iapply (w_store c) $$ HA; iintro HA
  rw [put_wholeY]
  iapply (w_load c) $$ HG; iintro HG
  iapply (w_load c) $$ HB; iintro HB
  iapply (w_store c) $$ HB; iintro HB
  rw [put_wholeY]
  iapply (w_load c) $$ HH; iintro HH
  iapply (w_row c 0 (by decide) rfl) $$ HA; iintro HA
  iapply (w_row c 0 (by decide) rfl) $$ HB; iintro HB
  iapply (w_pure c)
  isplitr
  · ipureintro; rfl
  · iframe

/-- All the states in place, the buffer is their history. -/
theorem rowsTo_all {A B : Vec F S512x256 .f32} {h : Vec F S1x16x256 .f32} {d : Vec F S512x256 .f32} (hd : rowsTo (HS A B h) 32 d) : d = hist A B h := by
  funext y
  obtain ⟨q0, q1, rfl⟩ : ∃ (q0 : Fin 512) (q1 : Fin 256), y = ix2 q0 q1 := ⟨y 0, y 1, eq_ix2 y⟩
  have e : (⟨16 * (q0.val / 16) + q0.val % 16, by omega⟩ : Fin 512) = q0 := Fin.ext (by show 16 * (q0.val / 16) + q0.val % 16 = q0.val; omega)
  have := hd (q0.val / 16) ⟨q0.val % 16, by omega⟩ q1 (by show 16 * (q0.val / 16) + q0.val % 16 < 512; omega) (by omega)
  rw [e] at this
  exact this

/-- One trip, from any contents of the buffers. -/
theorem run_trip2 (c : Dev nD) (i : grid0.Coords) (v107 : FVec F S512x1280 .f32) (v170 : FVec F S512x256 .f32) (k : Fin k0_t2_loop.trips) (x : Unit)
    (H : Vec F S512x1024 .bf16) (E : Vec F S10x512x128 .bf16) (G : Vec F S5x512x256 .f32) (w15 : Vec F S5x512x512 .bf16)
    (w16 w17 w18 : Vec F S5x1x256 .f32) (w19 : Vec F S5x1024x256 .bf16) (d31 d32 d33 : Vec F S512x256 .f32) (d34 : Vec F S5x512x256 .bf16) (d35 : Vec F S5x16x256 .f32) :
    iprop(hold c arg25 H ∗ hold c arg30 E ∗ hold c arg29 G ∗ hold c arg15 w15 ∗ hold c arg16 w16 ∗ hold c arg17 w17 ∗ hold c arg18 w18 ∗ hold c arg19 w19
        ∗ hold c arg31 d31 ∗ hold c arg32 d32 ∗ hold c arg33 d33 ∗ hold c arg34 d34 ∗ hold c arg35 d35)
      ⊢ W c (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v107 v170 k x) (fun _ => iprop(hold c arg25 H ∗ hold c arg30 E ∗ hold c arg29 G ∗ hold c arg15 w15 ∗ hold c arg16 w16
        ∗ hold c arg17 w17 ∗ hold c arg18 w18 ∗ hold c arg19 w19 ∗ (∃ d, hold c arg31 d) ∗ (∃ d, hold c arg32 d) ∗ (∃ d, hold c arg33 d)
        ∗ hold c arg34 (put d34 (r29 k) (k0_pay122 (ldH H) (ld w19 (r19 k)) (ld (hist (aOf E w15 w16 w17 w18 k) (bOf E G w15 w16 w17 w18 k) (ld d35 (r35 k))) rY)))
        ∗ hold c arg35 (put d35 (r35 k) (k0_pay121 (HS (aOf E w15 w16 w17 w18 k) (bOf E G w15 w16 w17 w18 k) (ld d35 (r35 k)) 30)
          (row (aOf E w15 w16 w17 w18 k) 31) (row (bOf E G w15 w16 w17 w18 k) 31))))) := by
  unfold k0_t2_body
  iintro ⟨H25, H30, H29, H15, H16, H17, H18, H19, HA, HB, HY, H34, H35⟩
  iapply (w_part c (run_part2 c i _ _ k E w15 w16 w17 w18)) $$ [H30 H15 H16 H17 H18]
  · iframe
  iintro ⟨H30, H15, H16, H17, H18⟩
  dsimp only
  iapply (w_part c (run_part3 c i k _ _ _ _ _ _ G d31 d32 d35)) $$ [HA HB H29 H35]
  · iframe
  iintro ⟨HA, HB, H29, H35⟩
  rw [show k0_pay16 (k0_pay11 (ld E (r30 k)) (ld w15 (r15 k)) (ld w16 (r16 k))) (k0_pay12 (ld w18 (r16 k))) (Scalar.ofBits .f32 0x00000000#32) (k0_pay13 (F := F))
    = aOf E w15 w16 w17 w18 k from rfl,
    show k0_pay17 (k0_pay10 (ld E (r30 k)) (ld w15 (r15 k)) (ld w17 (r16 k))) (k0_pay11 (ld E (r30 k)) (ld w15 (r15 k)) (ld w16 (r16 k))) (k0_pay12 (ld w18 (r16 k)))
    (Scalar.ofBits .f32 0x00000000#32) (k0_pay13 (F := F)) (ld G (r29 k)) = bOf E G w15 w16 w17 w18 k from rfl]
  generalize aOf E w15 w16 w17 w18 k = A
  generalize bOf E G w15 w16 w17 w18 k = B
  ihave HY := (show hold c arg33 d33 ⊢ upto c arg33 (HS A B (ld d35 (r35 k))) 0 from by
    unfold upto
    iintro H
    iexists d33
    isplitl [H]
    · iexact H
    · ipureintro; exact fun t r q ht h => absurd h (by omega)) $$ HY
  iapply (w_part c (run_part4 c i A B _)) $$ [HA HB HY]
  · iframe
  iintro ⟨HA, HB, HY⟩
  dsimp only
  iapply (w_part c (run_part5 c i A B _)) $$ [HA HB HY]
  · iframe
  iintro ⟨HA, HB, HY⟩
  dsimp only
  iapply (w_part c (run_part6 c i A B _)) $$ [HA HB HY]
  · iframe
  iintro ⟨HA, HB, HY⟩
  dsimp only
  iapply (w_bind c) $$ [HA HB HY]
  · iapply (run_part7 c i A B _)
    iframe
  iintro %v
  iintro ⟨%y, %hv, HA, HB, HY⟩
  rw [hv]
  dsimp only
  iapply (w_part c (run_part8 c i A B _ y)) $$ [HA HB HY]
  · iframe
  iintro ⟨HA, HB, HY⟩
  iapply (w_part c (run_part9 c i A B _)) $$ [HA HB HY]
  · iframe
  iintro ⟨HA, HB, HY⟩
  iapply (w_part c (run_part10 c i A B _)) $$ [HA HB HY]
  · iframe
  iintro ⟨HA, HB, HY⟩
  iapply (w_dead c) $$ HY; iintro HY
  iapply (w_state c 30 rfl rfl) $$ HY; iintro HY
  iapply (w_row c 31 (by decide) rfl) $$ HA; iintro HA
  iapply (w_row c 31 (by decide) rfl) $$ HB; iintro HB
  iapply (w_dead c) $$ HY; iintro HY
  iapply (w_state c 31 rfl rfl) $$ HY; iintro HY
  unfold upto
  icases HY with ⟨%d, HY, %hd⟩
  rw [rowsTo_all hd]
  iapply (w_load c) $$ H35; iintro H35
  iapply (w_store c) $$ H35; iintro H35
  iapply (w_load c) $$ H25; iintro H25
  iapply (w_load c) $$ H19; iintro H19
  iapply (w_load c) $$ HY; iintro HY
  iapply (w_load c) $$ H34; iintro H34
  iapply (w_store c) $$ H34; iintro H34
  iapply (w_pure c)
  iframe
  isplitl [HA]
  · iexists A
    iexact HA
  isplitl [HB]
  · iexists B
    iexact HB
  · iexists _
    iexact HY

/-- Before trip `n` the first `n` blocks' states are the new ones. -/
def doneH (X : Ins F) (s : St F) (n : ℕ) (d : Vec F S5x16x256 .f32) : Prop :=
  ∀ (j : Fin 5) (r : Fin 16) (q : Fin 256), d (ix3 j r q) = if j.val < n then nextH X s (ix3 j r q) else s.h (ix3 j r q)

/-- Before trip `n` the first `n` blocks of the branch are done. -/
def doneR (X : Ins F) (s : St F) (n : ℕ) (d : Vec F S5x512x256 .bf16) : Prop :=
  ∀ (j : Fin 5) (r : Fin 512) (q : Fin 256), j.val < n → d (ix3 j r q) = rAll X s (ix3 j r q)

/-- A trip puts its state. -/
theorem doneH_succ (X : Ins F) (s : St F) (k : Fin k0_t2_loop.trips) (d : Vec F S5x16x256 .f32) (h : doneH X s k.val d) :
    doneH X s (k.val + 1) (put d (r35 k) (nh X s k)) := by
  intro j r q
  by_cases hj : j.val = k.val
  · rw [if_pos (by omega)]
    have e : t2 j = k := Fin.ext hj
    show _ = nh X s (t2 j) (ix3 0 r q)
    rw [e]
    exact put3_hit (k0_off13_eq k) _ _ j _ q 0 r q (by show j.val = k.val + 0; omega) (by omega) (by omega)
  · refine (put3_out (k0_off13_eq k) _ _ j _ q (by omega)).trans ((h j r q).trans ?_)
    by_cases h1 : j.val < k.val
    · rw [if_pos h1, if_pos (by omega)]
    · rw [if_neg h1, if_neg (by omega)]

/-- A trip puts its block of the branch. -/
theorem doneR_succ (X : Ins F) (s : St F) (k : Fin k0_t2_loop.trips) (d : Vec F S5x512x256 .bf16) (h : doneR X s k.val d) :
    doneR X s (k.val + 1) (put d (r29 k) (rr X s k)) := by
  intro j r q hjk
  by_cases hj : j.val = k.val
  · have e : t2 j = k := Fin.ext hj
    show _ = rr X s (t2 j) (ix3 0 r q)
    rw [e]
    exact put3_hit (k0_off12_eq k) _ _ j r q 0 r q (by show j.val = k.val + 0; omega) (by omega) (by omega)
  · exact (put3_out (k0_off12_eq k) _ _ j r q (by omega)).trans (h j r q (by omega))

/-- What the loop holds before trip `n`. -/
def inv2 (c : Dev nD) (arg25 : Memref sig .tc .vmem S512x1024 .bf16) (arg30 : Memref sig .tc .vmem S10x512x128 .bf16) (arg29 : Memref sig .tc .vmem S5x512x256 .f32)
    (arg15 : Memref sig .tc .vmem S5x512x512 .bf16) (arg16 arg17 arg18 : Memref sig .tc .vmem S5x1x256 .f32) (arg19 : Memref sig .tc .vmem S5x1024x256 .bf16)
    (arg31 arg32 arg33 : Memref sig .tc .vmem S512x256 .f32) (arg34 : Memref sig .tc .vmem S5x512x256 .bf16) (arg35 : Memref sig .tc .vmem S5x16x256 .f32)
    (X : Ins F) (s : St F) (n : ℕ) : sProp 𝕄 :=
  iprop(hold c arg25 (htb X) ∗ hold c arg30 (slabs X s) ∗ hold c arg29 (blocks X s) ∗ hold c arg15 X.x15 ∗ hold c arg16 X.x16 ∗ hold c arg17 X.x17
    ∗ hold c arg18 X.x18 ∗ hold c arg19 X.x19 ∗ (∃ d, hold c arg31 d) ∗ (∃ d, hold c arg32 d) ∗ (∃ d, hold c arg33 d)
    ∗ ∃ d34 d35, hold c arg34 d34 ∗ hold c arg35 d35 ∗ ⌜doneR X s n d34⌝ ∗ ⌜doneH X s n d35⌝)

/-- A trip takes the invariant to the next one. -/
theorem inv2_succ (c : Dev nD) (i : grid0.Coords) (v107 : FVec F S512x1280 .f32) (v170 : FVec F S512x256 .f32) (X : Ins F) (s : St F) (k : Fin k0_t2_loop.trips) (x : Unit) :
    inv2 c arg25 arg30 arg29 arg15 arg16 arg17 arg18 arg19 arg31 arg32 arg33 arg34 arg35 X s k.val
      ⊢ W c (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v107 v170 k x) (fun _ => inv2 c arg25 arg30 arg29 arg15 arg16 arg17 arg18 arg19 arg31 arg32 arg33 arg34 arg35 X s (k.val + 1)) := by
  unfold inv2
  iintro ⟨H25, H30, H29, H15, H16, H17, H18, H19, ⟨%d31, H31⟩, ⟨%d32, H32⟩, ⟨%d33, H33⟩, %d34, %d35, H34, H35, %hR, %hH⟩
  have hk : ld d35 (r35 k) = h0 s k := by
    funext y
    obtain ⟨q0, q1, q2, rfl⟩ : ∃ (q0 : Fin 1) (q1 : Fin 16) (q2 : Fin 256), y = ix3 q0 q1 q2 := ⟨y 0, y 1, y 2, eq_ix3 y⟩
    refine (ld3 (k0_off13_eq k) d35 (n2 k) q1 q2 q0 q1 q2 (by show k.val = k.val + q0.val; omega) (by omega) (by omega)).trans ?_
    refine Eq.trans ?_ (ld3 (k0_off13_eq k) s.h (n2 k) q1 q2 q0 q1 q2 (by show k.val = k.val + q0.val; omega) (by omega) (by omega)).symm
    rw [hH (n2 k) q1 q2, if_neg (by show ¬ k.val < k.val; omega)]
  rw [← bind_pure (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v107 v170 k x)]
  iapply (w_bind c (R := _)) $$ [H25 H30 H29 H15 H16 H17 H18 H19 H31 H32 H33 H34 H35]
  · iapply (run_trip2 c i v107 v170 k x (htb X) (slabs X s) (blocks X s) X.x15 X.x16 X.x17 X.x18 X.x19 d31 d32 d33 d34 d35)
    iframe
  iintro %u
  rw [hk]
  iintro ⟨H25, H30, H29, H15, H16, H17, H18, H19, H31, H32, H33, H34, H35⟩
  iapply (w_pure c)
  iframe
  iexists _
  iexists _
  isplitl [H34]
  · iexact H34
  isplitl [H35]
  · iexact H35
  isplitr
  · ipureintro; exact doneR_succ X s k d34 hR
  · ipureintro; exact doneH_succ X s k d35 hH

/-- The loop at the head of a program. -/
theorem run_loop2 (c : Dev nD) (i : grid0.Coords) (v107 : FVec F S512x1280 .f32) (v170 : FVec F S512x256 .f32) (X : Ins F) (s : St F)
    {β : Type} {kk : Unit → Prog (TpuEff nD τ sig (Elt F) Λ₀ .tc) β} {Q : β → sProp 𝕄} :
    inv2 c arg25 arg30 arg29 arg15 arg16 arg17 arg18 arg19 arg31 arg32 arg33 arg34 arg35 X s 0
      ⊢ iprop((inv2 c arg25 arg30 arg29 arg15 arg16 arg17 arg18 arg19 arg31 arg32 arg33 arg34 arg35 X s 5 -∗ W c (kk ⟨⟩) Q)
        -∗ W c (Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v107 v170) >>= kk) Q) := by
  iintro H HK
  iapply (Scf.wp_for_bind frame _ Set.univ k0_t2_loop.lb k0_t2_loop.ub k0_t2_loop.st k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v107 v170)
    (fun n _ => inv2 c arg25 arg30 arg29 arg15 arg16 arg17 arg18 arg19 arg31 arg32 arg33 arg34 arg35 X s n) (fun k x => inv2_succ c i v107 v170 X s k x)) $$ H
  iintro %u
  iintro H
  iapply HK
  iexact H

/-- The five blocks done, all of them are. -/
theorem doneR_all {X : Ins F} {s : St F} {d : Vec F S5x512x256 .bf16} (h : doneR X s 5 d) : d = rAll X s := by
  funext y
  rw [eq_ix3 y]
  exact h (y 0) (y 1) (y 2) (y 0).isLt

/-- The five states done, all of them are. -/
theorem doneH_all {X : Ins F} {s : St F} {d : Vec F S5x16x256 .f32} (h : doneH X s 5 d) : d = nextH X s := by
  funext y
  rw [eq_ix3 y]
  exact (h (y 0) (y 1) (y 2)).trans (if_pos (y 0).isLt)

end Cert.KernelIdeal.Hand
-- ==== Proof.Parts.lean ====
/-
  The kernel's body at one grid point: its parts run over the contents of the buffers, and then the whole.
-/
module

public import proofs.«01_k».proof.Proof.LoopB

@[expose] public section

set_option maxHeartbeats 400000
set_option maxRecDepth 8192

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {arg1 : Memref sig .tc .vmem S16x32x1024 .f32} {harg1 : arg1.IsWhole} {arg2 : Memref sig .tc .vmem S16x1x1024 .f32} {harg2 : arg2.IsWhole} {arg3 : Memref sig .tc .vmem S16x1x1024 .f32} {harg3 : arg3.IsWhole} {arg4 : Memref sig .tc .vmem S16x1x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S256x256 .bf16} {harg7 : arg7.IsWhole} {arg8 : Memref sig .tc .vmem S4x1024x1024 .bf16} {harg8 : arg8.IsWhole} {arg9 : Memref sig .tc .vmem S4x3x256 .f32} {harg9 : arg9.IsWhole} {arg10 : Memref sig .tc .vmem S4x1x256 .f32} {harg10 : arg10.IsWhole} {arg11 : Memref sig .tc .vmem S1024x1024 .bf16} {harg11 : arg11.IsWhole} {arg12 : Memref sig .tc .vmem S1024x1280 .bf16} {harg12 : arg12.IsWhole} {arg13 : Memref sig .tc .vmem S4x1280 .f32} {harg13 : arg13.IsWhole} {arg14 : Memref sig .tc .vmem S1x1280 .f32} {harg14 : arg14.IsWhole} {arg15 : Memref sig .tc .vmem S5x512x512 .bf16} {harg15 : arg15.IsWhole} {arg16 : Memref sig .tc .vmem S5x1x256 .f32} {harg16 : arg16.IsWhole} {arg17 : Memref sig .tc .vmem S5x1x256 .f32} {harg17 : arg17.IsWhole} {arg18 : Memref sig .tc .vmem S5x1x256 .f32} {harg18 : arg18.IsWhole} {arg19 : Memref sig .tc .vmem S5x1024x256 .bf16} {harg19 : arg19.IsWhole} {arg20 : Memref sig .tc .vmem S1280x1024 .bf16} {harg20 : arg20.IsWhole} {arg21 : Memref sig .tc .vmem S1024x2048 .bf16} {harg21 : arg21.IsWhole} {arg22 : Memref sig .tc .vmem S2x1024 .f32} {harg22 : arg22.IsWhole} {arg23 : Memref sig .tc .vmem S1024x1024 .bf16} {harg23 : arg23.IsWhole} {arg24 : Memref sig .tc .vmem S16x32x1024 .f32} {harg24 : arg24.IsWhole} {arg25 : Memref sig .tc .vmem S512x1024 .bf16} {harg25 : arg25.IsWhole} {arg26 : Memref sig .tc .vmem S4x544x256 .f32} {harg26 : arg26.IsWhole} {arg27 : Memref sig .tc .vmem S4x512x256 .bf16} {harg27 : arg27.IsWhole} {arg28 : Memref sig .tc .vmem S560x1280 .f32} {harg28 : arg28.IsWhole} {arg29 : Memref sig .tc .vmem S5x512x256 .f32} {harg29 : arg29.IsWhole} {arg30 : Memref sig .tc .vmem S10x512x128 .bf16} {harg30 : arg30.IsWhole} {arg31 : Memref sig .tc .vmem S512x256 .f32} {harg31 : arg31.IsWhole} {arg32 : Memref sig .tc .vmem S512x256 .f32} {harg32 : arg32.IsWhole} {arg33 : Memref sig .tc .vmem S512x256 .f32} {harg33 : arg33.IsWhole} {arg34 : Memref sig .tc .vmem S5x512x256 .bf16} {harg34 : arg34.IsWhole} {arg35 : Memref sig .tc .vmem S5x16x256 .f32} {harg35 : arg35.IsWhole} {arg36 : Memref sig .tc .vmem S512x1024 .bf16} {harg36 : arg36.IsWhole}

/-- Two stores of 256 rows fill the buffer. -/
theorem put_two (d : Vec F S512x1024 .bf16) (a b : Vec F S256x1024 .bf16) :
    put (put d (Rect.unit (s := S512x1024) ![0, 0] S256x1024.size inb_S512x1024_S256x1024_0_0) a)
      (Rect.unit (s := S512x1024) ![256, 0] S256x1024.size inb_S512x1024_S256x1024_256_0) b = two a b := by
  funext y
  obtain ⟨q0, q1, rfl⟩ : ∃ (q0 : Fin 512) (q1 : Fin 1024), y = ix2 q0 q1 := ⟨y 0, y 1, eq_ix2 y⟩
  unfold two
  by_cases hy : q0.val < 256
  · rw [dif_pos (show ((ix2 q0 q1 : S512x1024.Idx) 0).val < 256 from hy)]
    exact (put2_out _ b q0 q1 (by omega)).trans (put2_hit d a q0 q1 ⟨q0.val, hy⟩ q1 (by show q0.val = 0 + q0.val; omega) (by omega))
  · rw [dif_neg (show ¬ ((ix2 q0 q1 : S512x1024.Idx) 0).val < 256 from hy)]
    exact put2_hit _ b q0 q1 ⟨q0.val - 256, by omega⟩ q1 (by show q0.val = 256 + (q0.val - 256); omega) (by omega)

/-- Two stores of 16 steps fill the output block. -/
theorem put_out_two (d : Vec F S16x32x1024 .f32) (a b : Vec F S16x16x1024 .f32) :
    put (put d (Rect.unit (s := S16x32x1024) ![0, 0, 0] S16x16x1024.size inb_S16x32x1024_S16x16x1024_0_0_0) a)
      (Rect.unit (s := S16x32x1024) ![0, 16, 0] S16x16x1024.size inb_S16x32x1024_S16x16x1024_0_16_0) b
      = fun y => if h : (y 1).val < 16 then a (ix3 (y 0) ⟨(y 1).val, h⟩ (y 2))
        else b (ix3 (y 0) ⟨(y 1).val - 16, by have h1 : (y 1).val < 32 := (y 1).isLt; omega⟩ (y 2)) := by
  funext y
  obtain ⟨q0, q1, q2, rfl⟩ : ∃ (q0 : Fin 16) (q1 : Fin 32) (q2 : Fin 1024), y = ix3 q0 q1 q2 := ⟨y 0, y 1, y 2, eq_ix3 y⟩
  by_cases hy : q1.val < 16
  · rw [dif_pos (show ((ix3 q0 q1 q2 : S16x32x1024.Idx) 1).val < 16 from hy)]
    exact (put3_out rfl _ b q0 q1 q2 (by omega)).trans (put3_hit rfl d a q0 q1 q2 q0 ⟨q1.val, hy⟩ q2 (by omega) (by show q1.val = 0 + q1.val; omega) (by omega))
  · rw [dif_neg (show ¬ ((ix3 q0 q1 q2 : S16x32x1024.Idx) 1).val < 16 from hy)]
    exact put3_hit rfl _ b q0 q1 q2 q0 ⟨q1.val - 16, by omega⟩ q2 (by omega) (by show q1.val = 16 + (q1.val - 16); omega) (by omega)

/-- The first 48 rows of the buffer hold `z`. -/
def isZ (z : Vec F S48x1280 .f32) (d : Vec F S560x1280 .f32) : Prop := ∀ (r : Fin 48) (q : Fin 1280), d (ix2 ⟨r.val, by omega⟩ q) = z (ix2 r q)
/-- The first 32 rows of each block of the buffer hold `u`. -/
def isU (u : Vec F S4x32x256 .f32) (d : Vec F S4x544x256 .f32) : Prop := ∀ (j : Fin 4) (r : Fin 32) (q : Fin 256), d (ix3 j ⟨r.val, by omega⟩ q) = u (ix3 j r q)

/-- The rows from `16 * o` on, read over the carried rows and this point's. -/
theorem win_rows (d : Vec F S560x1280 .f32) (z : Vec F S48x1280 .f32) (P : Vec F S512x1280 .f32) (h : isZ z d) (o : ℕ) (ho : o < 3)
    {inb : ∀ a, (![16 * o, 0] : Fin 2 → ℕ) a + S512x1280.size a ≤ S560x1280.size a} :
    ld (put d (Rect.unit (s := S560x1280) ![48, 0] S512x1280.size inb_S560x1280_S512x1280_48_0) P) (Rect.unit (s := S560x1280) ![16 * o, 0] S512x1280.size inb) = winV z P o ho := by
  funext y
  obtain ⟨q0, q1, rfl⟩ : ∃ (q0 : Fin 512) (q1 : Fin 1280), y = ix2 q0 q1 := ⟨y 0, y 1, eq_ix2 y⟩
  refine (ld2 _ ⟨q0.val + 16 * o, by omega⟩ q1 q0 q1 (by show q0.val + 16 * o = 16 * o + q0.val; omega) (by omega)).trans ?_
  unfold winV
  by_cases hy : q0.val + 16 * o < 48
  · rw [dif_pos (show ((ix2 q0 q1 : S512x1280.Idx) 0).val + 16 * o < 48 from hy)]
    exact (put2_out d P _ q1 (by left; exact hy)).trans (h ⟨q0.val + 16 * o, hy⟩ q1)
  · rw [dif_neg (show ¬ ((ix2 q0 q1 : S512x1280.Idx) 0).val + 16 * o < 48 from hy)]
    exact put2_hit d P ⟨q0.val + 16 * o, by omega⟩ q1 ⟨q0.val + 16 * o - 48, by omega⟩ q1 (by show q0.val + 16 * o = 48 + (q0.val + 16 * o - 48); omega) (by omega)

/-- A buffer whose first `n` blocks are those of `T`. -/
def filled {N R C : ℕ} {e : EltTy} (c : Dev nD) (m : Memref sig .tc .vmem ⟨3, ![N, R, C]⟩ e) (T : Vec F ⟨3, ![N, R, C]⟩ e) (n : ℕ) : sProp 𝕄 :=
  iprop(∃ d, hold c m d ∗ ⌜∀ (j : Fin N) (r : Fin R) (q : Fin C), j.val < n → d (ix3 j r q) = T (ix3 j r q)⌝)

/-- Any buffer has no block in place. -/
theorem filled_zero {N R C : ℕ} {e : EltTy} (c : Dev nD) (m : Memref sig .tc .vmem ⟨3, ![N, R, C]⟩ e) (T d : Vec F ⟨3, ![N, R, C]⟩ e) :
    hold c m d ⊢ filled c m T 0 := by
  unfold filled
  iintro H
  iexists d
  isplitl [H]
  · iexact H
  · ipureintro; exact fun j r q h => absurd h (by omega)

/-- A buffer with all its blocks in place. -/
theorem filled_all {N R C : ℕ} {e : EltTy} (c : Dev nD) (m : Memref sig .tc .vmem ⟨3, ![N, R, C]⟩ e) (T : Vec F ⟨3, ![N, R, C]⟩ e) :
    filled c m T N ⊢ hold c m T := by
  unfold filled
  iintro ⟨%d, H, %h⟩
  rw [show T = d from funext fun y => by
    obtain ⟨q0, q1, q2, rfl⟩ : ∃ (q0 : Fin N) (q1 : Fin R) (q2 : Fin C), y = ix3 q0 q1 q2 := ⟨y 0, y 1, y 2, eq_ix3 y⟩
    exact (h q0 q1 q2 q0.isLt).symm]
  iexact H

/-- The store of block `t` of such a buffer, after a load whose value is not used. -/
theorem w_block (c : Dev nD) (t : ℕ) {N R C : ℕ} {e : EltTy} {m : Memref sig .tc .vmem ⟨3, ![N, R, C]⟩ e} {T : Vec F ⟨3, ![N, R, C]⟩ e} {β : Type} (ht : t < N)
    {inb : ∀ a, (![t, 0, 0] : Fin 3 → ℕ) a + (![1, R, C] : Fin 3 → ℕ) a ≤ (⟨3, ![N, R, C]⟩ : Shape).size a} {w : Vec F ⟨3, ![1, R, C]⟩ e} {hx} {hm} {hl}
    {k : PUnit → Prog (TpuEff nD τ sig (Elt F) Λ₀ .tc) β} {Q : β → sProp 𝕄} (f : ℕ → Vec F ⟨3, ![1, R, C]⟩ e)
    (hT : ∀ (j : Fin N) (r : Fin R) (q : Fin C), f j.val (ix3 0 r q) = T (ix3 j r q)) (hw : w = f t) :
    filled c m T t ⊢ iprop((filled c m T (t + 1) -∗ W c (k ⟨⟩) Q)
      -∗ W c (Prog.lift (.load m (Rect.unit (s := ⟨3, ![N, R, C]⟩) ![t, 0, 0] ![1, R, C] inb).toLoadRect hl) >>= fun _ =>
        Prog.lift (.store m (Rect.unit (s := ⟨3, ![N, R, C]⟩) ![t, 0, 0] ![1, R, C] inb) w Finset.univ hx hm) >>= k) Q) := by
  unfold filled
  iintro ⟨%d, H, %hd⟩ HK
  iapply (w_load c) $$ H; iintro H
  iapply (w_store c) $$ H; iintro H
  iapply HK
  iexists _
  isplitl [H]
  · iexact H
  · ipureintro
    intro j r q hj
    by_cases e : j.val = t
    · rw [show j = ⟨t, ht⟩ from Fin.ext e]
      exact (put3_hit rfl d w ⟨t, ht⟩ r q 0 r q (by show t = t + 0; omega) (by omega) (by omega)).trans ((congrFun hw _).trans (hT ⟨t, ht⟩ r q))
    · exact (put3_out rfl d w j r q (by omega)).trans (hd j r q (by omega))

/-- What a grid point finds carried: at the first point anything. -/
def found (c : Dev nD) (arg26 : Memref sig .tc .vmem S4x544x256 .f32) (arg28 : Memref sig .tc .vmem S560x1280 .f32) (arg35 : Memref sig .tc .vmem S5x16x256 .f32)
    (i : grid0.Coords) (s : St F) : sProp 𝕄 :=
  iprop(∃ d26 d28 d35, hold c arg26 d26 ∗ hold c arg28 d28 ∗ hold c arg35 d35 ∗ ⌜¬ first i → isU s.u d26 ∧ isZ s.vz d28 ∧ d35 = s.h⌝)

/-- The carried values. -/
def carried (c : Dev nD) (arg26 : Memref sig .tc .vmem S4x544x256 .f32) (arg28 : Memref sig .tc .vmem S560x1280 .f32) (arg35 : Memref sig .tc .vmem S5x16x256 .f32)
    (s : St F) : sProp 𝕄 :=
  iprop(∃ d26 d28, hold c arg26 d26 ∗ hold c arg28 d28 ∗ hold c arg35 s.h ∗ ⌜isU s.u d26⌝ ∗ ⌜isZ s.vz d28⌝)

/-- The stores of the first point make the carried values those it starts from. -/
theorem carried_zero (c : Dev nD) (i : grid0.Coords) (s : St F) (d26 : Vec F S4x544x256 .f32) (d28 : Vec F S560x1280 .f32) (d35 : Vec F S5x16x256 .f32) (hc : first i) :
    hold c arg26 (put d26 (Rect.unit (s := S4x544x256) ![0, 0, 0] S4x32x256.size inb_S4x544x256_S4x32x256_0_0_0) (k0_pay81 (F := F)))
      ⊢ iprop(hold c arg28 (put d28 (Rect.unit (s := S560x1280) ![0, 0] S48x1280.size inb_S560x1280_S48x1280_0_0) (k0_pay82 (F := F)))
        -∗ hold c arg35 (put d35 (Rect.unit (s := S5x16x256) ![0, 0, 0] S5x16x256.size inb_S5x16x256_S5x16x256_0_0_0) (k0_pay83 (F := F)))
        -∗ carried c arg26 arg28 arg35 (start i s)) := by
  iintro H26 H28 H35
  unfold carried start
  rw [if_pos hc, show put d35 (Rect.unit (s := S5x16x256) ![0, 0, 0] S5x16x256.size inb_S5x16x256_S5x16x256_0_0_0) (k0_pay83 (F := F)) = (zero (F := F)).h from funext fun y => by
          obtain ⟨q0, q1, q2, rfl⟩ : ∃ (q0 : Fin 5) (q1 : Fin 16) (q2 : Fin 256), y = ix3 q0 q1 q2 := ⟨y 0, y 1, y 2, eq_ix3 y⟩
          exact put3_hit rfl d35 _ q0 q1 q2 q0 q1 q2 (by omega) (by omega) (by omega)]
  iexists _
  iexists _
  isplitl [H26]
  · iexact H26
  isplitl [H28]
  · iexact H28
  isplitl [H35]
  · iexact H35
  isplitr
  · ipureintro
    exact fun j r q => put3_hit rfl d26 _ j _ q j r q (by omega) (by show r.val = 0 + r.val; omega) (by omega)
  · ipureintro
    exact fun r q => put2_hit d28 _ _ q r q (by show r.val = 0 + r.val; omega) (by omega)

/-- A later point goes on from what it finds. -/
theorem carried_keep (c : Dev nD) (i : grid0.Coords) (s : St F) (d26 : Vec F S4x544x256 .f32) (d28 : Vec F S560x1280 .f32) (d35 : Vec F S5x16x256 .f32) (hc : ¬ first i)
    (hf : isU s.u d26 ∧ isZ s.vz d28 ∧ d35 = s.h) :
    hold c arg26 d26 ⊢ iprop(hold c arg28 d28 -∗ hold c arg35 d35 -∗ carried c arg26 arg28 arg35 (start i s)) := by
  iintro H26 H28 H35
  unfold carried start
  obtain ⟨hu, hz, hh⟩ := hf
  rw [if_neg hc, ← hh]
  iexists d26
  iexists d28
  iframe
  isplitr
  · ipureintro; exact hu
  · ipureintro; exact hz

/-- The first part: the carried values made ready, and the first half of the modulated rows. -/
theorem run_part11 (c : Dev nD) (i : grid0.Coords) (X : Ins F) (s : St F) (d25 : Vec F S512x1024 .bf16) :
    iprop(found c arg26 arg28 arg35 i s ∗ hold c arg7 X.x7 ∗ hold c arg5 X.x5 ∗ hold c arg3 X.x3 ∗ hold c arg1 X.x1 ∗ hold c arg2 X.x2 ∗ hold c arg25 d25)
      ⊢ W c (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) (fun v => iprop(∃ y, ⌜v = ⟨perm X, gn X, sc1 X, hbA X, y⟩⌝ ∗ carried c arg26 arg28 arg35 (start i s)
        ∗ hold c arg7 X.x7 ∗ hold c arg5 X.x5 ∗ hold c arg3 X.x3 ∗ hold c arg1 X.x1 ∗ hold c arg2 X.x2 ∗ hold c arg25 d25)) := by
  rw [k0_part11_eq_skeleton]
  unfold k0_part11_skel
  iintro ⟨HF, H7, H5, H3, H1, H2, H25⟩
  unfold found
  icases HF with ⟨%d26, %d28, %d35, H26, H28, H35, %hf⟩
  dsimp only
  by_cases hc : first i
  on_goal 1 =>
    rw [dif_pos (show Scalar.cmpi .ne (Scalar.extui (Scalar.cmpi .eq (BitVec.ofNat 32 (i 0).val) 0#32) : BitVec 32) 0#32 = 1#1 from hc)]
    iapply (w_load c) $$ H26; iintro H26
    iapply (w_store c) $$ H26; iintro H26
    iapply (w_load c) $$ H28; iintro H28
    iapply (w_store c) $$ H28; iintro H28
    iapply (w_load c) $$ H35; iintro H35
    iapply (w_store c) $$ H35; iintro H35
    ihave HC := (carried_zero c i s d26 d28 d35 hc) $$ H26 H28 H35
  on_goal 2 =>
    rw [dif_neg (show ¬ Scalar.cmpi .ne (Scalar.extui (Scalar.cmpi .eq (BitVec.ofNat 32 (i 0).val) 0#32) : BitVec 32) 0#32 = 1#1 from hc)]
    ihave HC := (carried_keep c i s d26 d28 d35 hc (hf hc)) $$ H26 H28 H35
  all_goals
    iapply (w_load c) $$ H7; iintro H7
    iapply (w_load c) $$ H5; iintro H5
    iapply (w_load c) $$ H3; iintro H3
    iapply (w_load c) $$ H1; iintro H1
    iapply (w_load c) $$ H2; iintro H2
    iapply (w_load c) $$ H25; iintro H25
    iapply (w_pure c)
    iexists _
    isplitr
    · ipureintro; rfl
    · iframe

/-- The second half of the modulated rows and the short-convolution branch. -/
theorem run_part12 (c : Dev nD) (i : grid0.Coords) (X : Ins F) (s : St F) (y : Vec F S256x1024 .bf16) (d25 : Vec F S512x1024 .bf16) (d26 : Vec F S4x544x256 .f32) (d27 : Vec F S4x512x256 .bf16)
    (hu : isU s.u d26) :
    iprop(hold c arg25 d25 ∗ hold c arg1 X.x1 ∗ hold c arg2 X.x2 ∗ hold c arg8 X.x8 ∗ hold c arg9 X.x9 ∗ hold c arg10 X.x10 ∗ hold c arg26 d26 ∗ hold c arg27 d27)
      ⊢ W c (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (perm X) (gn X) (sc1 X) (hbA X) y) (fun v => iprop(
        ⌜v = ⟨k0_pay92 (ld (sAll X s) (r27s 0 inb_S4x512x256_S1x512x256_0_0_0)), k0_pay93 (ld (sAll X s) (r27s 1 inb_S4x512x256_S1x512x256_1_0_0))⟩⌝
        ∗ hold c arg25 (htb X) ∗ hold c arg1 X.x1 ∗ hold c arg2 X.x2 ∗ hold c arg8 X.x8 ∗ hold c arg9 X.x9 ∗ hold c arg10 X.x10
        ∗ (∃ d, hold c arg26 d ∗ ⌜isU (nextU X) d⌝) ∗ hold c arg27 (sAll X s))) := by
  rw [k0_part12_eq_skeleton]
  unfold k0_part12_skel
  iintro ⟨H25, H1, H2, H8, H9, H10, H26, H27⟩
  iapply (w_store c) $$ H25; iintro H25
  iapply (w_load c) $$ H1; iintro H1
  iapply (w_load c) $$ H2; iintro H2
  iapply (w_load c) $$ H25; iintro H25
  iapply (w_store c) $$ H25; iintro H25
  rw [put_two]
  iapply (run_loop1 c i _ _ _ _ y X s) $$ [H25 H8 H9 H10 H26 H27]
  · unfold inv1
    isplitl [H25]
    · iexact H25
    iframe
    iexists d26
    iexists d27
    iframe
    isplitr
    · ipureintro; exact fun j r q => (hu j r q).trans (if_neg (by omega)).symm
    · ipureintro; exact fun j r q h => absurd h (by omega)
  unfold inv1
  iintro ⟨H25, H8, H9, H10, %e26, %e27, H26, H27, %hU, %hS⟩
  rw [doneS_all hS]
  iapply (w_load c) $$ H27; iintro H27
  iapply (w_load c) $$ H27; iintro H27
  iapply (w_pure c)
  isplitr
  · ipureintro; rfl
  iframe
  iexists e26
  isplitl [H26]
  · iexact H26
  · ipureintro; exact fun j r q => (hU j r q).trans (if_pos j.isLt)

/-- The branch's projection, the recurrent branch's values and most of their convolution. -/
theorem run_part13 (c : Dev nD) (i : grid0.Coords) (X : Ins F) (s : St F) (d28 : Vec F S560x1280 .f32) (hz : isZ s.vz d28) :
    iprop(hold c arg27 (sAll X s) ∗ hold c arg11 X.x11 ∗ hold c arg25 (htb X) ∗ hold c arg12 X.x12 ∗ hold c arg28 d28 ∗ hold c arg13 X.x13 ∗ hold c arg14 X.x14)
      ⊢ W c (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (k0_pay92 (ld (sAll X s) (r27s 0 inb_S4x512x256_S1x512x256_0_0_0))) (k0_pay93 (ld (sAll X s) (r27s 1 inb_S4x512x256_S1x512x256_1_0_0))))
        (fun v => iprop(⌜v = ⟨ya X s, pv X, taps X, v103 X s⟩⌝ ∗ hold c arg27 (sAll X s) ∗ hold c arg11 X.x11 ∗ hold c arg25 (htb X) ∗ hold c arg12 X.x12
        ∗ (∃ d, hold c arg28 d) ∗ hold c arg13 X.x13 ∗ hold c arg14 X.x14)) := by
  rw [k0_part13_eq_skeleton]
  unfold k0_part13_skel
  iintro ⟨H27, H11, H25, H12, H28, H13, H14⟩
  iapply (w_load c) $$ H27; iintro H27
  iapply (w_load c) $$ H27; iintro H27
  iapply (w_load c) $$ H11; iintro H11
  iapply (w_load c) $$ H25; iintro H25
  iapply (w_load c) $$ H12; iintro H12
  iapply (w_load c) $$ H28; iintro H28
  iapply (w_store c) $$ H28; iintro H28
  iapply (w_load c) $$ H13; iintro H13
  iapply (w_load c) $$ H14; iintro H14
  iapply (w_load c) $$ H28; iintro H28
  iapply (w_load c) $$ H28; iintro H28
  iapply (w_load c) $$ H28; iintro H28
  iapply (w_pure c)
  isplitr
  · ipureintro
    unfold v103
    rw [← win_rows d28 s.vz _ hz 0 (by decide) (inb := inb_S560x1280_S512x1280_0_0), ← win_rows d28 s.vz _ hz 1 (by decide) (inb := inb_S560x1280_S512x1280_16_0),
      ← win_rows d28 s.vz _ hz 2 (by decide) (inb := inb_S560x1280_S512x1280_32_0)]
    rfl
  iframe
  iexists _
  iexact H28

/-- The convolution's carried rows and its first slabs. -/
theorem run_part14 (c : Dev nD) (i : grid0.Coords) (X : Ins F) (s : St F) (d28 : Vec F S560x1280 .f32) :
    iprop(hold c arg28 d28 ∗ filled c arg30 (slabs X s) 0)
      ⊢ W c (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (pv X) (taps X) (v103 X s)) (fun v => iprop(⌜v = ⟨v107 X s, k0_pay106 (pv X) (taps X) (v103 X s)⟩⌝
        ∗ (∃ d, hold c arg28 d ∗ ⌜isZ (nextZ X) d⌝) ∗ filled c arg30 (slabs X s) 5)) := by
  rw [k0_part14_eq_skeleton]
  unfold k0_part14_skel
  iintro ⟨H28, H30⟩
  iapply (w_load c) $$ H28; iintro H28
  iapply (w_store c) $$ H28; iintro H28
  iapply (w_block (N := 10) (R := 512) (C := 128) c 0 (m := arg30) (T := slabs X s) (w := k0_pay101 (pv X) (taps X) (v103 X s)) (by decide) (slab X s) (fun _ _ _ => rfl) rfl) $$ H30; iintro H30
  iapply (w_block (N := 10) (R := 512) (C := 128) c 1 (m := arg30) (T := slabs X s) (w := k0_pay102 (pv X) (taps X) (v103 X s)) (by decide) (slab X s) (fun _ _ _ => rfl) rfl) $$ H30; iintro H30
  iapply (w_block (N := 10) (R := 512) (C := 128) c 2 (m := arg30) (T := slabs X s) (w := k0_pay103 (pv X) (taps X) (v103 X s)) (by decide) (slab X s) (fun _ _ _ => rfl) rfl) $$ H30; iintro H30
  iapply (w_block (N := 10) (R := 512) (C := 128) c 3 (m := arg30) (T := slabs X s) (w := k0_pay104 (pv X) (taps X) (v103 X s)) (by decide) (slab X s) (fun _ _ _ => rfl) rfl) $$ H30; iintro H30
  iapply (w_block (N := 10) (R := 512) (C := 128) c 4 (m := arg30) (T := slabs X s) (w := k0_pay105 (pv X) (taps X) (v103 X s)) (by decide) (slab X s) (fun _ _ _ => rfl) rfl) $$ H30; iintro H30
  iapply (w_pure c)
  isplitr
  · ipureintro; rfl
  iframe
  iexists _
  isplitl [H28]
  · iexact H28
  · ipureintro
    exact fun r q => put2_hit d28 _ _ q r q (by show r.val = 0 + r.val; omega) (by omega)

/-- The other slabs and the first column blocks. -/
theorem run_part15 (c : Dev nD) (i : grid0.Coords) (X : Ins F) (s : St F) :
    iprop(filled c arg30 (slabs X s) 5 ∗ filled c arg29 (blocks X s) 0)
      ⊢ W c (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (v107 X s) (k0_pay106 (pv X) (taps X) (v103 X s))) (fun v => iprop(⌜v = k0_pay114 (v107 X s)⌝
        ∗ filled c arg30 (slabs X s) 10 ∗ filled c arg29 (blocks X s) 2)) := by
  rw [k0_part15_eq_skeleton]
  unfold k0_part15_skel
  iintro ⟨H30, H29⟩
  iapply (w_block (N := 10) (R := 512) (C := 128) c 5 (m := arg30) (T := slabs X s) (w := k0_pay107 (k0_pay106 (pv X) (taps X) (v103 X s))) (by decide) (slab X s) (fun _ _ _ => rfl) rfl) $$ H30; iintro H30
  iapply (w_block (N := 10) (R := 512) (C := 128) c 6 (m := arg30) (T := slabs X s) (w := k0_pay108 (v107 X s)) (by decide) (slab X s) (fun _ _ _ => rfl) rfl) $$ H30; iintro H30
  iapply (w_block (N := 10) (R := 512) (C := 128) c 7 (m := arg30) (T := slabs X s) (w := k0_pay109 (v107 X s)) (by decide) (slab X s) (fun _ _ _ => rfl) rfl) $$ H30; iintro H30
  iapply (w_block (N := 10) (R := 512) (C := 128) c 8 (m := arg30) (T := slabs X s) (w := k0_pay110 (v107 X s)) (by decide) (slab X s) (fun _ _ _ => rfl) rfl) $$ H30; iintro H30
  iapply (w_block (N := 10) (R := 512) (C := 128) c 9 (m := arg30) (T := slabs X s) (w := k0_pay111 (v107 X s)) (by decide) (slab X s) (fun _ _ _ => rfl) rfl) $$ H30; iintro H30
  iapply (w_block (N := 5) (R := 512) (C := 256) c 0 (m := arg29) (T := blocks X s) (w := k0_pay112 (v107 X s)) (by decide) (block X s) (fun _ _ _ => rfl) rfl) $$ H29; iintro H29
  iapply (w_block (N := 5) (R := 512) (C := 256) c 1 (m := arg29) (T := blocks X s) (w := k0_pay113 (v107 X s)) (by decide) (block X s) (fun _ _ _ => rfl) rfl) $$ H29; iintro H29
  iapply (w_pure c)
  isplitr
  · ipureintro; rfl
  · iframe

/-- The other column blocks, the recurrent branch and its projection. -/
theorem run_part16 (c : Dev nD) (i : grid0.Coords) (X : Ins F) (s : St F) (d31 d32 d33 : Vec F S512x256 .f32) (d34 : Vec F S5x512x256 .bf16) :
    iprop(filled c arg29 (blocks X s) 2 ∗ hold c arg30 (slabs X s) ∗ hold c arg25 (htb X) ∗ hold c arg15 X.x15 ∗ hold c arg16 X.x16 ∗ hold c arg17 X.x17
        ∗ hold c arg18 X.x18 ∗ hold c arg19 X.x19 ∗ hold c arg20 X.x20 ∗ hold c arg31 d31 ∗ hold c arg32 d32 ∗ hold c arg33 d33 ∗ hold c arg34 d34 ∗ hold c arg35 s.h)
      ⊢ W c (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (v107 X s) (k0_pay114 (v107 X s))) (fun v => iprop(⌜v = yb X s⌝
        ∗ hold c arg29 (blocks X s) ∗ hold c arg30 (slabs X s) ∗ hold c arg25 (htb X) ∗ hold c arg15 X.x15 ∗ hold c arg16 X.x16 ∗ hold c arg17 X.x17
        ∗ hold c arg18 X.x18 ∗ hold c arg19 X.x19 ∗ hold c arg20 X.x20 ∗ (∃ d, hold c arg31 d) ∗ (∃ d, hold c arg32 d) ∗ (∃ d, hold c arg33 d)
        ∗ hold c arg34 (rAll X s) ∗ hold c arg35 (nextH X s))) := by
  rw [k0_part16_eq_skeleton]
  unfold k0_part16_skel
  iintro ⟨H29, H30, H25, H15, H16, H17, H18, H19, H20, H31, H32, H33, H34, H35⟩
  iapply (w_block (N := 5) (R := 512) (C := 256) c 2 (m := arg29) (T := blocks X s) (w := k0_pay115 (k0_pay114 (v107 X s))) (by decide) (block X s) (fun _ _ _ => rfl) rfl) $$ H29; iintro H29
  iapply (w_block (N := 5) (R := 512) (C := 256) c 3 (m := arg29) (T := blocks X s) (w := k0_pay116 (v107 X s)) (by decide) (block X s) (fun _ _ _ => rfl) rfl) $$ H29; iintro H29
  iapply (w_block (N := 5) (R := 512) (C := 256) c 4 (m := arg29) (T := blocks X s) (w := k0_pay117 (v107 X s)) (by decide) (block X s) (fun _ _ _ => rfl) rfl) $$ H29; iintro H29
  ihave H29 := (filled_all c arg29 (blocks X s)) $$ H29
  iapply (run_loop2 c i _ _ X s) $$ [H25 H30 H29 H15 H16 H17 H18 H19 H31 H32 H33 H34 H35]
  · unfold inv2
    iframe
    isplitl [H31]
    · iexists d31
      iexact H31
    isplitl [H32]
    · iexists d32
      iexact H32
    isplitl [H33]
    · iexists d33
      iexact H33
    iexists d34
    iexists s.h
    iframe
    isplitr
    · ipureintro; exact fun j r q h => absurd h (by omega)
    · ipureintro; exact fun j r q => (if_neg (by omega)).symm
  unfold inv2
  iintro ⟨H25, H30, H29, H15, H16, H17, H18, H19, H31, H32, H33, %e34, %e35, H34, H35, %hR, %hH⟩
  rw [doneR_all hR, doneH_all hH]
  iapply (w_load c) $$ H34; iintro H34
  iapply (w_load c) $$ H34; iintro H34
  iapply (w_load c) $$ H34; iintro H34
  iapply (w_load c) $$ H34; iintro H34
  iapply (w_load c) $$ H34; iintro H34
  iapply (w_load c) $$ H20; iintro H20
  iapply (w_pure c)
  isplitr
  · ipureintro; rfl
  · iframe

/-- The merge and the output projection. -/
theorem run_part17 (c : Dev nD) (i : grid0.Coords) (X : Ins F) (s : St F) (d36 : Vec F S512x1024 .bf16) :
    iprop(hold c arg25 (htb X) ∗ hold c arg21 X.x21 ∗ hold c arg22 X.x22 ∗ hold c arg36 d36 ∗ hold c arg23 X.x23 ∗ hold c arg6 X.x6)
      ⊢ W c (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (perm X) (ya X s) (yb X s)) (fun v => iprop(⌜v = ⟨v232 X s, gf X⟩⌝
        ∗ hold c arg25 (htb X) ∗ hold c arg21 X.x21 ∗ hold c arg22 X.x22 ∗ hold c arg36 (mbt X s) ∗ hold c arg23 X.x23 ∗ hold c arg6 X.x6)) := by
  rw [k0_part17_eq_skeleton]
  unfold k0_part17_skel
  iintro ⟨H25, H21, H22, H36, H23, H6⟩
  iapply (w_load c) $$ H25; iintro H25
  iapply (w_load c) $$ H21; iintro H21
  iapply (w_load c) $$ H22; iintro H22
  iapply (w_load c) $$ H22; iintro H22
  iapply (w_load c) $$ H36; iintro H36
  iapply (w_store c) $$ H36; iintro H36
  iapply (w_load c) $$ H36; iintro H36
  iapply (w_store c) $$ H36; iintro H36
  rw [put_two]
  iapply (w_load c) $$ H36; iintro H36
  iapply (w_load c) $$ H23; iintro H23
  iapply (w_load c) $$ H6; iintro H6
  iapply (w_pure c)
  isplitr
  · ipureintro; rfl
  isplitl [H25]
  · iexact H25
  isplitl [H21]
  · iexact H21
  isplitl [H22]
  · iexact H22
  isplitl [H36]
  · iexact H36
  · iframe

/-- The first half of the output block. -/
theorem run_part18 (c : Dev nD) (i : grid0.Coords) (X : Ins F) (s : St F) (d24 : Vec F S16x32x1024 .f32) :
    iprop(hold c arg1 X.x1 ∗ hold c arg4 X.x4 ∗ hold c arg24 d24)
      ⊢ W c (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (v232 X s) (gf X)) (fun v => iprop(⌜v = ⟨k0_pay128 (gf X), k0_pay130 (v232 X s) (xB X) (gt X), k0_pay131 (v232 X s) (xB X) (gt X)⟩⌝
        ∗ hold c arg1 X.x1 ∗ hold c arg4 X.x4
        ∗ hold c arg24 (put d24 (Rect.unit (s := S16x32x1024) ![0, 0, 0] S16x16x1024.size inb_S16x32x1024_S16x16x1024_0_0_0) (outA X s)))) := by
  rw [k0_part18_eq_skeleton]
  unfold k0_part18_skel
  iintro ⟨H1, H4, H24⟩
  iapply (w_load c) $$ H1; iintro H1
  iapply (w_load c) $$ H4; iintro H4
  iapply (w_load c) $$ H24; iintro H24
  iapply (w_store c) $$ H24; iintro H24
  iapply (w_load c) $$ H1; iintro H1
  iapply (w_load c) $$ H4; iintro H4
  iapply (w_pure c)
  isplitr
  · ipureintro; rfl
  isplitl [H1]
  · iexact H1
  isplitl [H4]
  · iexact H4
  · iexact H24

end Cert.KernelIdeal.Hand
-- ==== Proof.Block.lean ====
/-
  The kernel's body at one grid point, whole: what it leaves in the output block and in the carried values, from what it finds.
-/
module

public import proofs.«01_k».proof.Proof.Parts

@[expose] public section

set_option maxHeartbeats 400000
set_option maxRecDepth 8192

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {arg1 : Memref sig .tc .vmem S16x32x1024 .f32} {harg1 : arg1.IsWhole} {arg2 : Memref sig .tc .vmem S16x1x1024 .f32} {harg2 : arg2.IsWhole} {arg3 : Memref sig .tc .vmem S16x1x1024 .f32} {harg3 : arg3.IsWhole} {arg4 : Memref sig .tc .vmem S16x1x1024 .f32} {harg4 : arg4.IsWhole} {arg5 : Memref sig .tc .vmem S1x1024 .f32} {harg5 : arg5.IsWhole} {arg6 : Memref sig .tc .vmem S1x1024 .f32} {harg6 : arg6.IsWhole} {arg7 : Memref sig .tc .vmem S256x256 .bf16} {harg7 : arg7.IsWhole} {arg8 : Memref sig .tc .vmem S4x1024x1024 .bf16} {harg8 : arg8.IsWhole} {arg9 : Memref sig .tc .vmem S4x3x256 .f32} {harg9 : arg9.IsWhole} {arg10 : Memref sig .tc .vmem S4x1x256 .f32} {harg10 : arg10.IsWhole} {arg11 : Memref sig .tc .vmem S1024x1024 .bf16} {harg11 : arg11.IsWhole} {arg12 : Memref sig .tc .vmem S1024x1280 .bf16} {harg12 : arg12.IsWhole} {arg13 : Memref sig .tc .vmem S4x1280 .f32} {harg13 : arg13.IsWhole} {arg14 : Memref sig .tc .vmem S1x1280 .f32} {harg14 : arg14.IsWhole} {arg15 : Memref sig .tc .vmem S5x512x512 .bf16} {harg15 : arg15.IsWhole} {arg16 : Memref sig .tc .vmem S5x1x256 .f32} {harg16 : arg16.IsWhole} {arg17 : Memref sig .tc .vmem S5x1x256 .f32} {harg17 : arg17.IsWhole} {arg18 : Memref sig .tc .vmem S5x1x256 .f32} {harg18 : arg18.IsWhole} {arg19 : Memref sig .tc .vmem S5x1024x256 .bf16} {harg19 : arg19.IsWhole} {arg20 : Memref sig .tc .vmem S1280x1024 .bf16} {harg20 : arg20.IsWhole} {arg21 : Memref sig .tc .vmem S1024x2048 .bf16} {harg21 : arg21.IsWhole} {arg22 : Memref sig .tc .vmem S2x1024 .f32} {harg22 : arg22.IsWhole} {arg23 : Memref sig .tc .vmem S1024x1024 .bf16} {harg23 : arg23.IsWhole} {arg24 : Memref sig .tc .vmem S16x32x1024 .f32} {harg24 : arg24.IsWhole} {arg25 : Memref sig .tc .vmem S512x1024 .bf16} {harg25 : arg25.IsWhole} {arg26 : Memref sig .tc .vmem S4x544x256 .f32} {harg26 : arg26.IsWhole} {arg27 : Memref sig .tc .vmem S4x512x256 .bf16} {harg27 : arg27.IsWhole} {arg28 : Memref sig .tc .vmem S560x1280 .f32} {harg28 : arg28.IsWhole} {arg29 : Memref sig .tc .vmem S5x512x256 .f32} {harg29 : arg29.IsWhole} {arg30 : Memref sig .tc .vmem S10x512x128 .bf16} {harg30 : arg30.IsWhole} {arg31 : Memref sig .tc .vmem S512x256 .f32} {harg31 : arg31.IsWhole} {arg32 : Memref sig .tc .vmem S512x256 .f32} {harg32 : arg32.IsWhole} {arg33 : Memref sig .tc .vmem S512x256 .f32} {harg33 : arg33.IsWhole} {arg34 : Memref sig .tc .vmem S5x512x256 .bf16} {harg34 : arg34.IsWhole} {arg35 : Memref sig .tc .vmem S5x16x256 .f32} {harg35 : arg35.IsWhole} {arg36 : Memref sig .tc .vmem S512x1024 .bf16} {harg36 : arg36.IsWhole}

/-- The body at a grid point: the inputs stay, the output block ends at `out`, the carried values at `next`. -/
theorem run_block (c : Dev nD) (i : grid0.Coords) (X : Ins F) (s : St F) :
    iprop((hold c arg1 X.x1 ∗ hold c arg2 X.x2 ∗ hold c arg3 X.x3 ∗ hold c arg4 X.x4 ∗ hold c arg5 X.x5 ∗ hold c arg6 X.x6 ∗ hold c arg7 X.x7 ∗ hold c arg8 X.x8 ∗ hold c arg9 X.x9 ∗ hold c arg10 X.x10 ∗ hold c arg11 X.x11 ∗ hold c arg12 X.x12 ∗ hold c arg13 X.x13 ∗ hold c arg14 X.x14 ∗ hold c arg15 X.x15 ∗ hold c arg16 X.x16 ∗ hold c arg17 X.x17 ∗ hold c arg18 X.x18 ∗ hold c arg19 X.x19 ∗ hold c arg20 X.x20 ∗ hold c arg21 X.x21 ∗ hold c arg22 X.x22 ∗ hold c arg23 X.x23) ∗ (∃ d, hold c arg24 d) ∗ found c arg26 arg28 arg35 i s
        ∗ (∃ d, hold c arg25 d) ∗ (∃ d, hold c arg27 d) ∗ (∃ d, hold c arg29 d) ∗ (∃ d, hold c arg30 d) ∗ (∃ d, hold c arg31 d) ∗ (∃ d, hold c arg32 d) ∗ (∃ d, hold c arg33 d) ∗ (∃ d, hold c arg34 d) ∗ (∃ d, hold c arg36 d))
      ⊢ W c (cc0_hybrid_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) (fun _ => iprop((hold c arg1 X.x1 ∗ hold c arg2 X.x2 ∗ hold c arg3 X.x3 ∗ hold c arg4 X.x4 ∗ hold c arg5 X.x5 ∗ hold c arg6 X.x6 ∗ hold c arg7 X.x7 ∗ hold c arg8 X.x8 ∗ hold c arg9 X.x9 ∗ hold c arg10 X.x10 ∗ hold c arg11 X.x11 ∗ hold c arg12 X.x12 ∗ hold c arg13 X.x13 ∗ hold c arg14 X.x14 ∗ hold c arg15 X.x15 ∗ hold c arg16 X.x16 ∗ hold c arg17 X.x17 ∗ hold c arg18 X.x18 ∗ hold c arg19 X.x19 ∗ hold c arg20 X.x20 ∗ hold c arg21 X.x21 ∗ hold c arg22 X.x22 ∗ hold c arg23 X.x23) ∗ hold c arg24 (out X (start i s)) ∗ carried c arg26 arg28 arg35 (next X (start i s))
        ∗ (∃ d, hold c arg25 d) ∗ (∃ d, hold c arg27 d) ∗ (∃ d, hold c arg29 d) ∗ (∃ d, hold c arg30 d) ∗ (∃ d, hold c arg31 d) ∗ (∃ d, hold c arg32 d) ∗ (∃ d, hold c arg33 d) ∗ (∃ d, hold c arg34 d) ∗ (∃ d, hold c arg36 d))) := by
  rw [cc0_hybrid_block_eq_skeleton]
  unfold cc0_hybrid_block_skel
  iintro ⟨⟨H1, H2, H3, H4, H5, H6, H7, H8, H9, H10, H11, H12, H13, H14, H15, H16, H17, H18, H19, H20, H21, H22, H23⟩, ⟨%d24, H24⟩, HF, ⟨%d25, H25⟩, ⟨%d27, H27⟩, ⟨%d29, H29⟩, ⟨%d30, H30⟩, ⟨%d31, H31⟩, ⟨%d32, H32⟩, ⟨%d33, H33⟩, ⟨%d34, H34⟩, ⟨%d36, H36⟩⟩
  iapply (w_bind c) $$ [HF H7 H5 H3 H1 H2 H25]
  · iapply (run_part11 c i X s d25)
    iframe
  iintro %v ⟨%y, %hv, HF, H7, H5, H3, H1, H2, H25⟩
  subst hv
  dsimp only
  unfold carried
  icases HF with ⟨%d26, %d28, H26, H28, H35, %hu, %hz⟩
  iapply (w_part c (run_part12 c i X (start i s) y d25 d26 d27 hu)) $$ [H25 H1 H2 H8 H9 H10 H26 H27]
  · iframe
  iintro ⟨H25, H1, H2, H8, H9, H10, ⟨%e26, H26, %hU⟩, H27⟩
  dsimp only
  iapply (w_part c (run_part13 c i X (start i s) d28 hz)) $$ [H27 H11 H25 H12 H28 H13 H14]
  · iframe
  iintro ⟨H27, H11, H25, H12, ⟨%e28, H28⟩, H13, H14⟩
  dsimp only
  ihave H30 := (filled_zero c arg30 (slabs X (start i s)) d30) $$ H30
  iapply (w_part c (run_part14 c i X (start i s) e28)) $$ [H28 H30]
  · iframe
  iintro ⟨⟨%f28, H28, %hZ⟩, H30⟩
  dsimp only
  ihave H29 := (filled_zero c arg29 (blocks X (start i s)) d29) $$ H29
  iapply (w_part c (run_part15 c i X (start i s))) $$ [H29 H30]
  · iframe
  iintro ⟨H30, H29⟩
  ihave H30 := (filled_all c arg30 (slabs X (start i s))) $$ H30
  iapply (w_part c (run_part16 c i X (start i s) d31 d32 d33 d34)) $$ [H29 H30 H25 H15 H16 H17 H18 H19 H20 H31 H32 H33 H34 H35]
  · iframe
  iintro ⟨H29, H30, H25, H15, H16, H17, H18, H19, H20, ⟨%e31, H31⟩, ⟨%e32, H32⟩, ⟨%e33, H33⟩, H34, H35⟩
  iapply (w_part c (run_part17 c i X (start i s) d36)) $$ [H25 H21 H22 H36 H23 H6]
  · iframe
  iintro ⟨H25, H21, H22, H36, H23, H6⟩
  dsimp only
  iapply (w_part c (run_part18 c i X (start i s) d24)) $$ [H1 H4 H24]
  · iframe
  iintro ⟨H1, H4, H24⟩
  dsimp only
  iapply (w_load c) $$ H24; iintro H24
  iapply (w_store c) $$ H24; iintro H24
  iapply (w_pure c)
  rw [put_out_two]
  isplitl [H1 H2 H3 H4 H5 H6 H7 H8 H9 H10 H11 H12 H13 H14 H15 H16 H17 H18 H19 H20 H21 H22 H23]
  · iframe
  isplitl [H24]
  · iexact H24
  isplitl [H26 H28 H35]
  · iexists e26
    iexists f28
    isplitl [H26]
    · iexact H26
    isplitl [H28]
    · iexact H28
    isplitl [H35]
    · iexact H35
    isplitr
    · ipureintro; exact hU
    · ipureintro; exact hZ
  isplitl [H25]
  · iexists _
    iexact H25
  isplitl [H27]
  · iexists _
    iexact H27
  isplitl [H29]
  · iexists _
    iexact H29
  isplitl [H30]
  · iexists _
    iexact H30
  isplitl [H31]
  · iexists _
    iexact H31
  isplitl [H32]
  · iexists _
    iexact H32
  isplitl [H33]
  · iexists _
    iexact H33
  isplitl [H34]
  · iexists _
    iexact H34
  iexists _
  iexact H36

end Cert.KernelIdeal.Hand
-- ==== Proof.HandFrame.lean ====
/-
  The run of @main: the pipeline's proof data, with the kernel's body run at a generic point, and the frame claims' posts from it.
-/
module

public import proofs.«01_k».proof.Proof.Block
public import proofs.«01_k».proof.Proof.Gen.KernelIdeal.Frame
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The grid point, its inputs and the carried values -/

/-- The kernel's test of the first point, by the point's position. -/
theorem first_iff (t : Fin cfg0.N) : first (grid0.coords t) ↔ t.val = 0 := by
  have ht : t.val < 64 := Nat.lt_of_lt_of_eq t.isLt N_0
  have e0 : (grid0.coords t 0).val = t.val / 1 % 64 := Pipeline.Grid.coords_val t 0 (by decide) rfl
  rw [show t.val = 0 ↔ t.val % 64 = 0 by omega]
  simp only [first, e0]
  word_cmp

/-- Scratch operand 0 as a memref. -/
abbrev scr0 : Memref sig .tc .vmem S512x1024 .bf16 := Memref.whole cc0_scratch0
/-- Scratch operand 1 as a memref. -/
abbrev scr1 : Memref sig .tc .vmem S4x544x256 .f32 := Memref.whole cc0_scratch1
/-- Scratch operand 2 as a memref. -/
abbrev scr2 : Memref sig .tc .vmem S4x512x256 .bf16 := Memref.whole cc0_scratch2
/-- Scratch operand 3 as a memref. -/
abbrev scr3 : Memref sig .tc .vmem S560x1280 .f32 := Memref.whole cc0_scratch3
/-- Scratch operand 4 as a memref. -/
abbrev scr4 : Memref sig .tc .vmem S5x512x256 .f32 := Memref.whole cc0_scratch4
/-- Scratch operand 5 as a memref. -/
abbrev scr5 : Memref sig .tc .vmem S10x512x128 .bf16 := Memref.whole cc0_scratch5
/-- Scratch operand 6 as a memref. -/
abbrev scr6 : Memref sig .tc .vmem S512x256 .f32 := Memref.whole cc0_scratch6
/-- Scratch operand 7 as a memref. -/
abbrev scr7 : Memref sig .tc .vmem S512x256 .f32 := Memref.whole cc0_scratch7
/-- Scratch operand 8 as a memref. -/
abbrev scr8 : Memref sig .tc .vmem S512x256 .f32 := Memref.whole cc0_scratch8
/-- Scratch operand 9 as a memref. -/
abbrev scr9 : Memref sig .tc .vmem S5x512x256 .bf16 := Memref.whole cc0_scratch9
/-- Scratch operand 10 as a memref. -/
abbrev scr10 : Memref sig .tc .vmem S5x16x256 .f32 := Memref.whole cc0_scratch10
/-- Scratch operand 11 as a memref. -/
abbrev scr11 : Memref sig .tc .vmem S512x1024 .bf16 := Memref.whole cc0_scratch11

/-- The input blocks at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

/-- The carried values before the point at position `n`. -/
def stAt (c : Dev nD) : ℕ → St F
  | 0 => zero
  | n + 1 => if h : n < cfg0.N then next (insAt m c ⟨n, h⟩) (stAt c n) else stAt c n

/-- After a point the carried values are what it leaves. -/
theorem stAt_succ (c : Dev nD) (t : Fin cfg0.N) : stAt m c (t.val + 1) = next (insAt m c t) (stAt m c t.val) := by
  show (if h : t.val < cfg0.N then next (insAt m c ⟨t.val, h⟩) (stAt m c t.val) else stAt m c t.val) = _
  rw [dif_pos t.isLt]

/-- The values the kernel starts the first point from are those before it. -/
theorem start_stAt (c : Dev nD) (t : Fin cfg0.N) : start (grid0.coords t) (stAt m c t.val) = stAt m c t.val := by
  unfold start
  by_cases h : t.val = 0
  · rw [if_pos ((first_iff t).mpr h), h]; rfl
  · rw [if_neg (fun hf => h ((first_iff t).mp hf))]

/-- The carried buffers, which hold the carried values where `p` holds. -/
def mid (c : Dev nD) (p : Prop) (s : St F) : sProp 𝕄 :=
  iprop(∃ d26 d28 d35, hold c scr1 d26 ∗ hold c scr3 d28 ∗ hold c scr10 d35 ∗ ⌜p → isU s.u d26 ∧ isZ s.vz d28 ∧ d35 = s.h⌝)

/-- The other scratch buffers. -/
def others (c : Dev nD) : sProp 𝕄 :=
  iprop((∃ d, hold c scr0 d) ∗ (∃ d, hold c scr2 d) ∗ (∃ d, hold c scr4 d) ∗ (∃ d, hold c scr5 d) ∗ (∃ d, hold c scr6 d) ∗ (∃ d, hold c scr7 d) ∗ (∃ d, hold c scr8 d) ∗ (∃ d, hold c scr9 d) ∗ (∃ d, hold c scr11 d))

/-- The invariant before position `n`. -/
def phi (c : Dev nD) (n : ℕ) : sProp 𝕄 :=
  iprop((others c ∗ mid c (n ≠ 0) (stAt m c n)) ∗ (∃ r, prngReg c r))

/-- The scratch buffers of the region, one by one. -/
theorem phi_launch (c : Dev nD) : (Pipeline.ΦA spec0 c : sProp 𝕄)
    = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d) ∗ (∃ d, owns (c : Thread nD τ) scr11 fullShare d)) ∗ (∃ r, prngReg c r)) := by
  unfold Pipeline.ΦA; rw [scopedRest0_eq]; simp only [scr0, scr1, scr2, scr3, scr4, scr5, scr6, scr7, scr8, scr9, scr10, scr11, owns_whole]; try rfl

/-- A run's post weakened. -/
theorem w_imp (c : Dev nD) {α : Type} {P : sProp 𝕄} {p : Prog (TpuEff nD τ sig (Elt F) Λ₀ .tc) α} {R Q : α → sProp 𝕄} (h : P ⊢ W c p R) :
    P ⊢ iprop((∀ v, R v -∗ Q v) -∗ W c p Q) := by
  have e : p = p >>= fun v => pure v := (bind_pure p).symm
  iintro H HK
  rw [e]
  iapply (w_bind c (R := R)) $$ [H]
  · iapply h; iexact H
  iintro %v HR
  iapply (w_pure c)
  iapply HK
  iexact HR

/-! ### The pipeline's proof data -/

/-- The pipeline's proof data: an input's buffer at its block, the output's at the block's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out (insAt m c t) (stAt m c t.val)
    | ⟨_ + 24, h⟩ => absurd h (Nat.not_lt.2 (Nat.le_add_left _ _))
  Φ t := phi m c t.val
  q _ := fullShare
  owed _ := 0

/-- The arrays as the region finds them. -/
theorem A_eq (c : Dev nD) (w : Fin cfg0.W) : (dats m 0 c).A w = V m c (Pipeline.arrRef spec0 w) := by
  dsimp only [dats]

/-- Window 0 stays at its block. -/
theorem after_0 (c : Dev nD) (t : Fin cfg0.N) : (dats m 0 c).after 0 t = iblk m c 0 t := by dsimp only [dats]
/-- Window 1 stays at its block. -/
theorem after_1 (c : Dev nD) (t : Fin cfg0.N) : (dats m 0 c).after 1 t = iblk m c 1 t := by dsimp only [dats]
/-- Window 2 stays at its block. -/
theorem after_2 (c : Dev nD) (t : Fin cfg0.N) : (dats m 0 c).after 2 t = iblk m c 2 t := by dsimp only [dats]
/-- Window 3 stays at its block. -/
theorem after_3 (c : Dev nD) (t : Fin cfg0.N) : (dats m 0 c).after 3 t = iblk m c 3 t := by dsimp only [dats]
/-- Window 4 stays at its block. -/
theorem after_4 (c : Dev nD) (t : Fin cfg0.N) : (dats m 0 c).after 4 t = iblk m c 4 t := by dsimp only [dats]
/-- Window 5 stays at its block. -/
theorem after_5 (c : Dev nD) (t : Fin cfg0.N) : (dats m 0 c).after 5 t = iblk m c 5 t := by dsimp only [dats]
/-- Window 6 stays at its block. -/
theorem after_6 (c : Dev nD) (t : Fin cfg0.N) : (dats m 0 c).after 6 t = iblk m c 6 t := by dsimp only [dats]
/-- Window 7 stays at its block. -/
theorem after_7 (c : Dev nD) (t : Fin cfg0.N) : (dats m 0 c).after 7 t = iblk m c 7 t := by dsimp only [dats]
/-- Window 8 stays at its block. -/
theorem after_8 (c : Dev nD) (t : Fin cfg0.N) : (dats m 0 c).after 8 t = iblk m c 8 t := by dsimp only [dats]
/-- Window 9 stays at its block. -/
theorem after_9 (c : Dev nD) (t : Fin cfg0.N) : (dats m 0 c).after 9 t = iblk m c 9 t := by dsimp only [dats]
/-- Window 10 stays at its block. -/
theorem after_10 (c : Dev nD) (t : Fin cfg0.N) : (dats m 0 c).after 10 t = iblk m c 10 t := by dsimp only [dats]
/-- Window 11 stays at its block. -/
theorem after_11 (c : Dev nD) (t : Fin cfg0.N) : (dats m 0 c).after 11 t = iblk m c 11 t := by dsimp only [dats]
/-- Window 12 stays at its block. -/
theorem after_12 (c : Dev nD) (t : Fin cfg0.N) : (dats m 0 c).after 12 t = iblk m c 12 t := by dsimp only [dats]
/-- Window 13 stays at its block. -/
theorem after_13 (c : Dev nD) (t : Fin cfg0.N) : (dats m 0 c).after 13 t = iblk m c 13 t := by dsimp only [dats]
/-- Window 14 stays at its block. -/
theorem after_14 (c : Dev nD) (t : Fin cfg0.N) : (dats m 0 c).after 14 t = iblk m c 14 t := by dsimp only [dats]
/-- Window 15 stays at its block. -/
theorem after_15 (c : Dev nD) (t : Fin cfg0.N) : (dats m 0 c).after 15 t = iblk m c 15 t := by dsimp only [dats]
/-- Window 16 stays at its block. -/
theorem after_16 (c : Dev nD) (t : Fin cfg0.N) : (dats m 0 c).after 16 t = iblk m c 16 t := by dsimp only [dats]
/-- Window 17 stays at its block. -/
theorem after_17 (c : Dev nD) (t : Fin cfg0.N) : (dats m 0 c).after 17 t = iblk m c 17 t := by dsimp only [dats]
/-- Window 18 stays at its block. -/
theorem after_18 (c : Dev nD) (t : Fin cfg0.N) : (dats m 0 c).after 18 t = iblk m c 18 t := by dsimp only [dats]
/-- Window 19 stays at its block. -/
theorem after_19 (c : Dev nD) (t : Fin cfg0.N) : (dats m 0 c).after 19 t = iblk m c 19 t := by dsimp only [dats]
/-- Window 20 stays at its block. -/
theorem after_20 (c : Dev nD) (t : Fin cfg0.N) : (dats m 0 c).after 20 t = iblk m c 20 t := by dsimp only [dats]
/-- Window 21 stays at its block. -/
theorem after_21 (c : Dev nD) (t : Fin cfg0.N) : (dats m 0 c).after 21 t = iblk m c 21 t := by dsimp only [dats]
/-- Window 22 stays at its block. -/
theorem after_22 (c : Dev nD) (t : Fin cfg0.N) : (dats m 0 c).after 22 t = iblk m c 22 t := by dsimp only [dats]
/-- The output's window ends at the block's value. -/
theorem after_23 (c : Dev nD) (t : Fin cfg0.N) : (dats m 0 c).after 23 t = out (insAt m c t) (stAt m c t.val) := by dsimp only [dats]
/-- Window 0 holds its block before the body. -/
theorem before_0 (c : Dev nD) (t : Fin cfg0.N) (d) : (dats m 0 c).before 0 t d = iblk m c 0 t :=
  before0_0_of m (dats m 0 c) (A_eq m c 0) (after_0 m c) t d
/-- Window 1 holds its block before the body. -/
theorem before_1 (c : Dev nD) (t : Fin cfg0.N) (d) : (dats m 0 c).before 1 t d = iblk m c 1 t :=
  before0_1_of m (dats m 0 c) (A_eq m c 1) (after_1 m c) t d
/-- Window 2 holds its block before the body. -/
theorem before_2 (c : Dev nD) (t : Fin cfg0.N) (d) : (dats m 0 c).before 2 t d = iblk m c 2 t :=
  before0_2_of m (dats m 0 c) (A_eq m c 2) (after_2 m c) t d
/-- Window 3 holds its block before the body. -/
theorem before_3 (c : Dev nD) (t : Fin cfg0.N) (d) : (dats m 0 c).before 3 t d = iblk m c 3 t :=
  before0_3_of m (dats m 0 c) (A_eq m c 3) (after_3 m c) t d
/-- Window 4 holds its block before the body. -/
theorem before_4 (c : Dev nD) (t : Fin cfg0.N) (d) : (dats m 0 c).before 4 t d = iblk m c 4 t :=
  before0_4_of m (dats m 0 c) (A_eq m c 4) (after_4 m c) t d
/-- Window 5 holds its block before the body. -/
theorem before_5 (c : Dev nD) (t : Fin cfg0.N) (d) : (dats m 0 c).before 5 t d = iblk m c 5 t :=
  before0_5_of m (dats m 0 c) (A_eq m c 5) (after_5 m c) t d
/-- Window 6 holds its block before the body. -/
theorem before_6 (c : Dev nD) (t : Fin cfg0.N) (d) : (dats m 0 c).before 6 t d = iblk m c 6 t :=
  before0_6_of m (dats m 0 c) (A_eq m c 6) (after_6 m c) t d
/-- Window 7 holds its block before the body. -/
theorem before_7 (c : Dev nD) (t : Fin cfg0.N) (d) : (dats m 0 c).before 7 t d = iblk m c 7 t :=
  before0_7_of m (dats m 0 c) (A_eq m c 7) (after_7 m c) t d
/-- Window 8 holds its block before the body. -/
theorem before_8 (c : Dev nD) (t : Fin cfg0.N) (d) : (dats m 0 c).before 8 t d = iblk m c 8 t :=
  before0_8_of m (dats m 0 c) (A_eq m c 8) (after_8 m c) t d
/-- Window 9 holds its block before the body. -/
theorem before_9 (c : Dev nD) (t : Fin cfg0.N) (d) : (dats m 0 c).before 9 t d = iblk m c 9 t :=
  before0_9_of m (dats m 0 c) (A_eq m c 9) (after_9 m c) t d
/-- Window 10 holds its block before the body. -/
theorem before_10 (c : Dev nD) (t : Fin cfg0.N) (d) : (dats m 0 c).before 10 t d = iblk m c 10 t :=
  before0_10_of m (dats m 0 c) (A_eq m c 10) (after_10 m c) t d
/-- Window 11 holds its block before the body. -/
theorem before_11 (c : Dev nD) (t : Fin cfg0.N) (d) : (dats m 0 c).before 11 t d = iblk m c 11 t :=
  before0_11_of m (dats m 0 c) (A_eq m c 11) (after_11 m c) t d
/-- Window 12 holds its block before the body. -/
theorem before_12 (c : Dev nD) (t : Fin cfg0.N) (d) : (dats m 0 c).before 12 t d = iblk m c 12 t :=
  before0_12_of m (dats m 0 c) (A_eq m c 12) (after_12 m c) t d
/-- Window 13 holds its block before the body. -/
theorem before_13 (c : Dev nD) (t : Fin cfg0.N) (d) : (dats m 0 c).before 13 t d = iblk m c 13 t :=
  before0_13_of m (dats m 0 c) (A_eq m c 13) (after_13 m c) t d
/-- Window 14 holds its block before the body. -/
theorem before_14 (c : Dev nD) (t : Fin cfg0.N) (d) : (dats m 0 c).before 14 t d = iblk m c 14 t :=
  before0_14_of m (dats m 0 c) (A_eq m c 14) (after_14 m c) t d
/-- Window 15 holds its block before the body. -/
theorem before_15 (c : Dev nD) (t : Fin cfg0.N) (d) : (dats m 0 c).before 15 t d = iblk m c 15 t :=
  before0_15_of m (dats m 0 c) (A_eq m c 15) (after_15 m c) t d
/-- Window 16 holds its block before the body. -/
theorem before_16 (c : Dev nD) (t : Fin cfg0.N) (d) : (dats m 0 c).before 16 t d = iblk m c 16 t :=
  before0_16_of m (dats m 0 c) (A_eq m c 16) (after_16 m c) t d
/-- Window 17 holds its block before the body. -/
theorem before_17 (c : Dev nD) (t : Fin cfg0.N) (d) : (dats m 0 c).before 17 t d = iblk m c 17 t :=
  before0_17_of m (dats m 0 c) (A_eq m c 17) (after_17 m c) t d
/-- Window 18 holds its block before the body. -/
theorem before_18 (c : Dev nD) (t : Fin cfg0.N) (d) : (dats m 0 c).before 18 t d = iblk m c 18 t :=
  before0_18_of m (dats m 0 c) (A_eq m c 18) (after_18 m c) t d
/-- Window 19 holds its block before the body. -/
theorem before_19 (c : Dev nD) (t : Fin cfg0.N) (d) : (dats m 0 c).before 19 t d = iblk m c 19 t :=
  before0_19_of m (dats m 0 c) (A_eq m c 19) (after_19 m c) t d
/-- Window 20 holds its block before the body. -/
theorem before_20 (c : Dev nD) (t : Fin cfg0.N) (d) : (dats m 0 c).before 20 t d = iblk m c 20 t :=
  before0_20_of m (dats m 0 c) (A_eq m c 20) (after_20 m c) t d
/-- Window 21 holds its block before the body. -/
theorem before_21 (c : Dev nD) (t : Fin cfg0.N) (d) : (dats m 0 c).before 21 t d = iblk m c 21 t :=
  before0_21_of m (dats m 0 c) (A_eq m c 21) (after_21 m c) t d
/-- Window 22 holds its block before the body. -/
theorem before_22 (c : Dev nD) (t : Fin cfg0.N) (d) : (dats m 0 c).before 22 t d = iblk m c 22 t :=
  before0_22_of m (dats m 0 c) (A_eq m c 22) (after_22 m c) t d

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- What the body returns at a point. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
/-- The body at any point, by its run. -/
theorem body_at (c : Dev nD) (t : Fin cfg0.N) :
    pre m c t ⊢ wp frame (wpE (defs₀ (F := F)) Variants.none c none) Set.univ (bodyAt0 t) (fun _ => post m c t) := by
  unfold pre post
  simp only [before_0, before_1, before_2, before_3, before_4, before_5, before_6, before_7, before_8, before_9, before_10, before_11, before_12, before_13, before_14, before_15, before_16, before_17, before_18, before_19, before_20, before_21, before_22]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  rw [show (dats m 0 c).Φ t.succ = phi m c (t.val + 1) from rfl, show (dats m 0 c).Φ t.castSucc = phi m c t.val from rfl]
  unfold phi others mid hold
  iintro ⟨⟨⟨⟨S0, S2, S4, S5, S6, S7, S8, S9, S11⟩, ⟨%d26, %d28, %d35, S1, S3, S10, %hp⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (w_imp c (run_block c (grid0.coords t) (insAt m c t) (stAt m c t.val))) $$ [H0 H1 H2 H3 H4 H5 H6 H7 H8 H9 H10 H11 H12 H13 H14 H15 H16 H17 H18 H19 H20 H21 H22 H23 S0 S1 S2 S3 S4 S5 S6 S7 S8 S9 S10 S11]
  · unfold found hold
    isplitl [H0 H1 H2 H3 H4 H5 H6 H7 H8 H9 H10 H11 H12 H13 H14 H15 H16 H17 H18 H19 H20 H21 H22]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      isplitl [H18]
      · iexact H18
      isplitl [H19]
      · iexact H19
      isplitl [H20]
      · iexact H20
      isplitl [H21]
      · iexact H21
      iexact H22
    isplitl [H23]
    · iexists _
      iexact H23
    isplitl [S1 S3 S10]
    · iexists d26
      iexists d28
      iexists d35
      isplitl [S1]
      · iexact S1
      isplitl [S3]
      · iexact S3
      isplitl [S10]
      · iexact S10
      ipureintro
      exact fun h => hp (fun h0 => h ((first_iff t).mpr h0))
    isplitl [S0]
    · iexact S0
    isplitl [S2]
    · iexact S2
    isplitl [S4]
    · iexact S4
    isplitl [S5]
    · iexact S5
    isplitl [S6]
    · iexact S6
    isplitl [S7]
    · iexact S7
    isplitl [S8]
    · iexact S8
    isplitl [S9]
    · iexact S9
    iexact S11
  iintro %u
  unfold carried hold
  iintro ⟨⟨H0, H1, H2, H3, H4, H5, H6, H7, H8, H9, H10, H11, H12, H13, H14, H15, H16, H17, H18, H19, H20, H21, H22⟩, H23, ⟨%e26, %e28, S1, S3, S10, %hu, %hz⟩, S0, S2, S4, S5, S6, S7, S8, S9, S11⟩
  rw [start_stAt] at hu hz ⊢
  isplitl [S0 S1 S2 S3 S4 S5 S6 S7 S8 S9 S10 S11 Hg]
  · isplitr [Hg]
    · isplitr [S1 S3 S10]
      · isplitl [S0]
        · iexact S0
        isplitl [S2]
        · iexact S2
        isplitl [S4]
        · iexact S4
        isplitl [S5]
        · iexact S5
        isplitl [S6]
        · iexact S6
        isplitl [S7]
        · iexact S7
        isplitl [S8]
        · iexact S8
        isplitl [S9]
        · iexact S9
        iexact S11
      · iexists e26
        iexists e28
        iexists (next (insAt m c t) (stAt m c t.val)).h
        isplitl [S1]
        · iexact S1
        isplitl [S3]
        · iexact S3
        isplitl [S10]
        · iexact S10
        ipureintro
        rw [stAt_succ]
        exact fun _ => ⟨hu, hz, rfl⟩
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  iexact H23

/-- The body table's row at a point is the body at it. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-- What the launch hands the region is the invariant before the first point. -/
theorem phi_in (c : Dev nD) : Pipeline.ΦA spec0 c ⊢ (dats m 0 c).Φ 0 := by
  rw [show (dats m 0 c).Φ 0 = phi m c 0 from rfl, phi_launch]
  unfold phi others mid hold
  iintro ⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩⟩, Hg⟩
  isplitr [Hg]
  · isplitr [S1 S3 S10]
    · isplitl [S0]
      · iexists d0
        iexact S0
      isplitl [S2]
      · iexists d2
        iexact S2
      isplitl [S4]
      · iexists d4
        iexact S4
      isplitl [S5]
      · iexists d5
        iexact S5
      isplitl [S6]
      · iexists d6
        iexact S6
      isplitl [S7]
      · iexists d7
        iexact S7
      isplitl [S8]
      · iexists d8
        iexact S8
      isplitl [S9]
      · iexists d9
        iexact S9
      iexists d11
      iexact S11
    · iexists d1
      iexists d3
      iexists d10
      isplitl [S1]
      · iexact S1
      isplitl [S3]
      · iexact S3
      isplitl [S10]
      · iexact S10
      ipureintro
      exact fun h => absurd rfl h
  · iexact Hg

/-- After the last point the invariant gives the scratch buffers back. -/
theorem phi_out (c : Dev nD) : (dats m 0 c).Φ (Fin.last cfg0.N) ⊢ Pipeline.ΦA spec0 c := by
  rw [show (dats m 0 c).Φ (Fin.last cfg0.N) = phi m c (Fin.last cfg0.N).val from rfl, phi_launch]
  unfold phi others mid hold
  iintro ⟨⟨⟨⟨%d0, S0⟩, ⟨%d2, S2⟩, ⟨%d4, S4⟩, ⟨%d5, S5⟩, ⟨%d6, S6⟩, ⟨%d7, S7⟩, ⟨%d8, S8⟩, ⟨%d9, S9⟩, ⟨%d11, S11⟩⟩, ⟨%d1, %d3, %d10, S1, S3, S10, %_hp⟩⟩, Hg⟩
  isplitr [Hg]
  · isplitl [S0]
    · iexists d0
      iexact S0
    isplitl [S1]
    · iexists d1
      iexact S1
    isplitl [S2]
    · iexists d2
      iexact S2
    isplitl [S3]
    · iexists d3
      iexact S3
    isplitl [S4]
    · iexists d4
      iexact S4
    isplitl [S5]
    · iexists d5
      iexact S5
    isplitl [S6]
    · iexists d6
      iexact S6
    isplitl [S7]
    · iexists d7
      iexact S7
    isplitl [S8]
    · iexists d8
      iexact S8
    isplitl [S9]
    · iexists d9
      iexact S9
    isplitl [S10]
    · iexists d10
      iexact S10
    iexists d11
    iexact S11
  · iexact Hg

/-! ### The run and the frame -/

set_option backward.isDefEq.respectTransparency.types false in
/-- The run of @main: every array of the pipeline at the proof data's value, every other buffer as found, the counters at zero. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := phi_in m) (hout := phi_out m)

/-- The frame's post at any values: the argument arrays unchanged, the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand
-- ==== Proof.Modulate.lean ====
module

public import proofs.«01_k».proof.Defs
public import proofs.«01_k».proof.Proof.Gen.Modulation.Frame
public import proofs.«01_k».proof.Proof.Gen.ModulationIdeal.Value
public import proofs.«01_k».proof.Proof.Gen.ModulationReferenceIdeal.Run
public import proofs.«01_k».proof.Proof.Gen.ModulationReferenceIdeal.Read
public import Idealize.ShloMosaic.Lib.Pointwise
public import Idealize.ShloMosaic.Lib.Pipeline.ValueKit
public import Idealize.ShloMosaic.Lib.StableHlo.ReadAt
public import Idealize.ShloMosaic.Lib.Quiescent

@[expose] public section

noncomputable section

namespace Cert.Modulate

open Idealize.ShloMosaic Idealize.ShloMosaic.TcCoe Idealize.SL.Sem
open Cert.ModulationIdeal Cert.ModulationIdeal.Gen
open Idealize.ShloMosaic.Pipeline (Dat)

variable (m : (ℓ : Loc nD τ sig) → Buf (Elt Ideal) ℓ)

/-- Column block `t` of the product: the condition's block is the whole condition. -/
theorem index0 : ∀ t : Fin cfg0.N, win0_0.index t = ![0, 0] :=
  (by decide +kernel : ∀ t : Fin grid0.N, _)
/-- The weight's block `t` is its column block `t`. -/
theorem index1 : ∀ t : Fin cfg0.N, win0_1.index t = ![0, t.val] :=
  (by decide +kernel : ∀ t : Fin grid0.N, _)
/-- The bias's block `t` is its column block `t`. -/
theorem index2 : ∀ t : Fin cfg0.N, win0_2.index t = ![0, t.val] :=
  (by decide +kernel : ∀ t : Fin grid0.N, _)
/-- The result's block `t` is its column block `t`. -/
theorem index3 : ∀ t : Fin cfg0.N, win0_3.index t = ![0, t.val] :=
  (by decide +kernel : ∀ t : Fin grid0.N, _)

/-- The modulation, entry by entry, of the condition, the weight and the bias as launched. -/
def modulation (x : FVec Ideal S16x1024 .f32) (w : FVec Ideal S1x1024x3072 .f32) (b : FVec Ideal S1x3072 .f32) :
    FVec Ideal S16x3072 .f32 := fun i =>
  (∑ k : Fin 1024, x (ix2 (i 0) k) * Ideal.logistic (x (ix2 (i 0) k)) * w (ix3 0 k (i 1))) + b (ix2 0 (i 1))

/-- What a point writes back is its column block of the modulation. -/
theorem written (x : FVec Ideal S16x1024 .f32) (w : FVec Ideal S1024x1024 .f32) (b : FVec Ideal S1x1024 .f32) (y : S16x1024.Idx) :
    k0_pay1 x w b y = (∑ k : Fin 1024, x (ix2 (y 0) k) * Ideal.logistic (x (ix2 (y 0) k)) * w (ix2 k (y 1))) + b (ix2 0 (y 1)) := by
  pointwise [k0_pay1]

/-- The weight as the region finds it. -/
theorem weight_at (c : Dev nD) (k : Fin 1024) (j : Fin 3072) :
    V m c main_v0 (ix2 k j) = m ((c : Thread nD τ).loc main_arg1) (ix3 0 k j) := by
  unfold V
  after_reads_at

/-- The bias as the region finds it. -/
theorem bias_at (c : Dev nD) (j : Fin 3072) :
    V m c main_v2 (ix2 0 j) = m ((c : Thread nD τ).loc main_arg2) (ix2 0 j) := by
  unfold V
  after_reads_at

/-- The kernel's result is the modulation. -/
theorem result (c : Dev nD) : (dats m 0 c).arrAt 3 cfg0.N =
    modulation (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [written]
  blk_simp [iblk]
  have h := t.isLt
  have ht : t.val < 3 := h
  idx_bounds y
  have e0 : ∀ k : Fin 1024, (win0_0.blk t).view.emb (ix2 (y 0) k) = ix2 (n0 := 16) (n1 := 1024) (y 0) k := fun k => by
    blk_ext [index0 t]
  have e1 : ∀ k : Fin 1024, (win0_1.blk t).view.emb (ix2 k (y 1)) = ix2 (n0 := 1024) (n1 := 3072) k ⟨t.val * 1024 + (y 1).val, by omega⟩ := fun k => by
    blk_ext [index1 t]
  have e2 : (win0_2.blk t).view.emb (ix2 0 (y 1)) = ix2 (n0 := 1) (n1 := 3072) 0 ⟨t.val * 1024 + (y 1).val, by omega⟩ := by
    blk_ext [index2 t]
  have e3 : (win0_3.blk t).view.emb y = ix2 (n0 := 16) (n1 := 3072) (y 0) ⟨t.val * 1024 + (y 1).val, by omega⟩ := by
    blk_ext [index3 t]
  rw [e2, e3, bias_at]
  refine congrArg₂ (· + ·) (Finset.sum_congr rfl fun k _ => ?_) rfl
  rw [e0, e1, weight_at, V_main_arg0]
  rfl

open Cert.ModulationReferenceIdeal.Read in
/-- The reference's term is the modulation. -/
theorem reference_at (x : FVec Ideal S16x1024 .f32) (w : FVec Ideal S1x1024x3072 .f32) (b : FVec Ideal S1x3072 .f32) :
    val_main_v6 (F := Ideal) x w b = modulation x w b := by
  funext i
  have h1 : (i 1).val < 3072 := (i 1).isLt
  rw [val_main_v6_apply, val_main_v2_apply, val_main_v5_apply, val_main_v4_apply, val_main_v3_apply]
  refine congrArg₂ (· + ·) (Finset.sum_congr rfl fun k _ => ?_) (congrArg b ?_)
  · have hk := k.isLt
    refine congrArg₂ (· * ·) ?_ ?_
    · have e : lidx_main_v2 i k = ix2 (n0 := 16) (n1 := 1024) (i 0) k := by
        funext a; fin_cases a <;> rfl
      rw [e, val_main_v0_apply, val_main_call0_v5_apply, val_main_call0_v4_apply, val_main_call0_v3_apply,
        val_main_call0_v2_apply, val_main_call0_v1_apply, val_main_call0_v0_apply, val_main_call0_cst_apply, val_main_call0_cst_0_apply]
      pointwise [Ideal.logistic]
    · rw [val_main_v1_apply]
      refine congrArg w (funext fun a => Fin.ext ?_)
      fin_cases a
      · rfl
      · show (k.val * 3072 + (i 1).val) / 3072 % 1024 = k.val; omega
      · show (k.val * 3072 + (i 1).val) % 3072 = (i 1).val; omega
  · refine funext fun a => Fin.ext ?_
    fin_cases a
    · rfl
    · show (i 1).val % 3072 = (i 1).val; omega

/-- The algebraic claim: the kernel's result and the reference's are the same function of the arguments. -/
theorem value : Cert.algebraic_ModulationIdeal_ModulationReferenceIdeal := by
  intro m g m' g' _ hm
  refine ⟨fun c => modulation (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (result m c), (h c).2⟩) (Cert.ModulationIdeal.Value.run_blocks m g)
  · refine (θ_run _ _ _).mono (fun r h c => ⟨(h c).1.trans ?_, (h c).2⟩) (Cert.ModulationReferenceIdeal.Value.run (F := Ideal) m' g')
    obtain ⟨h0, h1, h2⟩ := hm c
    rw [h0, h1, h2]
    exact reference_at _ _ _

/-- The reference's frame: its arguments unchanged, its counters at zero. -/
theorem frame_reference : Cert.quiescent_ModulationReferenceIdeal := fun m g _ =>
  (θ_run _ _ _).mono (fun r h => ⟨fun c => (h c).2, sem_eq_zero_of_no_sems rfl r.2⟩)
    (Cert.ModulationReferenceIdeal.Value.run (F := Ideal) m g)

end Cert.Modulate

end
-- ==== Proof.Layer.lean ====
/-
  The layer's mathematics over the extended reals, entry by entry: what the reference's lines say of its arguments, at a batch row `b`, a step `n`
  and a channel. Steps are natural numbers; an argument indexed by a step is read at the step's remainder by 2048.
-/
module

public import Idealize.ShloMosaic.Lib.Pointwise

@[expose] public section

noncomputable section

namespace Cert.Layer

open Idealize.ShloMosaic

/-- The arguments, by their coordinates: the activations, the modulation's three parts, the norms' scales, the input projection, the short
    convolution with its projection, the recurrent branch's convolution, gates, decays and projection, the merge's biases and the output
    projection. -/
structure Args where
  x : Fin 16 → ℕ → Fin 1024 → EReal
  sh : Fin 16 → Fin 1024 → EReal
  sc : Fin 16 → Fin 1024 → EReal
  gt : Fin 16 → Fin 1024 → EReal
  g : Fin 1024 → EReal
  w : Fin 1024 → Fin 8704 → EReal
  cw : Fin 3 → Fin 1024 → EReal
  cb : Fin 1024 → EReal
  wo : Fin 1024 → Fin 1024 → EReal
  rw : Fin 4 → Fin 1280 → EReal
  rb : Fin 1280 → EReal
  wa : Fin 16 → Fin 80 → Fin 80 → EReal
  ba : Fin 1280 → EReal
  wx : Fin 16 → Fin 80 → Fin 80 → EReal
  bx : Fin 1280 → EReal
  lam : Fin 1280 → EReal
  wr : Fin 1280 → Fin 1024 → EReal
  bm : Fin 2 → Fin 1024 → EReal
  wm : Fin 1024 → Fin 1024 → EReal
  gf : Fin 1024 → EReal

variable (A : Args)

/-- The value `k` steps back, zero before the first step. -/
def back (k : ℕ) (f : ℕ → EReal) (n : ℕ) : EReal := if k ≤ n then f (n - k) else 0

/-- A row's root mean square, inverted. -/
def inv (f : Fin 1024 → EReal) : EReal :=
  Ideal.rsqrt (Ideal.div (∑ e, f e * f e) (Ideal.ofBits FTy.f32 1149239296#32) + Ideal.ofBits FTy.f32 897988541#32)

/-- The modulated normalised activations. -/
def hh (b : Fin 16) (n : ℕ) (d : Fin 1024) : EReal :=
  A.x b n d * inv (A.x b n) * A.g d * (1 + A.sc b d) + A.sh b d

/-- The input projection. -/
def zz (b : Fin 16) (n : ℕ) (j : Fin 8704) : EReal := ∑ d, hh A b n d * A.w d j

/-- The input projection at column `o + j`. -/
def zo (o : ℕ) {w : ℕ} (h : o + w ≤ 8704) (b : Fin 16) (n : ℕ) (j : Fin w) : EReal := zz A b n ⟨o + j.val, by omega⟩

/-- The gated values that the short convolution runs over. -/
def uu (b : Fin 16) (j : Fin 1024) (n : ℕ) : EReal := zo A 1024 (w := 1024) (by decide) b n j * zo A 2048 (w := 1024) (by decide) b n j

/-- The short-convolution branch before its projection. -/
def sA (b : Fin 16) (n : ℕ) (j : Fin 1024) : EReal :=
  zo A 0 (w := 1024) (by decide) b n j
    * (A.cb j + back 2 (uu A b j) n * A.cw 0 j + back 1 (uu A b j) n * A.cw 1 j + uu A b j n * A.cw 2 j)
    * (zo A 3072 (w := 1024) (by decide) b n j * Ideal.logistic (zo A 3072 (w := 1024) (by decide) b n j))

/-- The short-convolution branch. -/
def ya (b : Fin 16) (n : ℕ) (d : Fin 1024) : EReal := ∑ j, sA A b n j * A.wo j d

/-- The recurrent branch's values. -/
def vz (b : Fin 16) (j : Fin 1280) (n : ℕ) : EReal := zo A 4096 (w := 1280) (by decide) b n j

/-- The recurrent branch's convolution. -/
def vc (b : Fin 16) (n : ℕ) (j : Fin 1280) : EReal :=
  A.rb j + back 3 (vz A b j) n * A.rw 0 j + back 2 (vz A b j) n * A.rw 1 j + back 1 (vz A b j) n * A.rw 2 j + vz A b j n * A.rw 3 j

/-- The head of a channel. -/
def hd (j : Fin 1280) : Fin 16 := ⟨j.val / 80, by omega⟩
/-- A channel's place in its head. -/
def pl (j : Fin 1280) : Fin 80 := ⟨j.val % 80, by omega⟩
/-- Place `e` of a channel's head. -/
def mate (j : Fin 1280) (e : Fin 80) : Fin 1280 := ⟨j.val / 80 * 80 + e.val, by omega⟩

/-- A block-diagonal product of the convolution, head by head. -/
def heads (w : Fin 16 → Fin 80 → Fin 80 → EReal) (b : Fin 16) (n : ℕ) (j : Fin 1280) : EReal :=
  ∑ e, w (hd j) e (pl j) * vc A b n (mate j e)

/-- The recurrence gate. -/
def gr (b : Fin 16) (n : ℕ) (j : Fin 1280) : EReal := Ideal.logistic (heads A A.wa b n j + A.ba j)
/-- The input gate. -/
def gi (b : Fin 16) (n : ℕ) (j : Fin 1280) : EReal := Ideal.logistic (heads A A.wx b n j + A.bx j)

/-- The softplus of the negated argument. -/
def sp (l : EReal) : EReal := max (-l) 0 + Ideal.log1p (Ideal.exp (-max (-l) (- -l)))

/-- The decay's logarithm. -/
def la (b : Fin 16) (n : ℕ) (j : Fin 1280) : EReal := Ideal.ofBits FTy.f32 0xC1000000#32 * gr A b n j * sp (A.lam j)

/-- The decay. -/
def aa (b : Fin 16) (n : ℕ) (j : Fin 1280) : EReal := Ideal.exp (la A b n j)

/-- The recurrence's input. -/
def bt (b : Fin 16) (n : ℕ) (j : Fin 1280) : EReal :=
  Ideal.sqrt (-(Ideal.exp (Ideal.ofBits FTy.f32 1073741824#32 * la A b n j) - 1)) * (gi A b n j * vc A b n j)

/-- The recurrence's state before step `n`. -/
def hs (b : Fin 16) (j : Fin 1280) : ℕ → EReal
  | 0 => 0
  | n + 1 => aa A b n j * hs b j n + bt A b n j

/-- The recurrent branch before its projection. -/
def sB (b : Fin 16) (n : ℕ) (j : Fin 1280) : EReal :=
  hs A b j (n + 1) * (zo A 5376 (w := 1280) (by decide) b n j * Ideal.logistic (zo A 5376 (w := 1280) (by decide) b n j))

/-- The recurrent branch. -/
def yb (b : Fin 16) (n : ℕ) (d : Fin 1024) : EReal := ∑ j, sB A b n j * A.wr j d

/-- The branches, gated and added. -/
def mg (b : Fin 16) (n : ℕ) (d : Fin 1024) : EReal :=
  Ideal.logistic (zo A 6656 (w := 1024) (by decide) b n d + A.bm 0 d) * ya A b n d
    + Ideal.logistic (zo A 7680 (w := 1024) (by decide) b n d + A.bm 1 d) * yb A b n d

/-- The output projection. -/
def yy (b : Fin 16) (n : ℕ) (d : Fin 1024) : EReal := ∑ k, mg A b n k * A.wm k d

/-- The residual sum. -/
def xo (b : Fin 16) (n : ℕ) (d : Fin 1024) : EReal := A.x b n d + A.gt b d * yy A b n d

/-- The layer's result. -/
def res (b : Fin 16) (n : ℕ) (d : Fin 1024) : EReal := xo A b n d * inv (xo A b n) * A.gf d

end Cert.Layer

end
-- ==== Proof.KerA.lean ====
/-
  The block kernel at exact arithmetic, entry by entry: the modulated rows, the input projection and the short-convolution branch.
-/
module

public import proofs.«01_k».proof.Proof.Spec
public import proofs.«01_k».proof.Proof.Layer
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Cert.Layer (Args back hh zz zo uu vz vc hd pl mate heads gr gi sp la bt hs sB mg yy xo res)

/-! ## Indices -/

theorem vix2 {n0 n1 : ℕ} (a : Fin n0) (b : Fin n1) : ValueIdx.ix2 a b = ix2 a b := by
  funext x; match x with
  | 0 => rfl
  | 1 => rfl
theorem vix3 {n0 n1 n2 : ℕ} (a : Fin n0) (b : Fin n1) (c : Fin n2) : ValueIdx.ix3 a b c = ix3 a b c := by
  funext x; match x with
  | 0 => rfl
  | 1 => rfl
  | 2 => rfl

section Ld
variable {α : Type} {n0 n1 n2 m0 m1 m2 a0 a1 a2 : ℕ}
/-- A load of rank three, by coordinates. -/
theorem ldq3 {off : Fin 3 → ℕ} {inb : ∀ a, off a + (![m0, m1, m2] : Fin 3 → ℕ) a ≤ (⟨3, ![n0, n1, n2]⟩ : Shape).size a} (ho : off = ![a0, a1, a2])
    (d : (⟨3, ![n0, n1, n2]⟩ : Shape).Idx → α) (i0 : Fin n0) (i1 : Fin n1) (i2 : Fin n2)
    (j0 : Fin m0) (j1 : Fin m1) (j2 : Fin m2) (h0 : i0.val = a0 + j0.val) (h1 : i1.val = a1 + j1.val) (h2 : i2.val = a2 + j2.val) :
    ld d (Rect.unit (s := ⟨3, ![n0, n1, n2]⟩) off ![m0, m1, m2] inb) (ix3 j0 j1 j2) = d (ix3 i0 i1 i2) := by
  rw [← vix3, ← vix3]
  exact ld3 ho d i0 i1 i2 j0 j1 j2 h0 h1 h2
/-- A load of rank two, by coordinates. -/
theorem ldq2 {inb : ∀ a, (![a0, a1] : Fin 2 → ℕ) a + (![m0, m1] : Fin 2 → ℕ) a ≤ (⟨2, ![n0, n1]⟩ : Shape).size a}
    (d : (⟨2, ![n0, n1]⟩ : Shape).Idx → α) (i0 : Fin n0) (i1 : Fin n1)
    (j0 : Fin m0) (j1 : Fin m1) (h0 : i0.val = a0 + j0.val) (h1 : i1.val = a1 + j1.val) :
    ld d (Rect.unit (s := ⟨2, ![n0, n1]⟩) ![a0, a1] ![m0, m1] inb) (ix2 j0 j1) = d (ix2 i0 i1) := by
  rw [← vix2, ← vix2]
  exact ld2 d i0 i1 j0 j1 h0 h1
/-- A whole load of rank three. -/
theorem ldw3 {inb : ∀ a, (![0, 0, 0] : Fin 3 → ℕ) a + (![n0, n1, n2] : Fin 3 → ℕ) a ≤ (⟨3, ![n0, n1, n2]⟩ : Shape).size a}
    (d : (⟨3, ![n0, n1, n2]⟩ : Shape).Idx → α) (j0 : Fin n0) (j1 : Fin n1) (j2 : Fin n2) :
    ld d (Rect.unit (s := ⟨3, ![n0, n1, n2]⟩) ![0, 0, 0] ![n0, n1, n2] inb) (ix3 j0 j1 j2) = d (ix3 j0 j1 j2) :=
  ldq3 rfl d j0 j1 j2 j0 j1 j2 (by omega) (by omega) (by omega)
/-- A whole load of rank two. -/
theorem ldw2 {inb : ∀ a, (![0, 0] : Fin 2 → ℕ) a + (![n0, n1] : Fin 2 → ℕ) a ≤ (⟨2, ![n0, n1]⟩ : Shape).size a}
    (d : (⟨2, ![n0, n1]⟩ : Shape).Idx → α) (j0 : Fin n0) (j1 : Fin n1) :
    ld d (Rect.unit (s := ⟨2, ![n0, n1]⟩) ![0, 0] ![n0, n1] inb) (ix2 j0 j1) = d (ix2 j0 j1) :=
  ldq2 d j0 j1 j0 j1 (by omega) (by omega)
end Ld

/-- Column `c` of block `j` of four. -/
def col4 (j : Fin 4) (c : Fin 256) : Fin 1024 := ⟨j.val * 256 + c.val, by omega⟩
/-- Column `c` of block `j` of five. -/
def col5 (j : Fin 5) (c : Fin 256) : Fin 1280 := ⟨j.val * 256 + c.val, by omega⟩
/-- The batch row of a time-major row. -/
def rb (r : Fin 512) : Fin 16 := ⟨r.val % 16, Nat.mod_lt _ (by decide)⟩
/-- The first column of a trip's gate window. -/
def gs (k : Fin 5) : ℕ := min (2 * k.val - 1) 6 * 128

/-- What a grid point is fed: the blocks of the arguments, from time `n` on. -/
structure Fed (A : Args) (n : ℕ) (X : Ins Ideal) : Prop where
  x1 : ∀ b (t : Fin 32) d, X.x1 (ix3 b t d) = A.x b (n + t.val) d
  x2 : ∀ b d, X.x2 (ix3 b 0 d) = A.sh b d
  x3 : ∀ b d, X.x3 (ix3 b 0 d) = A.sc b d
  x4 : ∀ b d, X.x4 (ix3 b 0 d) = A.gt b d
  x5 : ∀ d, X.x5 (ix2 0 d) = A.g d
  x6 : ∀ d, X.x6 (ix2 0 d) = A.gf d
  x7 : ∀ r k : Fin 256, X.x7 (ix2 r k) = if k.val = r.val % 16 * 16 + r.val / 16 then (1 : EReal) else 0
  x8 : ∀ (j : Fin 4) d (q : Fin 4) (c : Fin 256), X.x8 (ix3 j d ⟨q.val * 256 + c.val, by omega⟩) = A.w d ⟨q.val * 1024 + (j.val * 256 + c.val), by omega⟩
  x9 : ∀ (j : Fin 4) (k : Fin 3) (c : Fin 256), X.x9 (ix3 j k c) = A.cw k (col4 j c)
  x10 : ∀ (j : Fin 4) (c : Fin 256), X.x10 (ix3 j 0 c) = A.cb (col4 j c)
  x11 : ∀ j d, X.x11 (ix2 j d) = A.wo j d
  x12 : ∀ d (j : Fin 1280), X.x12 (ix2 d j) = A.w d ⟨4096 + j.val, by omega⟩
  x13 : ∀ k j, X.x13 (ix2 k j) = A.rw k j
  x14 : ∀ j, X.x14 (ix2 0 j) = A.rb j
  xa : ∀ (k : Fin 5) (e : Fin 512) (c : Fin 256), X.x15 (ix3 k e ⟨c.val, by omega⟩)
    = if (gs k + e.val) / 80 = (k.val * 256 + c.val) / 80 then A.wa (hd (col5 k c)) ⟨(gs k + e.val) % 80, Nat.mod_lt _ (by decide)⟩ (pl (col5 k c)) else (0 : EReal)
  xx : ∀ (k : Fin 5) (e : Fin 512) (c : Fin 256), X.x15 (ix3 k e ⟨256 + c.val, by omega⟩)
    = if (gs k + e.val) / 80 = (k.val * 256 + c.val) / 80 then A.wx (hd (col5 k c)) ⟨(gs k + e.val) % 80, Nat.mod_lt _ (by decide)⟩ (pl (col5 k c)) else (0 : EReal)
  x16 : ∀ (k : Fin 5) (c : Fin 256), X.x16 (ix3 k 0 c) = A.ba (col5 k c)
  x17 : ∀ (k : Fin 5) (c : Fin 256), X.x17 (ix3 k 0 c) = A.bx (col5 k c)
  x18 : ∀ (k : Fin 5) (c : Fin 256), X.x18 (ix3 k 0 c) = A.lam (col5 k c)
  x19 : ∀ (k : Fin 5) d (c : Fin 256), X.x19 (ix3 k d c) = A.w d ⟨5376 + (k.val * 256 + c.val), by omega⟩
  x20 : ∀ j d, X.x20 (ix2 j d) = A.wr j d
  x21 : ∀ d (j : Fin 2048), X.x21 (ix2 d j) = A.w d ⟨6656 + j.val, by omega⟩
  x22 : ∀ k j, X.x22 (ix2 k j) = A.bm k j
  x23 : ∀ k j, X.x23 (ix2 k j) = A.wm k j

/-- What a grid point at time `n` finds carried. -/
structure Held (A : Args) (n : ℕ) (s : St Ideal) : Prop where
  u : ∀ (j : Fin 4) (r : Fin 32) (c : Fin 256), s.u (ix3 j r c) = back (2 - r.val / 16) (uu A ⟨r.val % 16, Nat.mod_lt _ (by decide)⟩ (col4 j c)) n
  vz : ∀ (r : Fin 48) (j : Fin 1280), s.vz (ix2 r j) = back (3 - r.val / 16) (vz A ⟨r.val % 16, Nat.mod_lt _ (by decide)⟩ j) n
  h : ∀ (k : Fin 5) (b : Fin 16) (c : Fin 256), s.h (ix3 k b c) = hs A b (col5 k c) n

variable {A : Args} {n : ℕ} {X : Ins Ideal} {s : St Ideal}

/-- Looking back from later. -/
theorem back_later (K q : ℕ) (f : ℕ → EReal) (h : q ≤ K) : back (K - q) f n = back K f (n + q) := by
  unfold back
  by_cases h1 : K ≤ n + q
  · rw [if_pos h1, if_pos (by omega), show n - (K - q) = n + q - K by omega]
  · rw [if_neg h1, if_neg (by omega)]
theorem back_in (K q : ℕ) (f : ℕ → EReal) (h : K ≤ q) : f (n + (q - K)) = back K f (n + q) := by
  unfold back
  rw [if_pos (by omega), show n + q - K = n + (q - K) by omega]

/-- A row of the permutation picks one entry. -/
theorem pick {N : ℕ} (f : Fin N → EReal) (p : Fin N → EReal) (k : Fin N) (hp : ∀ x, p x = if x.val = k.val then 1 else 0) :
    ∑ x, p x * f x = f k := by
  rw [Finset.sum_eq_single k]
  · rw [hp, if_pos rfl, one_mul]
  · intro x _ hx
    rw [hp, if_neg fun e => hx (Fin.ext e), zero_mul]
  · intro h; exact absurd (Finset.mem_univ _) h

/-! ## The modulated rows -/

theorem perm_at (H : Fed A n X) (r k : Fin 256) : k0_pay84 (ld X.x7 (Rect.unit (s := S256x256) ![0, 0] S256x256.size inb_S256x256_S256x256_0_0)) (ix2 r k)
    = if k.val = r.val % 16 * 16 + r.val / 16 then (1 : EReal) else 0 := by
  pointwise [k0_pay84]
  exact (ldw2 X.x7 r k).trans (H.x7 r k)

theorem hbA_at (H : Fed A n X) (i : Fin 256) (d : Fin 1024) :
    k0_pay88 (hbA X) (ix2 i d) = hh A ⟨i.val % 16, Nat.mod_lt _ (by decide)⟩ (n + i.val / 16) d := by
  unfold hbA
  pointwise [k0_pay88, k0_pay87]
  have e1 : ∀ (b t : Fin 16) d, ld X.x1 (Rect.unit (s := S16x32x1024) ![0, 0, 0] S16x16x1024.size inb_S16x32x1024_S16x16x1024_0_0_0) (ix3 b t d)
      = A.x b (n + t.val) d := fun b t d => (ldq3 rfl X.x1 b ⟨t.val, by omega⟩ d b t d (by omega) (by simp) (by omega)).trans (H.x1 b _ d)
  have e5 : ∀ d, k0_pay85 (ld X.x5 (Rect.unit (s := S1x1024) ![0, 0] S1x1024.size inb_S1x1024_S1x1024_0_0)) (ix3 0 0 d) = A.g d := fun d => by
    pointwise [k0_pay85]
    exact (ldw2 X.x5 0 d).trans (H.x5 d)
  have e3 : ∀ b d, k0_pay86 (ld X.x3 (Rect.unit (s := S16x1x1024) ![0, 0, 0] S16x1x1024.size inb_S16x1x1024_S16x1x1024_0_0_0)) (ix3 b 0 d) = 1 + A.sc b d := fun b d => by
    pointwise [k0_pay86]
    rw [show ld X.x3 (Rect.unit (s := S16x1x1024) ![0, 0, 0] S16x1x1024.size inb_S16x1x1024_S16x1x1024_0_0_0) (ix3 b 0 d) = A.sc b d from
      (ldw3 X.x3 b 0 d).trans (H.x3 b d)]
  have e2 : ∀ b d, ld X.x2 (Rect.unit (s := S16x1x1024) ![0, 0, 0] S16x1x1024.size inb_S16x1x1024_S16x1x1024_0_0_0) (ix3 b 0 d) = A.sh b d :=
    fun b d => (ldw3 X.x2 b 0 d).trans (H.x2 b d)
  simp only [e1, e5, e3, e2]
  rw [pick _ _ ⟨i.val % 16 * 16 + i.val / 16, by omega⟩ fun x => perm_at H i x]
  have q1 : (i.val % 16 * 16 + i.val / 16) / 16 = i.val % 16 := by omega
  have q2 : (i.val % 16 * 16 + i.val / 16) % 16 = i.val / 16 := by omega
  simp only [q1, q2]
  rfl

/-- The second half of the rows. -/
theorem hbB_at (H : Fed A n X) (i : Fin 256) (d : Fin 1024) :
    k0_pay89 (perm X) (gn X) (sc1 X)
      (ld X.x1 (Rect.unit (s := S16x32x1024) ![0, 16, 0] S16x16x1024.size inb_S16x32x1024_S16x16x1024_0_16_0))
      (ld X.x2 (Rect.unit (s := S16x1x1024) ![0, 0, 0] S16x1x1024.size inb_S16x1x1024_S16x1x1024_0_0_0)) (ix2 i d)
      = hh A ⟨i.val % 16, Nat.mod_lt _ (by decide)⟩ (n + (16 + i.val / 16)) d := by
  pointwise [k0_pay89]
  have e1 : ∀ (b t : Fin 16) d, ld X.x1 (Rect.unit (s := S16x32x1024) ![0, 16, 0] S16x16x1024.size inb_S16x32x1024_S16x16x1024_0_16_0) (ix3 b t d)
      = A.x b (n + (16 + t.val)) d := fun b t d => (ldq3 rfl X.x1 b ⟨16 + t.val, by omega⟩ d b t d (by omega) rfl (by omega)).trans (H.x1 b _ d)
  have e5 : ∀ d, gn X (ix3 0 0 d) = A.g d := fun d => by
    unfold gn
    pointwise [k0_pay85]
    exact (ldw2 X.x5 0 d).trans (H.x5 d)
  have e3 : ∀ b d, sc1 X (ix3 b 0 d) = 1 + A.sc b d := fun b d => by
    unfold sc1
    pointwise [k0_pay86]
    rw [show ld X.x3 (Rect.unit (s := S16x1x1024) ![0, 0, 0] S16x1x1024.size inb_S16x1x1024_S16x1x1024_0_0_0) (ix3 b 0 d) = A.sc b d from
      (ldw3 X.x3 b 0 d).trans (H.x3 b d)]
  have e2 : ∀ b d, ld X.x2 (Rect.unit (s := S16x1x1024) ![0, 0, 0] S16x1x1024.size inb_S16x1x1024_S16x1x1024_0_0_0) (ix3 b 0 d) = A.sh b d :=
    fun b d => (ldw3 X.x2 b 0 d).trans (H.x2 b d)
  simp only [e1, e5, e3, e2]
  rw [pick _ _ ⟨i.val % 16 * 16 + i.val / 16, by omega⟩ fun x => show perm X (ix2 i x) = _ from perm_at H i x]
  have q1 : (i.val % 16 * 16 + i.val / 16) / 16 = i.val % 16 := by omega
  have q2 : (i.val % 16 * 16 + i.val / 16) % 16 = i.val / 16 := by omega
  simp only [q1, q2]
  rfl

/-- The modulated rows in time-major order. -/
theorem htb_at (H : Fed A n X) (r : Fin 512) (d : Fin 1024) : ldH (htb X) (ix2 r d) = hh A (rb r) (n + r.val / 16) d := by
  refine (ldw2 (htb X) r d).trans ?_
  show (if h : r.val < 256 then k0_pay88 (hbA X) (ValueIdx.ix2 ⟨r.val, h⟩ d) else _) = _
  split
  · next h =>
    rw [vix2]
    exact hbA_at H ⟨r.val, h⟩ d
  · next h =>
    refine (congrArg _ (vix2 _ _)).trans ((hbB_at H ⟨r.val - 256, by omega⟩ d).trans ?_)
    rw [show n + (16 + (r.val - 256) / 16) = n + r.val / 16 by omega]
    refine congrArg (fun b => hh A b (n + r.val / 16) d) (Fin.ext ?_)
    show (r.val - 256) % 16 = r.val % 16
    omega

/-! ## The short-convolution branch -/

/-- A trip's four column blocks of the input projection. -/
theorem z_at (H : Fed A n X) (k : Fin k0_t1_loop.trips) (r : Fin 512) (q : Fin 4) (c : Fin 256) :
    k0_pay2 (ldH (htb X)) (ld X.x8 (r8 k)) (ix2 r ⟨q.val * 256 + c.val, by omega⟩)
      = zo A (q.val * 1024) (w := 1024) (by omega) (rb r) (n + r.val / 16) (col4 (n1 k) c) := by
  pointwise [k0_pay2]
  have e : ∀ d, ld X.x8 (r8 k) (ix3 0 d ⟨q.val * 256 + c.val, by omega⟩) = A.w d ⟨q.val * 1024 + ((n1 k).val * 256 + c.val), by omega⟩ := fun d =>
    (ldq3 (k0_off1_eq k) X.x8 (n1 k) d ⟨q.val * 256 + c.val, by omega⟩ 0 d ⟨q.val * 256 + c.val, by omega⟩ (Nat.add_zero _).symm (Nat.zero_add _).symm (Nat.zero_add _).symm).trans
      (H.x8 (n1 k) d q c)
  simp only [htb_at H, e]
  rfl

theorem z0_at (H : Fed A n X) (k : Fin k0_t1_loop.trips) (r : Fin 512) (c : Fin 256) : k0_pay3 (ldH (htb X)) (ld X.x8 (r8 k)) (ix2 r c)
    = zo A 0 (w := 1024) (by decide) (rb r) (n + r.val / 16) (col4 (n1 k) c) := by
  pointwise [k0_pay3]
  refine Eq.trans (congrArg _ (congrArg _ (Fin.ext ?_))) (z_at H k r 0 c)
  show c.val = 0 * 256 + c.val
  omega
theorem z3_at (H : Fed A n X) (k : Fin k0_t1_loop.trips) (r : Fin 512) (c : Fin 256) : k0_pay4 (ldH (htb X)) (ld X.x8 (r8 k)) (ix2 r c)
    = zo A 3072 (w := 1024) (by decide) (rb r) (n + r.val / 16) (col4 (n1 k) c) := by
  pointwise [k0_pay4]
  exact z_at H k r 3 c
theorem u_at (H : Fed A n X) (k : Fin k0_t1_loop.trips) (r : Fin 512) (c : Fin 256) : k0_pay5 (ldH (htb X)) (ld X.x8 (r8 k)) (ix2 r c)
    = uu A (rb r) (col4 (n1 k) c) (n + r.val / 16) := by
  pointwise [k0_pay5]
  exact congrArg₂ (fun a b : EReal => a * b) (z_at H k r 1 c) (z_at H k r 2 c)
theorem u3_at (H : Fed A n X) (k : Fin k0_t1_loop.trips) (r : Fin 512) (c : Fin 256) : k0_pay6 (ldH (htb X)) (ld X.x8 (r8 k)) (ix3 0 r c)
    = uu A (rb r) (col4 (n1 k) c) (n + r.val / 16) := by
  pointwise [k0_pay6]
  exact u_at H k r c

/-- The rows `2 - o` steps back. -/
theorem win_at (H : Fed A n X) (S : Held A n s) (k : Fin k0_t1_loop.trips) (o : ℕ) (ho : o < 2) (r : Fin 512) (c : Fin 256) :
    win s.u (k0_pay6 (ldH (htb X)) (ld X.x8 (r8 k))) (n1 k) o ho (ix3 0 r c) = back (2 - o) (uu A (rb r) (col4 (n1 k) c)) (n + r.val / 16) := by
  show (if h : r.val + 16 * o < 32 then s.u (ValueIdx.ix3 (n1 k) ⟨r.val + 16 * o, h⟩ c) else
    k0_pay6 (ldH (htb X)) (ld X.x8 (r8 k)) (ValueIdx.ix3 0 ⟨r.val + 16 * o - 32, _⟩ c)) = _
  split
  · next h =>
    rw [vix3, S.u]
    have hb : (⟨(r.val + 16 * o) % 16, Nat.mod_lt _ (by decide)⟩ : Fin 16) = rb r := Fin.ext (by show (r.val + 16 * o) % 16 = r.val % 16; omega)
    show back (2 - (r.val + 16 * o) / 16) (uu A ⟨(r.val + 16 * o) % 16, _⟩ _) n = _
    rw [hb, ← back_later (2 - o) (r.val / 16) _ (by omega), show 2 - (r.val + 16 * o) / 16 = 2 - o - r.val / 16 by omega]
  · next h =>
    rw [vix3, u3_at H]
    have hb : rb ⟨r.val + 16 * o - 32, by omega⟩ = rb r := Fin.ext (by show (r.val + 16 * o - 32) % 16 = r.val % 16; omega)
    rw [hb, ← back_in (2 - o) (r.val / 16) _ (by omega)]
    exact congrArg _ (by show n + (r.val + 16 * o - 32) / 16 = _; omega)

/-- The short convolution. -/
theorem conv3_at (H : Fed A n X) (S : Held A n s) (k : Fin k0_t1_loop.trips) (r : Fin 512) (c : Fin 256) :
    conv3 X s k (ix2 r c) = A.cb (col4 (n1 k) c) + back 2 (uu A (rb r) (col4 (n1 k) c)) (n + r.val / 16) * A.cw 0 (col4 (n1 k) c)
      + back 1 (uu A (rb r) (col4 (n1 k) c)) (n + r.val / 16) * A.cw 1 (col4 (n1 k) c)
      + uu A (rb r) (col4 (n1 k) c) (n + r.val / 16) * A.cw 2 (col4 (n1 k) c) := by
  unfold conv3
  pointwise [k0_pay7]
  have e9 : ∀ q, ld X.x9 (r9 k) (ix3 0 q c) = A.cw q (col4 (n1 k) c) := fun q =>
    (ldq3 (k0_off3_eq k) X.x9 (n1 k) q c 0 q c rfl (by omega) (by omega)).trans (H.x9 (n1 k) q c)
  have e10 : ld X.x10 (r10 k) (ix3 0 0 c) = A.cb (col4 (n1 k) c) :=
    (ldq3 (k0_off4_eq k) X.x10 (n1 k) 0 c 0 0 c rfl rfl (by omega)).trans (H.x10 (n1 k) c)
  rw [e9, e9, e9, e10, win_at H S k 0 (by decide), win_at H S k 1 (by decide), u_at H]

/-- A trip's block of the branch. -/
theorem ss_at (H : Fed A n X) (S : Held A n s) (k : Fin k0_t1_loop.trips) (r : Fin 512) (c : Fin 256) :
    ss X s k (ix3 0 r c) = Layer.sA A (rb r) (n + r.val / 16) (col4 (n1 k) c) := by
  unfold ss
  pointwise [k0_pay91]
  rw [z0_at H, z3_at H, conv3_at H S]
  rfl

/-- A block of the branch's buffer. -/
theorem sAll_at (H : Fed A n X) (S : Held A n s) (j : ℕ) (hj : j < 4) (inb) (r : Fin 512) (c : Fin 256) :
    ld (sAll X s) (r27s j inb) (ix3 0 r c) = Layer.sA A (rb r) (n + r.val / 16) (col4 ⟨j, hj⟩ c) :=
  (ldq3 rfl (sAll X s) ⟨j, hj⟩ r c 0 r c rfl (by omega) (by omega)).trans
    ((congrArg (ss X s (t1 ⟨j, hj⟩)) (vix3 0 r c)).trans (ss_at H S (t1 ⟨j, hj⟩) r c))

/-- The branch's projection. -/
theorem ya_at (H : Fed A n X) (S : Held A n s) (r : Fin 512) (d : Fin 1024) : ya X s (ix2 r d) = Layer.ya A (rb r) (n + r.val / 16) d := by
  unfold ya
  pointwise [k0_pay94, k0_pay92, k0_pay93]
  have e11 : ∀ j, ld X.x11 (Rect.unit (s := S1024x1024) ![0, 0] S1024x1024.size inb_S1024x1024_S1024x1024_0_0) (ix2 j d) = A.wo j d := fun j =>
    (ldw2 X.x11 j d).trans (H.x11 j d)
  simp only [e11, sAll_at H S 0 (by decide), sAll_at H S 1 (by decide), sAll_at H S 2 (by decide), sAll_at H S 3 (by decide)]
  refine Finset.sum_congr rfl fun x _ => congrArg (· * _) ?_
  have cx : ∀ (j : Fin 4) (c : Fin 256), x.val = j.val * 256 + c.val → Layer.sA A (rb r) (n + r.val / 16) (col4 j c) = Layer.sA A (rb r) (n + r.val / 16) x :=
    fun j c h => congrArg _ (Fin.ext h.symm)
  split
  · exact cx _ _ (by simp)
  · split
    · exact cx _ _ (by simp; omega)
    · split
      · exact cx _ _ (by simp; omega)
      · exact cx _ _ (by simp; omega)

/-- What the branch leaves to be carried. -/
theorem nextU_at (H : Fed A n X) (j : Fin 4) (r : Fin 32) (c : Fin 256) :
    nextU X (ix3 j r c) = back (2 - r.val / 16) (uu A ⟨r.val % 16, Nat.mod_lt _ (by decide)⟩ (col4 j c)) (n + 32) := by
  refine (congrArg (nu X (t1 j)) (vix3 0 r c)).trans ?_
  unfold nu
  pointwise [k0_pay90, k0_pay8]
  rw [u_at H]
  have hb : rb ⟨480 + r.val, by omega⟩ = ⟨r.val % 16, Nat.mod_lt _ (by decide)⟩ := Fin.ext (by show (480 + r.val) % 16 = r.val % 16; omega)
  rw [hb, ← back_in (2 - r.val / 16) 32 _ (by omega)]
  exact congrArg _ (by show n + (480 + r.val) / 16 = _; omega)

end Cert.KernelIdeal.Hand

end
-- ==== Proof.KerB.lean ====
/-
  The block kernel at exact arithmetic, entry by entry: the recurrent branch's convolution, its gates, and the recurrence.
-/
module

public import proofs.«01_k».proof.Proof.KerA

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Cert.Layer (Args back hh zz zo uu vz vc hd pl mate heads gr gi sp la bt hs sB mg yy xo res)

variable {A : Args} {n : ℕ} {X : Ins Ideal} {s : St Ideal}

/-! ## The recurrent branch's convolution -/

/-- The recurrent branch's values. -/
theorem pv_at (H : Fed A n X) (r : Fin 512) (j : Fin 1280) : pv X (ix2 r j) = vz A (rb r) j (n + r.val / 16) := by
  unfold pv
  pointwise [k0_pay95]
  have e : ∀ d, ld X.x12 r12 (ix2 d j) = A.w d ⟨4096 + j.val, by omega⟩ := fun d => (ldw2 X.x12 d j).trans (H.x12 d j)
  simp only [htb_at H, e]
  rfl

/-- The values `3 - o` steps back. -/
theorem winV_at (H : Fed A n X) (S : Held A n s) (o : ℕ) (ho : o < 3) (r : Fin 512) (j : Fin 1280) :
    winV s.vz (k0_pay96 (ldH (htb X)) (ld X.x12 r12)) o ho (ix2 r j) = back (3 - o) (vz A (rb r) j) (n + r.val / 16) := by
  show (if h : r.val + 16 * o < 48 then s.vz (ValueIdx.ix2 ⟨r.val + 16 * o, h⟩ j) else
    k0_pay96 (ldH (htb X)) (ld X.x12 r12) (ValueIdx.ix2 ⟨r.val + 16 * o - 48, _⟩ j)) = _
  split
  · next h =>
    rw [vix2, S.vz]
    have hb : (⟨(r.val + 16 * o) % 16, Nat.mod_lt _ (by decide)⟩ : Fin 16) = rb r := Fin.ext (by show (r.val + 16 * o) % 16 = r.val % 16; omega)
    show back (3 - (r.val + 16 * o) / 16) (vz A ⟨(r.val + 16 * o) % 16, _⟩ _) n = _
    rw [hb, ← back_later (3 - o) (r.val / 16) _ (by omega), show 3 - (r.val + 16 * o) / 16 = 3 - o - r.val / 16 by omega]
  · next h =>
    rw [vix2]
    pointwise [k0_pay96]
    refine (pv_at H _ j).trans ?_
    have hb : rb ⟨r.val + 16 * o - 48, by omega⟩ = rb r := Fin.ext (by show (r.val + 16 * o - 48) % 16 = r.val % 16; omega)
    rw [hb, ← back_in (3 - o) (r.val / 16) _ (by omega)]
    exact congrArg _ (by show n + (r.val + 16 * o - 48) / 16 = _; omega)

/-- The convolution. -/
theorem v107_at (H : Fed A n X) (S : Held A n s) (r : Fin 512) (j : Fin 1280) : v107 X s (ix2 r j) = vc A (rb r) (n + r.val / 16) j := by
  unfold v107 v103 taps
  pointwise [k0_pay99, k0_pay98, k0_pay97]
  have e13 : ∀ k, ld X.x13 (Rect.unit (s := S4x1280) ![0, 0] S4x1280.size inb_S4x1280_S4x1280_0_0) (ix2 k j) = A.rw k j := fun k =>
    (ldw2 X.x13 k j).trans (H.x13 k j)
  have e14 : ld X.x14 (Rect.unit (s := S1x1280) ![0, 0] S1x1280.size inb_S1x1280_S1x1280_0_0) (ix2 0 j) = A.rb j := (ldw2 X.x14 0 j).trans (H.x14 j)
  simp only [e13, e14, winV_at H S, pv_at H]
  rfl

/-- What the convolution leaves to be carried. -/
theorem nextZ_at (H : Fed A n X) (r : Fin 48) (j : Fin 1280) :
    nextZ X (ix2 r j) = back (3 - r.val / 16) (vz A ⟨r.val % 16, Nat.mod_lt _ (by decide)⟩ j) (n + 32) := by
  unfold nextZ
  pointwise [k0_pay100]
  rw [pv_at H]
  have hb : rb ⟨464 + r.val, by omega⟩ = ⟨r.val % 16, Nat.mod_lt _ (by decide)⟩ := Fin.ext (by show (464 + r.val) % 16 = r.val % 16; omega)
  rw [hb, ← back_in (3 - r.val / 16) 32 _ (by omega)]
  exact congrArg _ (by show n + (464 + r.val) / 16 = _; omega)

/-- A column slab. -/
theorem slabs_at (H : Fed A n X) (S : Held A n s) (e : Fin 10) (r : Fin 512) (c : Fin 128) :
    slabs X s (ix3 e r c) = vc A (rb r) (n + r.val / 16) ⟨e.val * 128 + c.val, by omega⟩ := by
  have k : ∀ j : Fin 1280, j.val = e.val * 128 + c.val → v107 X s (ix2 r j) = vc A (rb r) (n + r.val / 16) ⟨e.val * 128 + c.val, by omega⟩ := fun j h => by
    rw [v107_at H S]; exact congrArg _ (Fin.ext h)
  show slab X s e.val (ValueIdx.ix3 0 r c) = _
  rw [vix3]
  fin_cases e
  · show k0_pay101 _ _ _ (ix3 0 r c) = _
    pointwise [k0_pay101]; exact (k ⟨c.val, by omega⟩ (by simp)).trans (congrArg _ (Fin.ext (by simp)))
  · show k0_pay102 _ _ _ (ix3 0 r c) = _
    pointwise [k0_pay102]; exact k _ (by simp)
  · show k0_pay103 _ _ _ (ix3 0 r c) = _
    pointwise [k0_pay103]; exact k _ (by simp)
  · show k0_pay104 _ _ _ (ix3 0 r c) = _
    pointwise [k0_pay104]; exact k _ (by simp)
  · show k0_pay105 _ _ _ (ix3 0 r c) = _
    pointwise [k0_pay105]; exact k _ (by simp)
  · show k0_pay107 (k0_pay106 _ _ _) (ix3 0 r c) = _
    pointwise [k0_pay107, k0_pay106]; exact k _ (by simp)
  · show k0_pay108 _ (ix3 0 r c) = _
    pointwise [k0_pay108]; exact k _ (by simp)
  · show k0_pay109 _ (ix3 0 r c) = _
    pointwise [k0_pay109]; exact k _ (by simp)
  · show k0_pay110 _ (ix3 0 r c) = _
    pointwise [k0_pay110]; exact k _ (by simp)
  · show k0_pay111 _ (ix3 0 r c) = _
    pointwise [k0_pay111]; exact k _ (by simp)

/-- A column block. -/
theorem blocks_at (H : Fed A n X) (S : Held A n s) (e : Fin 5) (r : Fin 512) (c : Fin 256) :
    blocks X s (ix3 e r c) = vc A (rb r) (n + r.val / 16) (col5 e c) := by
  have k : ∀ j : Fin 1280, j.val = e.val * 256 + c.val → v107 X s (ix2 r j) = vc A (rb r) (n + r.val / 16) (col5 e c) := fun j h => by
    rw [v107_at H S]; exact congrArg _ (Fin.ext h)
  show block X s e.val (ValueIdx.ix3 0 r c) = _
  rw [vix3]
  fin_cases e
  · show k0_pay112 _ (ix3 0 r c) = _
    pointwise [k0_pay112]; exact (k ⟨c.val, by omega⟩ (by simp)).trans (congrArg _ (Fin.ext (by simp)))
  · show k0_pay113 _ (ix3 0 r c) = _
    pointwise [k0_pay113]; exact k _ (by simp)
  · show k0_pay115 (k0_pay114 _) (ix3 0 r c) = _
    pointwise [k0_pay115, k0_pay114]; exact k _ (by simp)
  · show k0_pay116 _ (ix3 0 r c) = _
    pointwise [k0_pay116]; exact k _ (by simp)
  · show k0_pay117 _ (ix3 0 r c) = _
    pointwise [k0_pay117]; exact k _ (by simp)

/-! ## The gates -/

/-- A sum over a window that contains a head, of the head's entries, is the sum over the head. -/
theorem head_sum (a h : ℕ) (lo : a ≤ h * 80) (hi : h * 80 + 80 ≤ a + 512) (f : ℕ → EReal) (g : Fin 80 → EReal) :
    ∑ x : Fin 512, f (a + x.val) * (if (a + x.val) / 80 = h then g ⟨(a + x.val) % 80, Nat.mod_lt _ (by decide)⟩ else 0)
      = ∑ e : Fin 80, g e * f (h * 80 + e.val) := by
  symm
  refine Fintype.sum_of_injective (fun e : Fin 80 => (⟨h * 80 + e.val - a, by omega⟩ : Fin 512)) (fun e e' he => ?_) _ _ (fun x hx => ?_) (fun e => ?_)
  · have := congrArg Fin.val he
    simp only at this
    exact Fin.ext (by omega)
  · rw [if_neg, mul_zero]
    intro hd
    refine hx ⟨⟨(a + x.val) % 80, Nat.mod_lt _ (by decide)⟩, Fin.ext ?_⟩
    show h * 80 + (a + x.val) % 80 - a = x.val
    omega
  · have e1 : a + (h * 80 + e.val - a) = h * 80 + e.val := by omega
    have e2 : (h * 80 + e.val) / 80 = h := by omega
    have e3 : (h * 80 + e.val) % 80 = e.val := by omega
    simp only [e1, e2, if_true, e3]
    exact mul_comm _ _

/-- A trip's first slab. -/
theorem off9 : ∀ k : Fin k0_t2_loop.trips, k0_off9 k = ![min (2 * k.val - 1) 6, 0, 0] := by decide +kernel

/-- A gate window's column. -/
theorem window_at (H : Fed A n X) (S : Held A n s) (k : Fin k0_t2_loop.trips) (q : Fin 4) (r : Fin 512) (c : Fin 128) :
    ld (slabs X s) (r30 k) (ix3 q r c) = vc A (rb r) (n + r.val / 16) ⟨gs (n2 k) + (q.val * 128 + c.val), by unfold gs; omega⟩ := by
  refine (ldq3 (off9 k) (slabs X s) ⟨min (2 * k.val - 1) 6 + q.val, by omega⟩ r c q r c rfl (by omega) (by omega)).trans ((slabs_at H S _ r c).trans ?_)
  refine congrArg _ (Fin.ext ?_)
  show (min (2 * k.val - 1) 6 + q.val) * 128 + c.val = min (2 * k.val - 1) 6 * 128 + (q.val * 128 + c.val)
  omega

/-- The convolution at a column given as a number. -/
def vcn (A : Args) (b : Fin 16) (t j : ℕ) : EReal := if h : j < 1280 then vc A b t ⟨j, h⟩ else 0
theorem vcn_of (b : Fin 16) (t : ℕ) (j : Fin 1280) : vc A b t j = vcn A b t j.val := by
  unfold vcn
  rw [dif_pos j.isLt]

/-- A gate's block-diagonal product. -/
theorem gate_at (H : Fed A n X) (S : Held A n s) (k : Fin k0_t2_loop.trips) (w : Fin 16 → Fin 80 → Fin 80 → EReal) (y : Fin 512) (c : Fin 256)
    (hw : ∀ e : Fin 512, X.x15 (ix3 (n2 k) e y) = if (gs (n2 k) + e.val) / 80 = ((n2 k).val * 256 + c.val) / 80
      then w (hd (col5 (n2 k) c)) ⟨(gs (n2 k) + e.val) % 80, Nat.mod_lt _ (by decide)⟩ (pl (col5 (n2 k) c)) else (0 : EReal)) (r : Fin 512) :
    k0_pay9 (ld (slabs X s) (r30 k)) (ld X.x15 (r15 k)) (ix2 r y) = heads A w (rb r) (n + r.val / 16) (col5 (n2 k) c) := by
  pointwise [k0_pay9]
  have e15 : ∀ x, ld X.x15 (r15 k) (ix3 0 x y) = _ := fun x =>
    (ldq3 (k0_off10_eq k) X.x15 (n2 k) x y 0 x y rfl (by omega) (by omega)).trans (hw x)
  simp only [e15, window_at H S, vcn_of]
  have hk : k.val < 5 := (n2 k).isLt
  have hc := c.isLt
  have hs : gs (n2 k) = min (2 * k.val - 1) 6 * 128 := rfl
  have hm : (n2 k).val = k.val := rfl
  have hsum := head_sum (gs (n2 k)) (((n2 k).val * 256 + c.val) / 80) (by rw [hs, hm]; omega) (by rw [hs, hm]; omega)
    (vcn A (rb r) (n + r.val / 16)) (fun e => w (hd (col5 (n2 k) c)) e (pl (col5 (n2 k) c)))
  refine Eq.trans (Finset.sum_congr rfl fun x _ => congrArg (· * _) ?_) (hsum.trans ?_)
  · split
    · exact congrArg _ (by simp)
    · split
      · exact congrArg _ (by simp; omega)
      · split
        · exact congrArg _ (by simp; omega)
        · exact congrArg _ (by simp; omega)
  · unfold heads
    refine Finset.sum_congr rfl fun e _ => ?_
    rw [vcn_of]
    rfl

/-- A trip's row of a parameter. -/
theorem par_at (w : Vec Ideal S5x1x256 .f32) (p : Fin 1280 → EReal) (hw : ∀ (k : Fin 5) (c : Fin 256), w (ix3 k 0 c) = p (col5 k c))
    (k : Fin k0_t2_loop.trips) (c : Fin 256) : ld w (r16 k) (ix3 0 0 c) = p (col5 (n2 k) c) :=
  (ldq3 (k0_off11_eq k) w (n2 k) 0 c 0 0 c rfl rfl (by omega)).trans (hw (n2 k) c)

/-- The input gate. -/
theorem gi_at (H : Fed A n X) (S : Held A n s) (k : Fin k0_t2_loop.trips) (r : Fin 512) (c : Fin 256) :
    k0_pay10 (ld (slabs X s) (r30 k)) (ld X.x15 (r15 k)) (ld X.x17 (r16 k)) (ix2 r c) = gi A (rb r) (n + r.val / 16) (col5 (n2 k) c) := by
  pointwise [k0_pay10]
  rw [gate_at H S k A.wx _ c (fun e => H.xx (n2 k) e c), par_at X.x17 A.bx H.x17]
  rfl

/-- The recurrence gate, scaled. -/
theorem gr_at (H : Fed A n X) (S : Held A n s) (k : Fin k0_t2_loop.trips) (r : Fin 512) (c : Fin 256) :
    k0_pay11 (ld (slabs X s) (r30 k)) (ld X.x15 (r15 k)) (ld X.x16 (r16 k)) (ix2 r c)
      = Ideal.ofBits FTy.f32 0xC1000000#32 * gr A (rb r) (n + r.val / 16) (col5 (n2 k) c) := by
  pointwise [k0_pay11]
  rw [gate_at H S k A.wa _ c (fun e => H.xa (n2 k) e c), par_at X.x16 A.ba H.x16]
  rfl

/-- The softplus as the kernel forms it. -/
theorem sp_form (l : EReal) : (if 0 - l ≠ 0 - l then 0 - l else
    max (0 - l) 0 + Ideal.log1p (Ideal.exp (0 - max (0 - l) (-(0 - l))))) = sp l := by
  rw [if_neg (fun h => h rfl)]
  unfold sp
  simp only [sub_eq_add_neg, zero_add]

/-- The decay's logarithm. -/
theorem la_at (H : Fed A n X) (S : Held A n s) (k : Fin k0_t2_loop.trips) (r : Fin 512) (c : Fin 256) (z : EReal) (hz : z = 0) :
    k0_pay14 (k0_pay11 (ld (slabs X s) (r30 k)) (ld X.x15 (r15 k)) (ld X.x16 (r16 k))) (k0_pay12 (ld X.x18 (r16 k)))
      z (k0_pay13 (F := Ideal)) (ix2 r c) = la A (rb r) (n + r.val / 16) (col5 (n2 k) c) := by
  subst hz
  pointwise [k0_pay14, k0_pay12, k0_pay13]
  rw [gr_at H S, par_at X.x18 A.lam H.x18]
  exact congrArg (_ * ·) (sp_form _)

/-- The decay. -/
theorem aa_at (H : Fed A n X) (S : Held A n s) (k : Fin k0_t2_loop.trips) (r : Fin 512) (c : Fin 256) :
    aa X s k (ix2 r c) = Layer.aa A (rb r) (n + r.val / 16) (col5 (n2 k) c) := by
  unfold aa aOf
  pointwise [k0_pay16, k0_pay15]
  rw [la_at H S k r c 0 rfl]
  rfl

/-- One less the decay's square, as the kernel forms it: the same at every extended real. -/
theorem one_less (l : EReal) : (0 - Ideal.tanh l) * (Ideal.exp l * Ideal.exp l + 1) = -(Ideal.exp (Ideal.ofBits FTy.f32 1073741824#32 * l) - 1) := by
  have h2 : Ideal.ofBits FTy.f32 1073741824#32 = ((2 : ℝ) : EReal) := by
    simp [Ideal.ofBits, Ideal.ieee]
    norm_cast
    norm_num
  rw [h2]
  induction l with
  | bot =>
    rw [EReal.coe_mul_bot_of_pos (by norm_num)]
    show (0 - (-1 : EReal)) * ((0 : EReal) * 0 + 1) = -((0 : EReal) - 1)
    norm_num
  | top =>
    rw [EReal.coe_mul_top_of_pos (by norm_num)]
    show (0 - (1 : EReal)) * ((⊤ : EReal) * ⊤ + 1) = -((⊤ : EReal) - 1)
    rw [EReal.top_mul_top]
    have e1 : (⊤ : EReal) + 1 = ⊤ := EReal.top_add_coe 1
    have e2 : (⊤ : EReal) - 1 = ⊤ := EReal.top_sub_coe 1
    rw [e1, e2, zero_sub]
    exact EReal.coe_mul_top_of_neg (x := -1) (by norm_num)
  | coe x =>
    show (0 - ((Real.tanh x : ℝ) : EReal)) * (((Real.exp x : ℝ) : EReal) * ((Real.exp x : ℝ) : EReal) + 1) = -(Ideal.exp (((2 : ℝ) : EReal) * (x : EReal)) - 1)
    rw [← EReal.coe_mul 2 x]
    show _ = -(((Real.exp (2 * x) : ℝ) : EReal) - 1)
    norm_cast
    rw [Real.tanh_eq_sinh_div_cosh, Real.sinh_eq, Real.cosh_eq, Real.exp_neg, two_mul, Real.exp_add]
    have hp := Real.exp_pos x
    field_simp
    ring

/-- The recurrence's input. -/
theorem bb_at (H : Fed A n X) (S : Held A n s) (k : Fin k0_t2_loop.trips) (r : Fin 512) (c : Fin 256) :
    bb X s k (ix2 r c) = bt A (rb r) (n + r.val / 16) (col5 (n2 k) c) := by
  unfold bb bOf
  pointwise [k0_pay17, k0_pay15]
  have e29 : ld (blocks X s) (r29 k) (ix3 0 r c) = vc A (rb r) (n + r.val / 16) (col5 (n2 k) c) :=
    (ldq3 (k0_off12_eq k) (blocks X s) (n2 k) r c 0 r c rfl (by omega) (by omega)).trans (blocks_at H S (n2 k) r c)
  rw [la_at H S k r c 0 rfl, gi_at H S, e29, one_less]
  rfl

/-! ## The recurrence -/

/-- The carried state as loaded. -/
theorem h0_at (S : Held A n s) (k : Fin k0_t2_loop.trips) (b : Fin 16) (c : Fin 256) : h0 s k (ix3 0 b c) = hs A b (col5 (n2 k) c) n :=
  (ldq3 (k0_off13_eq k) s.h (n2 k) b c 0 b c rfl (by omega) (by omega)).trans (S.h (n2 k) b c)

/-- A step's rows of the factors. -/
theorem row_at (B : Vec Ideal S512x256 .f32) (f : Fin 16 → ℕ → Fin 256 → EReal) (hB : ∀ r c, B (ix2 r c) = f (rb r) (n + r.val / 16) c)
    (t : ℕ) (ht : t < 32) (b : Fin 16) (c : Fin 256) : row B t (ix2 b c) = f b (n + t) c := by
  show B (ValueIdx.ix2 ⟨(16 * t + b.val) % 512, _⟩ c) = _
  rw [vix2, hB]
  have e1 : rb ⟨(16 * t + b.val) % 512, Nat.mod_lt _ (by decide)⟩ = b := Fin.ext (by show (16 * t + b.val) % 512 % 16 = b.val; omega)
  rw [e1]
  exact congrArg (fun q => f b q c) (by show n + (16 * t + b.val) % 512 / 16 = n + t; omega)

/-- The kernel's states are the recurrence's. -/
theorem HS_at (H : Fed A n X) (S : Held A n s) (k : Fin k0_t2_loop.trips) (b : Fin 16) (c : Fin 256) : ∀ t, t < 32 →
    HS (aa X s k) (bb X s k) (h0 s k) t (ix2 b c) = hs A b (col5 (n2 k) c) (n + t + 1)
  | 0, _ => by
    unfold HS
    pointwise [k0_pay18]
    rw [row_at _ (fun b t c => Layer.aa A b t (col5 (n2 k) c)) (aa_at H S k) 0 (by decide),
      row_at _ (fun b t c => bt A b t (col5 (n2 k) c)) (bb_at H S k) 0 (by decide), h0_at S]
    rfl
  | t + 1, ht => by
    unfold HS
    pointwise
    rw [row_at _ (fun b t c => Layer.aa A b t (col5 (n2 k) c)) (aa_at H S k) (t + 1) ht,
      row_at _ (fun b t c => bt A b t (col5 (n2 k) c)) (bb_at H S k) (t + 1) ht, HS_at H S k b c t (by omega)]
    rfl

/-- The history. -/
theorem hist_at (H : Fed A n X) (S : Held A n s) (k : Fin k0_t2_loop.trips) (r : Fin 512) (c : Fin 256) :
    hist (aa X s k) (bb X s k) (h0 s k) (ix2 r c) = hs A (rb r) (col5 (n2 k) c) (n + r.val / 16 + 1) := by
  show k0_pay19 (HS (aa X s k) (bb X s k) (h0 s k) (r.val / 16)) (ValueIdx.ix2 (rb r) c) = _
  rw [vix2]
  pointwise [k0_pay19]
  exact HS_at H S k (rb r) c (r.val / 16) (by omega)

/-- A trip's block of the recurrent branch. -/
theorem rr_at (H : Fed A n X) (S : Held A n s) (k : Fin k0_t2_loop.trips) (r : Fin 512) (c : Fin 256) :
    rr X s k (ix3 0 r c) = sB A (rb r) (n + r.val / 16) (col5 (n2 k) c) := by
  unfold rr
  pointwise [k0_pay122]
  have e19 : ∀ d, ld X.x19 (r19 k) (ix3 0 d c) = A.w d ⟨5376 + ((n2 k).val * 256 + c.val), by omega⟩ := fun d =>
    (ldq3 (k0_off14_eq k) X.x19 (n2 k) d c 0 d c rfl (by omega) (by omega)).trans (H.x19 (n2 k) d c)
  have eY : ld (hist (aa X s k) (bb X s k) (h0 s k)) rY (ix2 r c) = hs A (rb r) (col5 (n2 k) c) (n + r.val / 16 + 1) :=
    (ldw2 _ r c).trans (hist_at H S k r c)
  simp only [htb_at H, e19, eY]
  rfl

/-- The state a trip leaves. -/
theorem nextH_at (H : Fed A n X) (S : Held A n s) (j : Fin 5) (b : Fin 16) (c : Fin 256) :
    nextH X s (ix3 j b c) = hs A b (col5 j c) (n + 32) := by
  refine (congrArg (nh X s (t2 j)) (vix3 0 b c)).trans ?_
  unfold nh
  pointwise [k0_pay121, k0_pay119]
  exact HS_at H S (t2 j) b c 31 (by decide)

/-- A block of the recurrent branch's buffer. -/
theorem rAll_at (H : Fed A n X) (S : Held A n s) (j : ℕ) (hj : j < 5) (inb) (r : Fin 512) (c : Fin 256) :
    ld (rAll X s) (r34s j inb) (ix3 0 r c) = sB A (rb r) (n + r.val / 16) (col5 ⟨j, hj⟩ c) :=
  (ldq3 rfl (rAll X s) ⟨j, hj⟩ r c 0 r c rfl (by omega) (by omega)).trans
    ((congrArg (rr X s (t2 ⟨j, hj⟩)) (vix3 0 r c)).trans (rr_at H S (t2 ⟨j, hj⟩) r c))

/-- The branch's projection. -/
theorem yb_at (H : Fed A n X) (S : Held A n s) (r : Fin 512) (d : Fin 1024) : yb X s (ix2 r d) = Layer.yb A (rb r) (n + r.val / 16) d := by
  unfold yb
  pointwise [k0_pay123]
  have e20 : ∀ j, ld X.x20 (Rect.unit (s := S1280x1024) ![0, 0] S1280x1024.size inb_S1280x1024_S1280x1024_0_0) (ix2 j d) = A.wr j d := fun j =>
    (ldw2 X.x20 j d).trans (H.x20 j d)
  simp only [e20, rAll_at H S 0 (by decide), rAll_at H S 1 (by decide), rAll_at H S 2 (by decide), rAll_at H S 3 (by decide), rAll_at H S 4 (by decide)]
  refine Finset.sum_congr rfl fun x _ => congrArg (· * _) ?_
  have cx : ∀ (j : Fin 5) (c : Fin 256), x.val = j.val * 256 + c.val → sB A (rb r) (n + r.val / 16) (col5 j c) = sB A (rb r) (n + r.val / 16) x :=
    fun j c h => congrArg _ (Fin.ext h.symm)
  split
  · exact cx _ _ (by simp)
  · split
    · exact cx _ _ (by simp; omega)
    · split
      · exact cx _ _ (by simp; omega)
      · split
        · exact cx _ _ (by simp; omega)
        · exact cx _ _ (by simp; omega)

end Cert.KernelIdeal.Hand

end
-- ==== Proof.KerC.lean ====
/-
  The block kernel at exact arithmetic, entry by entry: the merge, the output projection and the last normalisation.
-/
module

public import proofs.«01_k».proof.Proof.KerB

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Cert.Layer (Args back hh zz zo uu vz vc hd pl mate heads gr gi sp la bt hs sB mg yy xo res)

variable {A : Args} {n : ℕ} {X : Ins Ideal} {s : St Ideal}

/-- The merged rows in time-major order. -/
theorem mg_at (H : Fed A n X) (S : Held A n s) (r : Fin 512) (d : Fin 1024) :
    k0_pay124 (ya X s) (yb X s) (ldH (htb X)) (ld X.x21 (Rect.unit (s := S1024x2048) ![0, 0] S1024x2048.size inb_S1024x2048_S1024x2048_0_0))
      (ld X.x22 (Rect.unit (s := S2x1024) ![0, 0] S1x1024.size inb_S2x1024_S1x1024_0_0)) (ld X.x22 (Rect.unit (s := S2x1024) ![1, 0] S1x1024.size inb_S2x1024_S1x1024_1_0))
      (ix2 r d) = mg A (rb r) (n + r.val / 16) d := by
  pointwise [k0_pay124]
  have e21 : ∀ x j, ld X.x21 (Rect.unit (s := S1024x2048) ![0, 0] S1024x2048.size inb_S1024x2048_S1024x2048_0_0) (ix2 x j) = A.w x ⟨6656 + j.val, by omega⟩ := fun x j =>
    (ldw2 X.x21 x j).trans (H.x21 x j)
  have e220 : ld X.x22 (Rect.unit (s := S2x1024) ![0, 0] S1x1024.size inb_S2x1024_S1x1024_0_0) (ix2 0 d) = A.bm 0 d :=
    (ldq2 X.x22 0 d 0 d rfl (by omega)).trans (H.x22 0 d)
  have e221 : ld X.x22 (Rect.unit (s := S2x1024) ![1, 0] S1x1024.size inb_S2x1024_S1x1024_1_0) (ix2 0 d) = A.bm 1 d :=
    (ldq2 X.x22 1 d 0 d rfl (by omega)).trans (H.x22 1 d)
  simp only [htb_at H, e21, e220, e221, ya_at H S, yb_at H S]
  have e : ∀ x, A.w x ⟨6656 + (1024 + d.val), by omega⟩ = A.w x ⟨7680 + d.val, by omega⟩ := fun x => congrArg _ (Fin.ext (by show 6656 + (1024 + d.val) = 7680 + d.val; omega))
  simp only [e]
  rfl

/-- The merged rows in batch-major order: batch row `b`, step `t` of a half. -/
theorem mbt_at (H : Fed A n X) (S : Held A n s) (o : Fin 2) (b t : Fin 16) (d : Fin 1024) :
    ldH (mbt X s) (ix2 ⟨o.val * 256 + (b.val * 16 + t.val), by omega⟩ d) = mg A b (n + (o.val * 16 + t.val)) d := by
  have kp : ∀ (x : Fin 256), perm X (ix2 ⟨b.val * 16 + t.val, by omega⟩ x) = if x.val = t.val * 16 + b.val then (1 : EReal) else 0 := fun x => by
    refine (perm_at H ⟨b.val * 16 + t.val, by omega⟩ x).trans ?_
    have e : (b.val * 16 + t.val) % 16 * 16 + (b.val * 16 + t.val) / 16 = t.val * 16 + b.val := by omega
    show (if x.val = (b.val * 16 + t.val) % 16 * 16 + (b.val * 16 + t.val) / 16 then _ else _) = _
    rw [e]
  refine (ldw2 (mbt X s) _ d).trans ?_
  show (if h : o.val * 256 + (b.val * 16 + t.val) < 256 then k0_pay125 _ _ _ _ _ _ _ (ValueIdx.ix2 ⟨o.val * 256 + (b.val * 16 + t.val), h⟩ d)
    else k0_pay126 _ _ _ _ _ _ _ (ValueIdx.ix2 ⟨o.val * 256 + (b.val * 16 + t.val) - 256, _⟩ d)) = _
  split
  · next h =>
    have ho : o.val = 0 := by omega
    have hi : (⟨o.val * 256 + (b.val * 16 + t.val), h⟩ : Fin 256) = ⟨b.val * 16 + t.val, by omega⟩ := Fin.ext (by show o.val * 256 + (b.val * 16 + t.val) = b.val * 16 + t.val; omega)
    rw [vix2, hi]
    pointwise [k0_pay125]
    simp only [mg_at H S]
    rw [pick _ _ ⟨t.val * 16 + b.val, by omega⟩ kp]
    have q1 : rb ⟨t.val * 16 + b.val, by omega⟩ = b := Fin.ext (by show (t.val * 16 + b.val) % 16 = b.val; omega)
    have q2 : (t.val * 16 + b.val) / 16 = t.val := by omega
    simp only [q1, q2, ho]
    rw [show n + (0 * 16 + t.val) = n + t.val by omega]
  · next h =>
    have ho : o.val = 1 := by omega
    have hi : (⟨o.val * 256 + (b.val * 16 + t.val) - 256, by omega⟩ : Fin 256) = ⟨b.val * 16 + t.val, by omega⟩ := Fin.ext (by show o.val * 256 + (b.val * 16 + t.val) - 256 = b.val * 16 + t.val; omega)
    rw [vix2, hi]
    pointwise [k0_pay126]
    simp only [mg_at H S]
    rw [pick _ _ ⟨t.val * 16 + b.val, by omega⟩ kp]
    have q1 : rb ⟨256 + (t.val * 16 + b.val), by omega⟩ = b := Fin.ext (by show (256 + (t.val * 16 + b.val)) % 16 = b.val; omega)
    have q2 : (256 + (t.val * 16 + b.val)) / 16 = 16 + t.val := by omega
    simp only [q1, q2, ho]

/-- The output projection. -/
theorem v232_at (H : Fed A n X) (S : Held A n s) (o : Fin 2) (b t : Fin 16) (d : Fin 1024) :
    v232 X s (ix2 ⟨o.val * 256 + (b.val * 16 + t.val), by omega⟩ d) = yy A b (n + (o.val * 16 + t.val)) d := by
  unfold v232
  pointwise [k0_pay127]
  have e23 : ∀ k, ld X.x23 (Rect.unit (s := S1024x1024) ![0, 0] S1024x1024.size inb_S1024x1024_S1024x1024_0_0) (ix2 k d) = A.wm k d := fun k =>
    (ldw2 X.x23 k d).trans (H.x23 k d)
  simp only [mbt_at H S, e23]
  rfl

theorem gt_at (H : Fed A n X) (b : Fin 16) (d : Fin 1024) : gt X (ix3 b 0 d) = A.gt b d := (ldw3 X.x4 b 0 d).trans (H.x4 b d)
theorem gf_at (H : Fed A n X) (d : Fin 1024) : k0_pay128 (gf X) (ix3 0 0 d) = A.gf d := by
  pointwise [k0_pay128]
  exact (ldw2 X.x6 0 d).trans (H.x6 d)
theorem xA_at (H : Fed A n X) (b t : Fin 16) (d : Fin 1024) : xA X (ix3 b t d) = A.x b (n + t.val) d :=
  (ldq3 rfl X.x1 b ⟨t.val, by omega⟩ d b t d (by omega) (by simp) (by omega)).trans (H.x1 b _ d)
theorem xB_at (H : Fed A n X) (b t : Fin 16) (d : Fin 1024) : xB X (ix3 b t d) = A.x b (n + (16 + t.val)) d :=
  (ldq3 rfl X.x1 b ⟨16 + t.val, by omega⟩ d b t d (by omega) rfl (by omega)).trans (H.x1 b _ d)

/-- The first half of the output block. -/
theorem outA_at (H : Fed A n X) (S : Held A n s) (b t : Fin 16) (d : Fin 1024) : outA X s (ix3 b t d) = res A b (n + t.val) d := by
  unfold outA
  pointwise [k0_pay129]
  have e : ∀ d, v232 X s (ix2 ⟨b.val * 16 + t.val, by omega⟩ d) = yy A b (n + t.val) d := fun d => by
    have h := v232_at H S 0 b t d
    rw [show n + ((0 : Fin 2).val * 16 + t.val) = n + t.val by show n + (0 * 16 + t.val) = _; omega] at h
    exact (congrArg (fun i => v232 X s (ix2 i d)) (Fin.ext (by show b.val * 16 + t.val = 0 * 256 + (b.val * 16 + t.val); omega))).trans h
  simp only [xA_at H, gt_at H, gf_at H, e]
  rfl

/-- The second half of the output block. -/
theorem outB_at (H : Fed A n X) (S : Held A n s) (b t : Fin 16) (d : Fin 1024) : outB X s (ix3 b t d) = res A b (n + (16 + t.val)) d := by
  unfold outB
  pointwise [k0_pay1, k0_pay131, k0_pay130]
  have e : ∀ d, v232 X s (ix2 ⟨256 + (b.val * 16 + t.val), by omega⟩ d) = yy A b (n + (16 + t.val)) d := fun d => v232_at H S 1 b t d
  simp only [xB_at H, gt_at H, gf_at H, e]
  rfl

/-- The output block is the layer's result over the point's 32 steps. -/
theorem out_at (H : Fed A n X) (S : Held A n s) (b : Fin 16) (t : Fin 32) (d : Fin 1024) : out X s (ix3 b t d) = res A b (n + t.val) d := by
  show (if h : t.val < 16 then outA X s (ValueIdx.ix3 b ⟨t.val, h⟩ d) else outB X s (ValueIdx.ix3 b ⟨t.val - 16, _⟩ d)) = _
  split
  · next h => rw [vix3]; exact outA_at H S b ⟨t.val, h⟩ d
  · next h =>
    rw [vix3]
    refine (outB_at H S b _ d).trans ?_
    exact congrArg (fun q => res A b q d) (by show n + (16 + (t.val - 16)) = n + t.val; omega)

/-- What a point leaves is what the next finds. -/
theorem next_held (H : Fed A n X) (S : Held A n s) : Held A (n + 32) (next X s) where
  u := nextU_at H
  vz := nextZ_at H
  h := nextH_at H S

/-- Nothing is carried into the first point. -/
theorem zero_held : Held A 0 (zero (F := Ideal)) where
  u j r c := by
    have hk : ¬ 2 - r.val / 16 ≤ 0 := by omega
    unfold back
    rw [if_neg hk]
    unfold zero
    pointwise [k0_pay81]
  vz r j := by
    have hk : ¬ 3 - r.val / 16 ≤ 0 := by omega
    unfold back
    rw [if_neg hk]
    unfold zero
    pointwise [k0_pay82]
  h k b c := by
    unfold zero
    pointwise [k0_pay83]
    rfl

end Cert.KernelIdeal.Hand

end
-- ==== Proof.KerReads.lean ====
/-
  The arrays the block kernel's region is launched with, entry by entry, as reads of the kernel's arguments.
-/
module

public import proofs.«01_k».proof.Proof.KerC
public import proofs.«01_k».proof.Proof.HandFrame
public import Idealize.ShloMosaic.Lib.StableHlo.ReadAt
public import Idealize.ShloMosaic.Lib.Pipeline.ValueKit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic Idealize.SL.Sem
open Cert.Layer (Args hd pl)

variable (m : (ℓ : Loc nD τ sig) → Buf (Elt Ideal) ℓ) (c : Dev nD)

/-- The kernel's arguments as launched, by their coordinates. -/
def kargs : Args where
  x := fun b n d => m ((c : Thread nD τ).loc main_arg0) (ix3 b ⟨n % 2048, Nat.mod_lt _ (by decide)⟩ d)
  sh := fun b d => m ((c : Thread nD τ).loc main_arg1) (ix2 b ⟨d.val, by omega⟩)
  sc := fun b d => m ((c : Thread nD τ).loc main_arg1) (ix2 b ⟨1024 + d.val, by omega⟩)
  gt := fun b d => m ((c : Thread nD τ).loc main_arg1) (ix2 b ⟨2048 + d.val, by omega⟩)
  g := fun d => m ((c : Thread nD τ).loc main_arg2) (ix2 0 d)
  w := fun d j => m ((c : Thread nD τ).loc main_arg3) (ix3 0 d j)
  cw := fun k j => m ((c : Thread nD τ).loc main_arg4) (ix3 0 k j)
  cb := fun j => m ((c : Thread nD τ).loc main_arg5) (ix2 0 j)
  wo := fun k j => m ((c : Thread nD τ).loc main_arg6) (ix3 0 k j)
  rw := fun k j => m ((c : Thread nD τ).loc main_arg7) (ix3 0 k j)
  rb := fun j => m ((c : Thread nD τ).loc main_arg8) (ix2 0 j)
  wa := fun h d e => m ((c : Thread nD τ).loc main_arg9) (ix4 0 h d e)
  ba := fun j => m ((c : Thread nD τ).loc main_arg10) (ix2 0 j)
  wx := fun h d e => m ((c : Thread nD τ).loc main_arg11) (ix4 0 h d e)
  bx := fun j => m ((c : Thread nD τ).loc main_arg12) (ix2 0 j)
  lam := fun j => m ((c : Thread nD τ).loc main_arg13) (ix2 0 j)
  wr := fun k j => m ((c : Thread nD τ).loc main_arg14) (ix3 0 k j)
  bm := fun k j => m ((c : Thread nD τ).loc main_arg15) (ix3 0 k j)
  wm := fun k j => m ((c : Thread nD τ).loc main_arg16) (ix3 0 k j)
  gf := fun j => m ((c : Thread nD τ).loc main_arg17) (ix1 j)

/-- The shift, one row per batch entry. -/
theorem shift_at (b : Fin 16) (d : Fin 1024) : V m c main_v1 (ix3 b 0 d) = (kargs m c).sh b d := by
  unfold V; after_reads_at; rfl
/-- The scale, one row per batch entry. -/
theorem scale_at (b : Fin 16) (d : Fin 1024) : V m c main_v3 (ix3 b 0 d) = (kargs m c).sc b d := by
  unfold V; after_reads_at; rfl
/-- The gate, one row per batch entry. -/
theorem gateIn_at (b : Fin 16) (d : Fin 1024) : V m c main_v5 (ix3 b 0 d) = (kargs m c).gt b d := by
  unfold V; after_reads_at; rfl
/-- The first norm's weight. -/
theorem gnorm_at (d : Fin 1024) : V m c main_v106 (ix2 0 d) = (kargs m c).g d := by
  unfold V; after_reads_at; rfl
/-- The last norm's weight. -/
theorem gfinal_at (d : Fin 1024) : V m c main_v107 (ix2 0 d) = (kargs m c).gf d := by
  unfold V; after_reads_at; rfl
/-- The short convolution's taps, by column block. -/
theorem convw_at (j : Fin 4) (k : Fin 3) (e : Fin 256) : V m c main_v48 (ix3 j k e) = (kargs m c).cw k (col4 j e) := by
  unfold V; after_reads_at; rfl
/-- The short convolution's bias, by column block. -/
theorem convb_at (j : Fin 4) (e : Fin 256) : V m c main_v50 (ix3 j 0 e) = (kargs m c).cb (col4 j e) := by
  unfold V; after_reads_at; rfl
/-- The short convolution's output projection. -/
theorem scout_at (j d : Fin 1024) : V m c main_v121 (ix2 j d) = (kargs m c).wo j d := by
  unfold V; after_reads_at; rfl
/-- The recurrent branch's input columns of the projection. -/
theorem rgv_at (d : Fin 1024) (j : Fin 1280) : V m c main_v33 (ix2 d j) = (kargs m c).w d ⟨4096 + j.val, by omega⟩ := by
  unfold V; after_reads_at; rfl
/-- The recurrent branch's taps. -/
theorem rgw_at (k : Fin 4) (j : Fin 1280) : V m c main_v122 (ix2 k j) = (kargs m c).rw k j := by
  unfold V; after_reads_at; rfl
/-- The recurrent branch's convolution bias. -/
theorem rgb_at (j : Fin 1280) : V m c main_v124 (ix2 0 j) = (kargs m c).rb j := by
  unfold V; after_reads_at; rfl
/-- The recurrence gate's bias, by column block. -/
theorem ba_at (k : Fin 5) (e : Fin 256) : V m c main_v100 (ix3 k 0 e) = (kargs m c).ba (col5 k e) := by
  unfold V; after_reads_at; rfl
/-- The input gate's bias, by column block. -/
theorem bx_at (k : Fin 5) (e : Fin 256) : V m c main_v102 (ix3 k 0 e) = (kargs m c).bx (col5 k e) := by
  unfold V; after_reads_at; rfl
/-- The decay parameter, by column block. -/
theorem lam_at (k : Fin 5) (e : Fin 256) : V m c main_v104 (ix3 k 0 e) = (kargs m c).lam (col5 k e) := by
  unfold V; after_reads_at; rfl
/-- The recurrent branch's output projection. -/
theorem rgout_at (j : Fin 1280) (d : Fin 1024) : V m c main_v126 (ix2 j d) = (kargs m c).wr j d := by
  unfold V; after_reads_at; rfl
/-- The merge's columns of the projection. -/
theorem merge_at (d : Fin 1024) (j : Fin 2048) : V m c main_v45 (ix2 d j) = (kargs m c).w d ⟨6656 + j.val, by omega⟩ := by
  unfold V; after_reads_at; rfl
/-- The merge's bias. -/
theorem bm_at (k : Fin 2) (j : Fin 1024) : V m c main_v127 (ix2 k j) = (kargs m c).bm k j := by
  unfold V; after_reads_at; rfl
/-- The last projection. -/
theorem wout_at (k j : Fin 1024) : V m c main_v129 (ix2 k j) = (kargs m c).wm k j := by
  unfold V; after_reads_at; rfl

/-- The recurrent branch's gate columns of the projection, by column block. -/
theorem rgg_at (k : Fin 5) (d : Fin 1024) (e : Fin 256) : V m c main_v44 (ix3 k d e) = (kargs m c).w d ⟨5376 + (k.val * 256 + e.val), by omega⟩ := by
  unfold V
  match k with
  | 0 | 1 | 2 | 3 | 4 =>
    after_reads_at
    after_reads_at
    refine congrArg ((kargs m c).w d) (Fin.ext ?_)
    dsimp <;> omega

/-- The short convolution's columns of the projection, four column blocks of four parts. -/
theorem sc_col (j : Fin 4) (d x : Fin 1024) : V m c main_v32 (ix3 j d x)
    = (kargs m c).w d ⟨x.val / 256 * 1024 + (j.val * 256 + x.val % 256), by omega⟩ := by
  unfold V
  have he := x.isLt
  match j with
  | 0 | 1 | 2 | 3 =>
    after_reads_at
    after_reads_at
    after_reads_at
    repeat' split
    all_goals
      refine congrArg ((kargs m c).w d) (Fin.ext ?_)
      dsimp <;> omega

/-- The short convolution's columns of the projection: the four parts of a column block side by side. -/
theorem sc_at (j : Fin 4) (d : Fin 1024) (q : Fin 4) (e : Fin 256) : V m c main_v32 (ix3 j d ⟨q.val * 256 + e.val, by omega⟩)
    = (kargs m c).w d ⟨q.val * 1024 + (j.val * 256 + e.val), by omega⟩ := by
  rw [sc_col]
  refine congrArg ((kargs m c).w d) (Fin.ext ?_)
  show (q.val * 256 + e.val) / 256 * 1024 + (j.val * 256 + (q.val * 256 + e.val) % 256) = q.val * 1024 + (j.val * 256 + e.val)
  omega

/-- Comparing two numbers as words, read as one or zero. -/
theorem eq_bit (f : FTy) (a b : ℕ) (ha : a < 2 ^ 32) (hb : b < 2 ^ 32) :
    FloatOps.uitofp (F := Ideal) f (IntOp.cmpi CmpIPredicate.eq (BitVec.ofNat 32 a) (BitVec.ofNat 32 b)) = if b = a then (1 : EReal) else 0 := by
  by_cases h : b = a
  · subst h
    rw [if_pos rfl]
    simp only [IntOp.cmpi, beq_self_eq_true]
    show (((BitVec.toNat (1#1) : ℕ) : ℝ) : EReal) = 1
    simp
  · rw [if_neg h]
    have hn : (BitVec.ofNat 32 a == BitVec.ofNat 32 b) = false := beq_false_of_ne fun e => h (by
      have := congrArg BitVec.toNat e
      rw [BitVec.toNat_ofNat, BitVec.toNat_ofNat, Nat.mod_eq_of_lt ha, Nat.mod_eq_of_lt hb] at this
      exact this.symm)
    simp only [IntOp.cmpi, hn]
    show (((BitVec.toNat (0#1) : ℕ) : ℝ) : EReal) = 0
    simp

/-- Where a row of the permutation points. -/
theorem perm_in_at (r k : Fin 256) : V m c main_v119 (ix2 r k) = if k.val = r.val % 16 * 16 + r.val / 16 then (1 : EReal) else 0 := by
  unfold V
  after_reads_at
  refine (congrArg (fun w => FloatOps.uitofp (F := Ideal) FTy.bf16 (IntOp.cmpi CmpIPredicate.eq w (BitVec.ofNat 32 k.val)))
    (?_ : _ = BitVec.ofNat 32 (r.val % 16 * 16 + r.val / 16))).trans ?_
  · revert r; decide +kernel
  · exact eq_bit _ _ _ (by omega) (by omega)

/-- A gate window is a piece of the block-diagonal matrix: zero off the heads. -/
theorem diag_at (w : Fin 16 → Fin 80 → Fin 80 → EReal) (p q : ℕ) (hP : p < 1280) (hQ : q < 1280) (k : Fin 5) (e : Fin 512) (j : Fin 256)
    (hp : p = gs k + e.val) (hq : q = k.val * 256 + j.val) :
    FloatOps.uitofp (F := Ideal) FTy.f32 (IntOp.cmpi CmpIPredicate.eq (IntOp.addi (BitVec.ofNat 32 (p / 80)) 0#32) (BitVec.ofNat 32 (q / 80)))
      * w ⟨p / 80, by omega⟩ ⟨p % 80, by omega⟩ ⟨q % 80, by omega⟩
    = if (gs k + e.val) / 80 = q / 80 then w (hd (col5 k j)) ⟨(gs k + e.val) % 80, Nat.mod_lt _ (by decide)⟩ (pl (col5 k j)) else (0 : EReal) := by
  rw [show IntOp.addi (BitVec.ofNat 32 (p / 80)) 0#32 = BitVec.ofNat 32 (p / 80) from BitVec.add_zero _, eq_bit _ _ _ (by omega) (by omega)]
  subst hq
  simp only [← hp]
  by_cases h : (k.val * 256 + j.val) / 80 = p / 80
  · rw [if_pos h, one_mul, if_pos h.symm]
    exact congrArg (fun o => w o ⟨p % 80, Nat.mod_lt _ (by decide)⟩ (pl (col5 k j))) (Fin.ext h.symm)
  · rw [if_neg h, zero_mul, if_neg fun x => h x.symm]

/-- The recurrence gate's windows. -/
theorem wa_at (k : Fin 5) (e : Fin 512) (j : Fin 256) : V m c main_v98 (ix3 k e ⟨j.val, by omega⟩)
    = if (gs k + e.val) / 80 = (k.val * 256 + j.val) / 80 then (kargs m c).wa (hd (col5 k j)) ⟨(gs k + e.val) % 80, Nat.mod_lt _ (by decide)⟩ (pl (col5 k j)) else (0 : EReal) := by
  unfold V
  have he := e.isLt
  match k with
  | 0 | 1 | 2 | 3 | 4 =>
    after_reads_at
    after_reads_at
    after_reads_at
    refine diag_at (kargs m c).wa _ _ ?_ ?_ _ e j ?_ ?_
    all_goals (try dsimp [gs]) <;> omega

/-- The input gate's windows. -/
theorem wx_at (k : Fin 5) (e : Fin 512) (j : Fin 256) : V m c main_v98 (ix3 k e ⟨256 + j.val, by omega⟩)
    = if (gs k + e.val) / 80 = (k.val * 256 + j.val) / 80 then (kargs m c).wx (hd (col5 k j)) ⟨(gs k + e.val) % 80, Nat.mod_lt _ (by decide)⟩ (pl (col5 k j)) else (0 : EReal) := by
  unfold V
  have he := e.isLt
  match k with
  | 0 | 1 | 2 | 3 | 4 =>
    after_reads_at
    after_reads_at
    after_reads_at
    refine diag_at (kargs m c).wx _ _ ?_ ?_ _ e j ?_ ?_
    all_goals (try dsimp [gs]) <;> omega

end Cert.KernelIdeal.Hand

end
-- ==== Proof.KerBlocks.lean ====
/-
  The blocks the block kernel's points are fed, of its arguments.
-/
module

public import proofs.«01_k».proof.Proof.KerReads

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic Idealize.SL.Sem
open Cert.Layer (Args res)
open Idealize.ShloMosaic.Pipeline (Dat)

variable (m : (ℓ : Loc nD τ sig) → Buf (Elt Ideal) ℓ) (c : Dev nD)

/-- The activations' block `t` is the time tile `t`. -/
theorem index0 : ∀ t : Fin cfg0.N, win0_0.index t = ![0, t.val, 0] :=
  (by decide +kernel : ∀ t : Fin grid0.N, _)
/-- The result's block `t` is the time tile `t`. -/
theorem index23 : ∀ t : Fin cfg0.N, win0_23.index t = ![0, t.val, 0] :=
  (by decide +kernel : ∀ t : Fin grid0.N, _)
/-- Every other operand is one block. -/
theorem indices : ∀ t : Fin cfg0.N, win0_1.index t = ![0, 0, 0] ∧ win0_2.index t = ![0, 0, 0] ∧ win0_3.index t = ![0, 0, 0] ∧ win0_4.index t = ![0, 0] ∧ win0_5.index t = ![0, 0] ∧ win0_6.index t = ![0, 0] ∧ win0_7.index t = ![0, 0, 0] ∧ win0_8.index t = ![0, 0, 0] ∧ win0_9.index t = ![0, 0, 0] ∧ win0_10.index t = ![0, 0] ∧ win0_11.index t = ![0, 0] ∧ win0_12.index t = ![0, 0] ∧ win0_13.index t = ![0, 0] ∧ win0_14.index t = ![0, 0, 0] ∧ win0_15.index t = ![0, 0, 0] ∧ win0_16.index t = ![0, 0, 0] ∧ win0_17.index t = ![0, 0, 0] ∧ win0_18.index t = ![0, 0, 0] ∧ win0_19.index t = ![0, 0] ∧ win0_20.index t = ![0, 0] ∧ win0_21.index t = ![0, 0] ∧ win0_22.index t = ![0, 0] :=
  (by decide +kernel : ∀ t : Fin grid0.N, _)

set_option maxHeartbeats 4000000 in
/-- A window of one block shows its whole array. -/
theorem wholes (t : Fin cfg0.N) : iblk m c 1 t = V m c main_v1
    ∧ iblk m c 2 t = V m c main_v3
    ∧ iblk m c 3 t = V m c main_v5
    ∧ iblk m c 4 t = V m c main_v106
    ∧ iblk m c 5 t = V m c main_v107
    ∧ iblk m c 6 t = V m c main_v119
    ∧ iblk m c 7 t = V m c main_v32
    ∧ iblk m c 8 t = V m c main_v48
    ∧ iblk m c 9 t = V m c main_v50
    ∧ iblk m c 10 t = V m c main_v121
    ∧ iblk m c 11 t = V m c main_v33
    ∧ iblk m c 12 t = V m c main_v122
    ∧ iblk m c 13 t = V m c main_v124
    ∧ iblk m c 14 t = V m c main_v98
    ∧ iblk m c 15 t = V m c main_v100
    ∧ iblk m c 16 t = V m c main_v102
    ∧ iblk m c 17 t = V m c main_v104
    ∧ iblk m c 18 t = V m c main_v44
    ∧ iblk m c 19 t = V m c main_v126
    ∧ iblk m c 20 t = V m c main_v45
    ∧ iblk m c 21 t = V m c main_v127
    ∧ iblk m c 22 t = V m c main_v129 := by
  obtain ⟨i1, i2, i3, i4, i5, i6, i7, i8, i9, i10, i11, i12, i13, i14, i15, i16, i17, i18, i19, i20, i21, i22⟩ := indices t
  refine ⟨?_, ?_, ?_, ?_, ?_, ?_, ?_, ?_, ?_, ?_, ?_, ?_, ?_, ?_, ?_, ?_, ?_, ?_, ?_, ?_, ?_, ?_⟩
  all_goals
    funext y
    blk_simp [iblk]
    refine congrArg (V m c _) ?_
    blk_ext [i1, i2, i3, i4, i5, i6, i7, i8, i9, i10, i11, i12, i13, i14, i15, i16, i17, i18, i19, i20, i21, i22]

theorem x1_at (t : Fin cfg0.N) (b : Fin 16) (s : Fin 32) (d : Fin 1024) : iblk m c 0 t (ix3 b s d) = (kargs m c).x b (32 * t.val + s.val) d := by
  have ht : t.val < 64 := t.isLt
  blk_simp [iblk]
  have e : (win0_0.blk t).view.emb (ix3 b s d) = ix3 (n0 := 16) (n1 := 2048) (n2 := 1024) b ⟨t.val * 32 + s.val, by omega⟩ d := by
    blk_ext [index0 t]
  rw [e, V_main_arg0]
  refine congrArg (fun n => m ((c : Thread nD τ).loc main_arg0) (ix3 b n d)) (Fin.ext ?_)
  show t.val * 32 + s.val = (32 * t.val + s.val) % 2048
  omega

end Cert.KernelIdeal.Hand

end
-- ==== Proof.Reference.lean ====
/-
  What the reference's operations compute before its loop, stretch by stretch and entry by entry: the layer's mathematics (`Cert.Layer`).
-/
module

public import proofs.«01_k».proof.Proof.Gen.ReferenceIdeal.Run
public import proofs.«01_k».proof.Proof.Layer
public import Idealize.ShloMosaic.Lib.StableHlo.ReadAt
public import Idealize.ShloMosaic.Lib.Pointwise

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.Layer (Args back inv hh zz zo uu sA ya vz vc hd pl mate heads gr gi sp la aa bt hs sB yb mg yy xo res)

/-- The operations before the loop. -/
abbrev pre : List (HloOp τ sig (Elt Ideal)) := (preI (F := Ideal)).flatten
/-- The operations after the loop. -/
abbrev post : List (HloOp τ sig (Elt Ideal)) := (postI (F := Ideal)).flatten

/-- The normalised and modulated activations. -/
abbrev seg1 : List (HloOp τ sig (Elt Ideal)) := pre.take 29
/-- The input projection. -/
abbrev seg2 : List (HloOp τ sig (Elt Ideal)) := (pre.drop 29).take 2
/-- The short convolution. -/
abbrev seg3 : List (HloOp τ sig (Elt Ideal)) := (pre.drop 31).take 48
/-- Its projection. -/
abbrev seg4 : List (HloOp τ sig (Elt Ideal)) := (pre.drop 79).take 2
/-- The recurrent branch's convolution. -/
abbrev seg5 : List (HloOp τ sig (Elt Ideal)) := (pre.drop 81).take 35
/-- The gates. -/
abbrev seg6 : List (HloOp τ sig (Elt Ideal)) := (pre.drop 116).take 34
/-- The recurrence's factors and inputs. -/
abbrev seg7 : List (HloOp τ sig (Elt Ideal)) := (pre.drop 150).take 37
/-- The loop's starting values. -/
abbrev seg8 : List (HloOp τ sig (Elt Ideal)) := pre.drop 187

/-- A line is its first operations, then the others. -/
theorem after_cut (n : ℕ) (ops : List (HloOp τ sig (Elt Ideal))) (V : Valuation τ sig (Elt Ideal)) :
    after ops V = after (ops.drop n) (after (ops.take n) V) := by
  induction ops generalizing n V with
  | nil => cases n <;> rfl
  | cons o l ih => cases n with
    | zero => rfl
    | succ n => exact ih n _

/-- The operations before the loop, stretch by stretch. -/
theorem after_pre (V : Valuation τ sig (Elt Ideal)) :
    after pre V = after seg8 (after seg7 (after seg6 (after seg5 (after seg4 (after seg3 (after seg2 (after seg1 V))))))) := by
  rw [after_cut 29 pre, after_cut 2 (pre.drop 29), after_cut 48 ((pre.drop 29).drop 2), after_cut 2 (((pre.drop 29).drop 2).drop 48),
    after_cut 35 ((((pre.drop 29).drop 2).drop 48).drop 2), after_cut 34 (((((pre.drop 29).drop 2).drop 48).drop 2).drop 35),
    after_cut 37 ((((((pre.drop 29).drop 2).drop 48).drop 2).drop 35).drop 34)]
  simp only [List.drop_drop, Nat.reduceAdd]

/-- Step `n` of the 2048. -/
def stp (n : ℕ) : Fin 2048 := ⟨n % 2048, Nat.mod_lt _ (by decide)⟩
theorem stp_val (s : Fin 2048) : stp s.val = s := Fin.ext (Nat.mod_eq_of_lt s.isLt)

variable (V : Valuation τ sig (Elt Ideal))

/-- The arguments, by their coordinates. -/
def args : Args where
  x := fun b n d => V main_arg0 (ix3 b (stp n) d)
  sh := fun b d => V main_arg1 (ix2 b ⟨d.val, by omega⟩)
  sc := fun b d => V main_arg1 (ix2 b ⟨1024 + d.val, by omega⟩)
  gt := fun b d => V main_arg1 (ix2 b ⟨2048 + d.val, by omega⟩)
  g := fun d => V main_arg2 (ix2 0 d)
  w := fun d j => V main_arg3 (ix3 0 d j)
  cw := fun k j => V main_arg4 (ix3 0 k j)
  cb := fun j => V main_arg5 (ix2 0 j)
  wo := fun k j => V main_arg6 (ix3 0 k j)
  rw := fun k j => V main_arg7 (ix3 0 k j)
  rb := fun j => V main_arg8 (ix2 0 j)
  wa := fun h d e => V main_arg9 (ix4 0 h d e)
  ba := fun j => V main_arg10 (ix2 0 j)
  wx := fun h d e => V main_arg11 (ix4 0 h d e)
  bx := fun j => V main_arg12 (ix2 0 j)
  lam := fun j => V main_arg13 (ix2 0 j)
  wr := fun k j => V main_arg14 (ix3 0 k j)
  bm := fun k j => V main_arg15 (ix3 0 k j)
  wm := fun k j => V main_arg16 (ix3 0 k j)
  gf := fun j => V main_arg17 (ix1 j)

/-- A padded value read back is the value some steps back. -/
theorem back_pad {K t s : ℕ} (k : ℕ) (f : ℕ → EReal) (g : K ≤ t ∧ t - K < 2048 → EReal) (hs : s < 2048) (hk : s + K = t + k)
    (hg : ∀ h, g h = f (t - K)) :
    (if h : K ≤ t ∧ t - K < 2048 then g h else (FloatOps.sitofp (F := Ideal) FTy.f32 0#32 : EReal)) = back k f s := by
  unfold back
  by_cases h : k ≤ s
  · rw [dif_pos (by omega), if_pos h, hg, show t - K = s - k by omega]
  · rw [dif_neg (by omega), if_neg h]
    show (((0#32 : BitVec 32).toInt : ℝ) : EReal) = 0
    simp

/-- The normalised and modulated activations. -/
theorem h_at (b : Fin 16) (s : Fin 2048) (d : Fin 1024) : after seg1 V main_v24 (ix3 b s d) = hh (args V) b s.val d := by
  after_reads_at
  unfold hh Cert.Layer.inv args
  simp only [stp_val]

/-- The input projection. -/
theorem z_at (A : Args) (hx : ∀ b s d, V main_v24 (ix3 b s d) = hh A b s.val d) (hw : ∀ d j, V main_arg3 (ix3 0 d j) = A.w d j)
    (b : Fin 16) (s : Fin 2048) (j : Fin 8704) : after seg2 V main_v26 (ix3 b s j) = zz A b s.val j := by
  after_reads_at
  simp only [hx, hw]
  rfl

/-- The short-convolution branch before its projection. -/
theorem s_at (A : Args) (hz : ∀ b s j, V main_v26 (ix3 b s j) = zz A b s.val j) (hc : ∀ k j, V main_arg4 (ix3 0 k j) = A.cw k j)
    (hb : ∀ j, V main_arg5 (ix2 0 j) = A.cb j)
    (b : Fin 16) (s : Fin 2048) (j : Fin 1024) : after seg3 V main_v64 (ix3 b s j) = sA A b s.val j := by
  after_reads_at
  simp only [hz, hc, hb]
  unfold sA
  rw [← back_pad (K := 2) (t := s.val) 2 (uu A b j) (fun _ => uu A b j (s.val - 2)) s.isLt (by omega) fun _ => rfl,
    ← back_pad (K := 2) (t := 1 + s.val) 1 (uu A b j) (fun _ => uu A b j (1 + s.val - 2)) s.isLt (by omega) fun _ => rfl]
  simp only [zo, uu, Nat.zero_add]
  rfl

/-- The slices of the input projection that later stretches read. -/
theorem sl31_at (A : Args) (hz : ∀ b s j, V main_v26 (ix3 b s j) = zz A b s.val j) (b : Fin 16) (s : Fin 2048) (j : Fin 1280) :
    after seg3 V main_v31 (ix3 b s j) = vz A b j s.val := by
  after_reads_at
  exact hz _ _ _
theorem sl32_at (A : Args) (hz : ∀ b s j, V main_v26 (ix3 b s j) = zz A b s.val j) (b : Fin 16) (s : Fin 2048) (j : Fin 1280) :
    after seg3 V main_v32 (ix3 b s j) = zo A 5376 (w := 1280) (by decide) b s.val j := by
  after_reads_at
  exact hz _ _ _
theorem sl33_at (A : Args) (hz : ∀ b s j, V main_v26 (ix3 b s j) = zz A b s.val j) (b : Fin 16) (s : Fin 2048) (j : Fin 1024) :
    after seg3 V main_v33 (ix3 b s j) = zo A 6656 (w := 1024) (by decide) b s.val j := by
  after_reads_at
  exact hz _ _ _
theorem sl34_at (A : Args) (hz : ∀ b s j, V main_v26 (ix3 b s j) = zz A b s.val j) (b : Fin 16) (s : Fin 2048) (j : Fin 1024) :
    after seg3 V main_v34 (ix3 b s j) = zo A 7680 (w := 1024) (by decide) b s.val j := by
  after_reads_at
  exact hz _ _ _

/-- The short-convolution branch. -/
theorem ya_at (A : Args) (hx : ∀ b s j, V main_v64 (ix3 b s j) = sA A b s.val j) (hw : ∀ k j, V main_arg6 (ix3 0 k j) = A.wo k j)
    (b : Fin 16) (s : Fin 2048) (j : Fin 1024) : after seg4 V main_v66 (ix3 b s j) = ya A b s.val j := by
  after_reads_at
  simp only [hx, hw]
  rfl

/-- The recurrent branch's convolution. -/
theorem v_at (A : Args) (hz : ∀ b s j, V main_v31 (ix3 b s j) = vz A b j s.val) (hc : ∀ k j, V main_arg7 (ix3 0 k j) = A.rw k j)
    (hb : ∀ j, V main_arg8 (ix2 0 j) = A.rb j)
    (b : Fin 16) (s : Fin 2048) (j : Fin 1280) : after seg5 V main_v99 (ix3 b s j) = vc A b s.val j := by
  after_reads_at
  simp only [hz, hc, hb]
  unfold vc
  rw [← back_pad (K := 3) (t := s.val) 3 (vz A b j) (fun _ => vz A b j (s.val - 3)) s.isLt (by omega) fun _ => rfl,
    ← back_pad (K := 3) (t := 1 + s.val) 2 (vz A b j) (fun _ => vz A b j (1 + s.val - 3)) s.isLt (by omega) fun _ => rfl,
    ← back_pad (K := 3) (t := 2 + s.val) 1 (vz A b j) (fun _ => vz A b j (2 + s.val - 3)) s.isLt (by omega) fun _ => rfl]

/-- The recurrence gate. -/
theorem gr_at (A : Args) (hv : ∀ b s j, V main_v99 (ix3 b s j) = vc A b s.val j) (hw : ∀ h d e, V main_arg9 (ix4 0 h d e) = A.wa h d e)
    (hb : ∀ j, V main_arg10 (ix2 0 j) = A.ba j)
    (b : Fin 16) (s : Fin 2048) (j : Fin 1280) : after seg6 V main_v117 (ix3 b s j) = gr A b s.val j := by
  after_reads_at
  simp only [hv, hw, hb]
  rfl
/-- The input gate. -/
theorem gi_at (A : Args) (hv : ∀ b s j, V main_v99 (ix3 b s j) = vc A b s.val j) (hw : ∀ h d e, V main_arg11 (ix4 0 h d e) = A.wx h d e)
    (hb : ∀ j, V main_arg12 (ix2 0 j) = A.bx j)
    (b : Fin 16) (s : Fin 2048) (j : Fin 1280) : after seg6 V main_v129 (ix3 b s j) = gi A b s.val j := by
  after_reads_at
  simp only [hv, hw, hb]
  rfl
/-- The decays' parameter. -/
theorem lam_at (j : Fin 1280) : after seg6 V main_v104 (ix1 j) = V main_arg13 (ix2 0 j) := by
  after_reads_at

/-- The recurrence's factors. -/
theorem aa_at (A : Args) (hr : ∀ b s j, V main_v117 (ix3 b s j) = gr A b s.val j) (hl : ∀ j, V main_v104 (ix1 j) = A.lam j)
    (b : Fin 16) (s : Fin 2048) (j : Fin 1280) : after seg7 V main_v146 (ix3 s b j) = aa A b s.val j := by
  after_reads_at
  simp only [hr, hl, ne_eq, not_true_eq_false, if_false]
  rfl
/-- The recurrence's inputs. -/
theorem bt_at (A : Args) (hr : ∀ b s j, V main_v117 (ix3 b s j) = gr A b s.val j) (hl : ∀ j, V main_v104 (ix1 j) = A.lam j)
    (hv : ∀ b s j, V main_v99 (ix3 b s j) = vc A b s.val j) (hi : ∀ b s j, V main_v129 (ix3 b s j) = gi A b s.val j)
    (b : Fin 16) (s : Fin 2048) (j : Fin 1280) : after seg7 V main_v147 (ix3 s b j) = bt A b s.val j := by
  after_reads_at
  simp only [hr, hl, hv, hi, ne_eq, not_true_eq_false, if_false]
  rfl
/-- The recurrence's start. -/
theorem h0_at (b : Fin 16) (j : Fin 1280) : after seg7 V main_v145 (ix2 b j) = (0 : EReal) := by
  after_reads_at

end Cert.ReferenceIdeal.Hand

end
-- ==== Proof.ReferenceRun.lean ====
/-
  The reference's run: what its loop and the operations after it compute, and its frame.
-/
module

public import proofs.«01_k».proof.Defs
public import proofs.«01_k».proof.Proof.Reference
public import Idealize.ShloMosaic.Lib.Quiescent

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem
open Cert.Layer (Args back hh zz zo uu sA ya vz vc hd pl mate heads gr gi sp la aa bt hs sB yb mg yy xo res)

variable (V : Valuation τ sig (Elt Ideal))

/-- What the loop finds. -/
structure Entry (A : Args) (W : Valuation τ sig (Elt Ideal)) : Prop where
  ha : ∀ b (s : Fin 2048) j, W main_v149_0 (ix3 s b j) = aa A b s.val j
  hb : ∀ b (s : Fin 2048) j, W main_v149_1 (ix3 s b j) = bt A b s.val j
  h0 : ∀ b j, W main_v149_3 (ix2 b j) = (0 : EReal)

/-- What the operations after the loop read beside the loop's result. -/
structure Kept (A : Args) (W : Valuation τ sig (Elt Ideal)) : Prop where
  gt : ∀ b d, W main_v2 (ix2 b d) = A.gt b d
  zg : ∀ b (s : Fin 2048) j, W main_v32 (ix3 b s j) = zo A 5376 (w := 1280) (by decide) b s.val j
  ma : ∀ b (s : Fin 2048) j, W main_v33 (ix3 b s j) = zo A 6656 (w := 1024) (by decide) b s.val j
  mb : ∀ b (s : Fin 2048) j, W main_v34 (ix3 b s j) = zo A 7680 (w := 1024) (by decide) b s.val j
  ya : ∀ b (s : Fin 2048) j, W main_v66 (ix3 b s j) = ya A b s.val j
  x : ∀ b (s : Fin 2048) j, W main_arg0 (ix3 b s j) = A.x b s.val j
  wr : ∀ k j, W main_arg14 (ix3 0 k j) = A.wr k j
  bm : ∀ k j, W main_arg15 (ix3 0 k j) = A.bm k j
  wm : ∀ k j, W main_arg16 (ix3 0 k j) = A.wm k j
  gf : ∀ j, W main_arg17 (ix1 j) = A.gf j

/-- The input projection before the short convolution. -/
theorem z_before (b : Fin 16) (s : Fin 2048) (j : Fin 8704) : after seg2 (after seg1 V) main_v26 (ix3 b s j) = zz (args V) b s.val j :=
  z_at _ (args V) (h_at V) (fun d j => by after_reads_simp; rfl) b s j

/-- The recurrent branch's convolution before the gates. -/
theorem v_before (b : Fin 16) (s : Fin 2048) (j : Fin 1280) :
    after seg5 (after seg4 (after seg3 (after seg2 (after seg1 V)))) main_v99 (ix3 b s j) = vc (args V) b s.val j :=
  v_at _ (args V) (fun b s j => by
    rw [show after seg4 (after seg3 (after seg2 (after seg1 V))) main_v31 = after seg3 (after seg2 (after seg1 V)) main_v31 from
      after_unwritten [main_v65, main_v66] rfl (by decide) _]
    exact sl31_at _ (args V) (z_before V) b s j) (fun k j => by after_reads_simp; rfl) (fun j => by after_reads_simp; rfl) b s j

/-- The contents before the factors' stretch. -/
abbrev six : Valuation τ sig (Elt Ideal) := after seg6 (after seg5 (after seg4 (after seg3 (after seg2 (after seg1 V)))))

theorem gr_before (b : Fin 16) (s : Fin 2048) (j : Fin 1280) : six V main_v117 (ix3 b s j) = gr (args V) b s.val j :=
  gr_at _ (args V) (v_before V) (fun h d e => by after_reads_simp; rfl) (fun j => by after_reads_simp; rfl) b s j
theorem gi_before (b : Fin 16) (s : Fin 2048) (j : Fin 1280) : six V main_v129 (ix3 b s j) = gi (args V) b s.val j :=
  gi_at _ (args V) (v_before V) (fun h d e => by after_reads_simp; rfl) (fun j => by after_reads_simp; rfl) b s j
theorem lam_before (j : Fin 1280) : six V main_v104 (ix1 j) = (args V).lam j := by
  rw [six, lam_at]
  after_reads_simp
  rfl
theorem vc_before (b : Fin 16) (s : Fin 2048) (j : Fin 1280) : six V main_v99 (ix3 b s j) = vc (args V) b s.val j := by
  have e : six V main_v99 = after seg5 (after seg4 (after seg3 (after seg2 (after seg1 V)))) main_v99 := by
    unfold six
    generalize after seg5 (after seg4 (after seg3 (after seg2 (after seg1 V)))) = W
    after_reads_simp
  rw [e]
  exact v_before V b s j

/-- What the loop finds is the recurrence's factors and inputs. -/
theorem entry : Entry (args V) (after pre V) := by
  have e : ∀ W : Valuation τ sig (Elt Ideal), after seg8 W main_v149_0 = W main_v146 ∧ after seg8 W main_v149_1 = W main_v147
      ∧ after seg8 W main_v149_3 = W main_v145 := fun W => by
    refine ⟨?_, ?_, ?_⟩ <;> (after_reads_simp; rfl)
  rw [after_pre]
  refine ⟨fun b s j => ?_, fun b s j => ?_, fun b j => ?_⟩
  · rw [(e _).1]; exact aa_at _ (args V) (gr_before V) (lam_before V) b s j
  · rw [(e _).2.1]; exact bt_at _ (args V) (gr_before V) (lam_before V) (vc_before V) (gi_before V) b s j
  · rw [(e _).2.2]; exact h0_at _ b j

/-- What later operations read is unchanged since it was computed. -/
theorem later (W : Valuation τ sig (Elt Ideal)) : ∀ r ∈ [main_v32, main_v33, main_v34, main_v66],
    after seg8 (after seg7 (after seg6 (after seg5 W))) (Proc.devRef .tc r) = W (Proc.devRef .tc r) := by
  intro r hr
  fin_cases hr <;> after_reads_simp

/-- What the operations after the loop read, as the loop finds it. -/
theorem kept : Kept (args V) (after pre V) where
  gt b d := by after_reads_at; rfl
  zg b s j := by
    rw [after_pre, later _ main_v32 (by decide),
      show after seg4 (after seg3 (after seg2 (after seg1 V))) main_v32 = after seg3 (after seg2 (after seg1 V)) main_v32 from
        after_unwritten [main_v65, main_v66] rfl (by decide) _]
    exact sl32_at _ (args V) (z_before V) b s j
  ma b s j := by
    rw [after_pre, later _ main_v33 (by decide),
      show after seg4 (after seg3 (after seg2 (after seg1 V))) main_v33 = after seg3 (after seg2 (after seg1 V)) main_v33 from
        after_unwritten [main_v65, main_v66] rfl (by decide) _]
    exact sl33_at _ (args V) (z_before V) b s j
  mb b s j := by
    rw [after_pre, later _ main_v34 (by decide),
      show after seg4 (after seg3 (after seg2 (after seg1 V))) main_v34 = after seg3 (after seg2 (after seg1 V)) main_v34 from
        after_unwritten [main_v65, main_v66] rfl (by decide) _]
    exact sl34_at _ (args V) (z_before V) b s j
  ya b s j := by
    rw [after_pre, later _ main_v66 (by decide)]
    exact ya_at _ (args V) (s_at _ (args V) (z_before V) (fun k j => by after_reads_simp; rfl) (fun j => by after_reads_simp; rfl))
      (fun k j => by after_reads_simp; rfl) b s j
  x b s j := by after_reads_simp; simp only [args, stp_val]
  wr k j := by after_reads_simp; rfl
  bm k j := by after_reads_simp; rfl
  wm k j := by after_reads_simp; rfl
  gf j := by after_reads_simp; rfl

end Cert.ReferenceIdeal.Hand

end
-- ==== Proof.ReferenceValue.lean ====
/-
  The reference's value: its loop is the recurrence, and the operations after it are the layer's end.
-/
module

public import proofs.«01_k».proof.Proof.ReferenceRun
public import Idealize.ShloMosaic.Lib.WordCmp

@[expose] public section

set_option maxRecDepth 8192

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem
open Cert.Layer (Args back hh zz zo uu sA ya vz vc hd pl mate heads gr gi sp la aa bt hs sB yb mg yy xo res)

variable (V : Valuation τ sig (Elt Ideal))

/-- The counter as a number. -/
theorem ctr_toInt (k : ℕ) (hk : k < 2048) : (Scf.iv 0#32 1#32 k).toInt = (k : Int) := by
  have e : Scf.iv 0#32 1#32 k = BitVec.ofNat 32 k := by rw [Scf.iv]; simp
  rw [e]
  exact WordCmp.toInt_ofNat_of_lt (by omega)

/-- A block's starts at trip `k`. -/
theorem starts (W : Valuation τ sig (Elt Ideal)) (k : ℕ) (hk : k < 2048) (hc : W main_v149_2 = fun _ => Scf.iv 0#32 1#32 k) (a : Fin 3) :
    (((![W main_v149_2, constantI S_ 32 0#32, constantI S_ 32 0#32] : Fin 3 → (⟨S_, .i32⟩ : BufTy).Contents (Elt Ideal))) a
      (Shape.Idx.first h_S_)).toInt = ((![k, 0, 0] : Fin 3 → ℕ) a : Int) := by
  fin_cases a
  · show (W main_v149_2 _).toInt = _
    rw [hc]; exact ctr_toInt k hk
  · rfl
  · rfl

theorem fits (k : ℕ) (hk : k < 2048) : S2048x16x1280.Slices ![k, 0, 0] S1x16x1280 :=
  ⟨rfl, fun a => by fin_cases a <;> simp <;> omega⟩

/-- One trip's state. -/
theorem trip_h (W : Valuation τ sig (Elt Ideal)) (k : ℕ) (hk : k < 2048) (hc : W main_v149_2 = fun _ => Scf.iv 0#32 1#32 k)
    (b : Fin 16) (j : Fin 1280) (x h y : EReal) (hx : W main_v149_0 (ix3 ⟨k, hk⟩ b j) = x) (hh : W main_v149_3 (ix2 b j) = h)
    (hy : W main_v149_1 (ix3 ⟨k, hk⟩ b j) = y) : res_main_while0b_v202 W (ix2 b j) = x * h + y := by
  unfold res_main_while0b_v202
  rw [WordCmp.dynamicSlice_eq_extract _ _ _ _ ![k, 0, 0] (fits k hk) (starts W k hk hc),
    WordCmp.dynamicSlice_eq_extract _ _ _ _ ![k, 0, 0] (fits k hk) (starts W k hk hc)]
  pointwise
  rw [hx, hh, hy]

/-- One trip's history. -/
theorem trip_hist (W : Valuation τ sig (Elt Ideal)) (k : ℕ) (hk : k < 2048) (hc : W main_v149_2 = fun _ => Scf.iv 0#32 1#32 k)
    (s : Fin 2048) (b : Fin 16) (j : Fin 1280) : afterL bodyI W main_v149_4 (ix3 s b j)
      = if s.val = k then res_main_while0b_v202 W (ix2 b j) else W main_v149_4 (ix3 s b j) := by
  rw [trip_main_v149_4, id, WordCmp.dynamicUpdateSlice_eq_update _ _ _ _ ![k, 0, 0] (fits k hk) (starts W k hk hc)]
  unfold updateSlice
  split
  · next h =>
    have e : s.val = k := by
      have h0 := h 0
      simp at h0
      omega
    rw [if_pos e]
    pointwise
  · next h =>
    rw [if_neg fun e => h fun a => by fin_cases a <;> simp <;> omega]

section
variable (m : (ℓ : Loc nD τ sig) → Buf (Elt Ideal) ℓ) (c : Dev nD)

/-- A buffer the loop does not write. -/
theorem loop_keep (r : Ref sig .tc)
    (hr : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    simp only [List.mem_append, not_or] at hr
    rw [show atK m (k + 1) c = afterL bodyI (after condOps (atK m k c)) from rfl]
    rw [show bodyI = [while0Ops0, while0Ops0_1, while0Ops0_2, while0Ops0_3, while0Ops0_4] from rfl, afterL_cons, afterL_cons, afterL_cons,
      afterL_cons, afterL_cons, afterL_nil]
    rw [after_of_writes_sub _ _ while0Ops0_4_writes hr.2, after_of_writes_sub _ _ while0Ops0_3_writes hr.1.2,
      after_of_writes_sub _ _ while0Ops0_2_writes hr.1.1.2, after_of_writes_sub _ _ while0Ops0_1_writes hr.1.1.1.2,
      after_of_writes_sub _ _ while0Ops0_writes hr.1.1.1.1.2, after_of_writes_sub _ _ condOps_writes hr.1.1.1.1.1, loop_keep r
        (by simp only [List.mem_append, not_or]; exact hr) k]

/-- The contents before the loop, as one line. -/
theorem entry_eq : entryContents preI m c = after pre (launchContents m c) := afterL_eq_after_flatten _ _

/-- The loop's state before trip `k` is the recurrence's before step `k`, and its history is what the recurrence has reached. -/
theorem loop_val (A : Args) (hE : Entry A (entryContents preI m c)) : ∀ k, k ≤ 2048 →
    (∀ b j, atK m k c main_v149_3 (ix2 b j) = hs A b j k)
      ∧ ∀ (s : Fin 2048) b j, s.val < k → atK m k c main_v149_4 (ix3 s b j) = hs A b j (s.val + 1)
  | 0, _ => ⟨fun b j => (hE.h0 b j), fun s _ _ h => absurd h (by omega)⟩
  | k + 1, hk => by
    obtain ⟨ih, ih'⟩ := loop_val A hE k (by omega)
    have ag := cond_keeps (atK m k c)
    have hc : after condOps (atK m k c) main_v149_2 = fun _ => Scf.iv 0#32 1#32 k := by
      rw [ag main_v149_2 (by decide), atK_ctr]
    have hv : ∀ b j, res_main_while0b_v202 (after condOps (atK m k c)) (ix2 b j) = hs A b j (k + 1) := fun b j => by
      refine trip_h _ k (by omega) hc b j (aa A b k j) (hs A b j k) (bt A b k j) ?_ ?_ ?_
      · rw [ag main_v149_0 (by decide), loop_keep m c main_v149_0 (by decide), hE.ha]
      · rw [ag main_v149_3 (by decide), ih]
      · rw [ag main_v149_1 (by decide), loop_keep m c main_v149_1 (by decide), hE.hb]
    rw [show atK m (k + 1) c = afterL bodyI (after condOps (atK m k c)) from rfl]
    refine ⟨fun b j => ?_, fun s b j hs => ?_⟩
    · rw [trip_main_v149_3, id, hv]
    · rw [trip_hist _ k (by omega) hc]
      split
      · next e => rw [hv, e]
      · rw [ag main_v149_4 (by decide), ih' s b j (by omega)]
end

/-! ## After the loop -/

/-- The recurrent branch's gate and projection. -/
abbrev end1 : List (HloOp τ sig (Elt Ideal)) := post.take 13
/-- The merge and the output projection. -/
abbrev end2 : List (HloOp τ sig (Elt Ideal)) := (post.drop 13).take 32
/-- The residual sum and its normalisation. -/
abbrev end3 : List (HloOp τ sig (Elt Ideal)) := post.drop 45

theorem after_post : after post V = after end3 (after end2 (after end1 V)) := by
  rw [after_cut 13 post, after_cut 32 (post.drop 13)]
  simp only [List.drop_drop, Nat.reduceAdd]

theorem yb_at (A : Args) (hK : Kept A V) (hH : ∀ (s : Fin 2048) b j, V main_v149_4 (ix3 s b j) = hs A b j (s.val + 1))
    (b : Fin 16) (s : Fin 2048) (d : Fin 1024) : after end1 V main_v154 (ix3 b s d) = yb A b s.val d := by
  after_reads_at
  simp only [hH, hK.zg, hK.wr]
  rfl

theorem kept_end1 (A : Args) (hK : Kept A V) : Kept A (after end1 V) where
  gt := by after_reads_simp; exact hK.gt
  zg := by after_reads_simp; exact hK.zg
  ma := by after_reads_simp; exact hK.ma
  mb := by after_reads_simp; exact hK.mb
  ya := by after_reads_simp; exact hK.ya
  x := by after_reads_simp; exact hK.x
  wr := by after_reads_simp; exact hK.wr
  bm := by after_reads_simp; exact hK.bm
  wm := by after_reads_simp; exact hK.wm
  gf := by after_reads_simp; exact hK.gf

theorem yy_at (A : Args) (hK : Kept A V) (hB : ∀ b (s : Fin 2048) d, V main_v154 (ix3 b s d) = yb A b s.val d)
    (b : Fin 16) (s : Fin 2048) (d : Fin 1024) : after end2 V main_v182 (ix3 b s d) = yy A b s.val d := by
  after_reads_at
  simp only [hB, hK.ma, hK.mb, hK.ya, hK.bm, hK.wm]
  rfl

theorem gt_at (A : Args) (hK : Kept A V) (b : Fin 16) (d : Fin 1024) : after end2 V main_v180 (ix3 b 0 d) = A.gt b d := by
  after_reads_at
  exact hK.gt b d

theorem res_at (A : Args) (hx : ∀ b (s : Fin 2048) j, V main_arg0 (ix3 b s j) = A.x b s.val j) (hf : ∀ j, V main_arg17 (ix1 j) = A.gf j)
    (hy : ∀ b (s : Fin 2048) d, V main_v182 (ix3 b s d) = yy A b s.val d) (hg : ∀ b d, V main_v180 (ix3 b 0 d) = A.gt b d)
    (b : Fin 16) (s : Fin 2048) (d : Fin 1024) : after end3 V main_v198 (ix3 b s d) = res A b s.val d := by
  after_reads_at
  simp only [hx, hf, hy, hg]
  rfl

/-- The operations after the loop compute the layer's end. -/
theorem end_at (A : Args) (hK : Kept A V) (hH : ∀ (s : Fin 2048) b j, V main_v149_4 (ix3 s b j) = hs A b j (s.val + 1))
    (b : Fin 16) (s : Fin 2048) (d : Fin 1024) : after post V main_v198 (ix3 b s d) = res A b s.val d := by
  have hK1 := kept_end1 V A hK
  rw [after_post]
  refine res_at _ A (fun b s j => ?_) (fun j => ?_) (yy_at _ A hK1 (yb_at V A hK hH)) (gt_at _ A hK1) b s d
  · rw [show after end2 (after end1 V) main_arg0 = after end1 V main_arg0 from by after_reads_simp]; exact hK1.x b s j
  · rw [show after end2 (after end1 V) main_arg17 = after end1 V main_arg17 from by after_reads_simp]; exact hK1.gf j

/-- The reference's result is the layer's. -/
theorem value (m : (ℓ : Loc nD τ sig) → Buf (Elt Ideal) ℓ) (c : Dev nD) (b : Fin 16) (s : Fin 2048) (d : Fin 1024) :
    finalContents condOps preI bodyI postI 2048 m c main_v198 (ix3 b s d) = res (args (launchContents m c)) b s.val d := by
  have hE : Entry (args (launchContents m c)) (entryContents preI m c) := by rw [entry_eq]; exact entry _
  have hK : Kept (args (launchContents m c)) (entryContents preI m c) := by rw [entry_eq]; exact kept _
  have hL := loop_val m c _ hE 2048 le_rfl
  rw [show finalContents condOps preI bodyI postI 2048 m c = after post (after condOps (atK m 2048 c)) from afterL_eq_after_flatten _ _]
  have e : ∀ r : Ref sig .tc, r ∉ condOps_W ++ while0Ops0_W ++ while0Ops0_1_W ++ while0Ops0_2_W ++ while0Ops0_3_W ++ while0Ops0_4_W →
      after condOps (atK m 2048 c) (Proc.devRef .tc r) = entryContents preI m c (Proc.devRef .tc r) := fun r hr => by
    rw [after_of_writes_sub _ _ condOps_writes (by simp only [List.mem_append, not_or] at hr; exact hr.1.1.1.1.1), loop_keep m c r hr]
  refine end_at _ _ ⟨?_, ?_, ?_, ?_, ?_, ?_, ?_, ?_, ?_, ?_⟩ (fun s b j => ?_) b s d
  · rw [e main_v2 (by decide)]; exact hK.gt
  · rw [e main_v32 (by decide)]; exact hK.zg
  · rw [e main_v33 (by decide)]; exact hK.ma
  · rw [e main_v34 (by decide)]; exact hK.mb
  · rw [e main_v66 (by decide)]; exact hK.ya
  · rw [e main_arg0 (by decide)]; exact hK.x
  · rw [e main_arg14 (by decide)]; exact hK.wr
  · rw [e main_arg15 (by decide)]; exact hK.bm
  · rw [e main_arg16 (by decide)]; exact hK.wm
  · rw [e main_arg17 (by decide)]; exact hK.gf
  · rw [cond_keeps (atK m 2048 c) main_v149_4 (by decide)]; exact hL.2 s b j s.isLt

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- No stretch of operations writes an argument. -/
theorem args_kept : (∀ r ∈ argRefs, after pre V (Proc.devRef .tc r) = V (Proc.devRef .tc r))
    ∧ ∀ r ∈ argRefs, after post V (Proc.devRef .tc r) = V (Proc.devRef .tc r) := by
  constructor <;> (intro r hr; fin_cases hr <;> after_reads_simp)

/-- A run leaves every argument as it was. -/
theorem final_arg (m : (ℓ : Loc nD τ sig) → Buf (Elt Ideal) ℓ) (c : Dev nD) (r : Ref sig .tc) (hr : r ∈ argRefs) :
    finalContents condOps preI bodyI postI 2048 m c (Proc.devRef .tc r) = launchContents m c (Proc.devRef .tc r) := by
  have hw : ∀ r ∈ argRefs, r ∉ condOps_W ++ while0Ops0_W ++ while0Ops0_1_W ++ while0Ops0_2_W ++ while0Ops0_3_W ++ while0Ops0_4_W := by decide
  rw [show finalContents condOps preI bodyI postI 2048 m c = after post (after condOps (atK m 2048 c)) from afterL_eq_after_flatten _ _,
    (args_kept _).2 r hr, after_of_writes_sub _ _ condOps_writes
      (by have := hw r hr; simp only [List.mem_append, not_or] at this; exact this.1.1.1.1.1),
    loop_keep m c r (hw r hr), entry_eq, (args_kept _).1 r hr]

/-- The reference's frame: its arguments unchanged, its counters at zero. -/
theorem frame_reference : Cert.quiescent_ReferenceIdeal := fun m g _ =>
  (θ_run _ _ _).mono (fun r h => ⟨fun c => by
      have k : ∀ a ∈ argRefs, (Proc.devRef .tc a : DevRef τ sig).isScoped = false →
          r.2.mem ((c.tc : Thread nD τ).loc a) = m ((c.tc : Thread nD τ).loc a) := fun a ha hs => (h c a hs).trans (final_arg m c a ha)
      exact ⟨k main_arg0 (by decide) rfl, k main_arg1 (by decide) rfl, k main_arg2 (by decide) rfl, k main_arg3 (by decide) rfl, k main_arg4 (by decide) rfl, k main_arg5 (by decide) rfl, k main_arg6 (by decide) rfl, k main_arg7 (by decide) rfl, k main_arg8 (by decide) rfl, k main_arg9 (by decide) rfl, k main_arg10 (by decide) rfl, k main_arg11 (by decide) rfl, k main_arg12 (by decide) rfl, k main_arg13 (by decide) rfl, k main_arg14 (by decide) rfl, k main_arg15 (by decide) rfl, k main_arg16 (by decide) rfl, k main_arg17 (by decide) rfl⟩, sem_eq_zero_of_no_sems rfl r.2⟩)
    (run_fold (F := Ideal) m g)

end Cert.ReferenceIdeal.Hand

end
-- ==== Proof.KerValue.lean ====
/-
  The block kernel's result is the block, entry by entry, of its arguments; and so is the reference's.
-/
module

public import proofs.«01_k».proof.Proof.KerBlocks
public import proofs.«01_k».proof.Proof.ReferenceValue

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic Idealize.SL.Sem
open Cert.Layer (Args res)
open Idealize.ShloMosaic.Pipeline (Dat)

variable (m : (ℓ : Loc nD τ sig) → Buf (Elt Ideal) ℓ) (c : Dev nD)

/-- What a point is fed, of its blocks. -/
theorem fed_of {n : ℕ} {X : Ins Ideal} (h1 : ∀ b (t : Fin 32) d, X.x1 (ix3 b t d) = (kargs m c).x b (n + t.val) d)
    (w1 : X.x2 = V m c main_v1)
    (w2 : X.x3 = V m c main_v3)
    (w3 : X.x4 = V m c main_v5)
    (w4 : X.x5 = V m c main_v106)
    (w5 : X.x6 = V m c main_v107)
    (w6 : X.x7 = V m c main_v119)
    (w7 : X.x8 = V m c main_v32)
    (w8 : X.x9 = V m c main_v48)
    (w9 : X.x10 = V m c main_v50)
    (w10 : X.x11 = V m c main_v121)
    (w11 : X.x12 = V m c main_v33)
    (w12 : X.x13 = V m c main_v122)
    (w13 : X.x14 = V m c main_v124)
    (w14 : X.x15 = V m c main_v98)
    (w15 : X.x16 = V m c main_v100)
    (w16 : X.x17 = V m c main_v102)
    (w17 : X.x18 = V m c main_v104)
    (w18 : X.x19 = V m c main_v44)
    (w19 : X.x20 = V m c main_v126)
    (w20 : X.x21 = V m c main_v45)
    (w21 : X.x22 = V m c main_v127)
    (w22 : X.x23 = V m c main_v129) : Fed (kargs m c) n X :=
  ⟨h1,
   fun b d => (congrFun w1 _).trans (shift_at m c b d),
   fun b d => (congrFun w2 _).trans (scale_at m c b d),
   fun b d => (congrFun w3 _).trans (gateIn_at m c b d),
   fun d => (congrFun w4 _).trans (gnorm_at m c d),
   fun d => (congrFun w5 _).trans (gfinal_at m c d),
   fun r k => (congrFun w6 _).trans (perm_in_at m c r k),
   fun j d q e => (congrFun w7 _).trans (sc_at m c j d q e),
   fun j k e => (congrFun w8 _).trans (convw_at m c j k e),
   fun j e => (congrFun w9 _).trans (convb_at m c j e),
   fun j d => (congrFun w10 _).trans (scout_at m c j d),
   fun d j => (congrFun w11 _).trans (rgv_at m c d j),
   fun k j => (congrFun w12 _).trans (rgw_at m c k j),
   fun j => (congrFun w13 _).trans (rgb_at m c j),
   fun k e j => (congrFun w14 _).trans (wa_at m c k e j),
   fun k e j => (congrFun w14 _).trans (wx_at m c k e j),
   fun k e => (congrFun w15 _).trans (ba_at m c k e),
   fun k e => (congrFun w16 _).trans (bx_at m c k e),
   fun k e => (congrFun w17 _).trans (lam_at m c k e),
   fun k d e => (congrFun w18 _).trans (rgg_at m c k d e),
   fun j d => (congrFun w19 _).trans (rgout_at m c j d),
   fun d j => (congrFun w20 _).trans (merge_at m c d j),
   fun k j => (congrFun w21 _).trans (bm_at m c k j),
   fun k j => (congrFun w22 _).trans (wout_at m c k j)⟩

set_option maxHeartbeats 4000000 in
/-- What a point is fed. -/
theorem fed (t : Fin cfg0.N) : Fed (kargs m c) (32 * t.val) (insAt m c t) := by
  obtain ⟨w1, w2, w3, w4, w5, w6, w7, w8, w9, w10, w11, w12, w13, w14, w15, w16, w17, w18, w19, w20, w21, w22⟩ := wholes m c t
  refine fed_of m c (X := insAt m c t) (x1_at m c t) ?_ ?_ ?_ ?_ ?_ ?_ ?_ ?_ ?_ ?_ ?_ ?_ ?_ ?_ ?_ ?_ ?_ ?_ ?_ ?_ ?_ ?_
  all_goals unfold insAt
  · rw [w1]
  · rw [w2]
  · rw [w3]
  · rw [w4]
  · rw [w5]
  · rw [w6]
  · rw [w7]
  · rw [w8]
  · rw [w9]
  · rw [w10]
  · rw [w11]
  · rw [w12]
  · rw [w13]
  · rw [w14]
  · rw [w15]
  · rw [w16]
  · rw [w17]
  · rw [w18]
  · rw [w19]
  · rw [w20]
  · rw [w21]
  · rw [w22]

/-- Before a point the carried values are those of its time. -/
theorem held : ∀ n ≤ 64, Held (kargs m c) (32 * n) (stAt m c n)
  | 0, _ => zero_held
  | n + 1, h => by
    have hs := stAt_succ m c (⟨n, h⟩ : Fin cfg0.N)
    rw [show stAt m c (n + 1) = _ from hs]
    exact next_held (fed m c ⟨n, h⟩) (held n (by omega))

/-- The kernel's result is the block. -/
theorem result :
    (dats m 0 c).arrAt 23 cfg0.N = fun i : S16x2048x1024.Idx => res (kargs m c) (i 0) (i 1).val (i 2) := by
  refine (dats m 0 c).arrAt_eq_of_covers 23 _ (by decide +kernel) fun t _ y => ?_
  have ht : t.val < 64 := t.isLt
  blk_simp
  idx_bounds y
  have e : (win0_23.blk t).view.emb y = ix3 (n0 := 16) (n1 := 2048) (n2 := 1024) (y 0) ⟨t.val * 32 + (y 1).val, by omega⟩ (y 2) := by
    blk_ext [index23 t]
  have hn : win0_23.index t 1 = t.val := by rw [index23 t]; rfl
  rw [e, hn, after_23]
  refine (congrArg (out (insAt m c t) (stAt m c t.val)) (?_ : y = ix3 (n0 := 16) (n1 := 32) (n2 := 1024) (y 0) (y 1) (y 2))).trans
    ((out_at (fed m c t) (held m c t.val (by omega)) (y 0) (y 1) (y 2)).trans ?_)
  · funext a; fin_cases a <;> rfl
  · rw [Nat.mul_comm]
    rfl

/-- The reference's arguments are the kernel's. -/
theorem args_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17)) :
    Cert.ReferenceIdeal.Hand.args (StableHlo.launchContents m' c) = kargs m c := by
  have e0 : StableHlo.launchContents m' c (Proc.devRef .tc Cert.ReferenceIdeal.main_arg0) = m ((c.tc : Thread nD τ).loc main_arg0) := h0
  have e1 : StableHlo.launchContents m' c (Proc.devRef .tc Cert.ReferenceIdeal.main_arg1) = m ((c.tc : Thread nD τ).loc main_arg1) := h1
  have e2 : StableHlo.launchContents m' c (Proc.devRef .tc Cert.ReferenceIdeal.main_arg2) = m ((c.tc : Thread nD τ).loc main_arg2) := h2
  have e3 : StableHlo.launchContents m' c (Proc.devRef .tc Cert.ReferenceIdeal.main_arg3) = m ((c.tc : Thread nD τ).loc main_arg3) := h3
  have e4 : StableHlo.launchContents m' c (Proc.devRef .tc Cert.ReferenceIdeal.main_arg4) = m ((c.tc : Thread nD τ).loc main_arg4) := h4
  have e5 : StableHlo.launchContents m' c (Proc.devRef .tc Cert.ReferenceIdeal.main_arg5) = m ((c.tc : Thread nD τ).loc main_arg5) := h5
  have e6 : StableHlo.launchContents m' c (Proc.devRef .tc Cert.ReferenceIdeal.main_arg6) = m ((c.tc : Thread nD τ).loc main_arg6) := h6
  have e7 : StableHlo.launchContents m' c (Proc.devRef .tc Cert.ReferenceIdeal.main_arg7) = m ((c.tc : Thread nD τ).loc main_arg7) := h7
  have e8 : StableHlo.launchContents m' c (Proc.devRef .tc Cert.ReferenceIdeal.main_arg8) = m ((c.tc : Thread nD τ).loc main_arg8) := h8
  have e9 : StableHlo.launchContents m' c (Proc.devRef .tc Cert.ReferenceIdeal.main_arg9) = m ((c.tc : Thread nD τ).loc main_arg9) := h9
  have e10 : StableHlo.launchContents m' c (Proc.devRef .tc Cert.ReferenceIdeal.main_arg10) = m ((c.tc : Thread nD τ).loc main_arg10) := h10
  have e11 : StableHlo.launchContents m' c (Proc.devRef .tc Cert.ReferenceIdeal.main_arg11) = m ((c.tc : Thread nD τ).loc main_arg11) := h11
  have e12 : StableHlo.launchContents m' c (Proc.devRef .tc Cert.ReferenceIdeal.main_arg12) = m ((c.tc : Thread nD τ).loc main_arg12) := h12
  have e13 : StableHlo.launchContents m' c (Proc.devRef .tc Cert.ReferenceIdeal.main_arg13) = m ((c.tc : Thread nD τ).loc main_arg13) := h13
  have e14 : StableHlo.launchContents m' c (Proc.devRef .tc Cert.ReferenceIdeal.main_arg14) = m ((c.tc : Thread nD τ).loc main_arg14) := h14
  have e15 : StableHlo.launchContents m' c (Proc.devRef .tc Cert.ReferenceIdeal.main_arg15) = m ((c.tc : Thread nD τ).loc main_arg15) := h15
  have e16 : StableHlo.launchContents m' c (Proc.devRef .tc Cert.ReferenceIdeal.main_arg16) = m ((c.tc : Thread nD τ).loc main_arg16) := h16
  have e17 : StableHlo.launchContents m' c (Proc.devRef .tc Cert.ReferenceIdeal.main_arg17) = m ((c.tc : Thread nD τ).loc main_arg17) := h17
  unfold Cert.ReferenceIdeal.Hand.args kargs
  rw [e0, e1, e2, e3, e4, e5, e6, e7, e8, e9, e10, e11, e12, e13, e14, e15, e16, e17]
  rfl

/-- The algebraic claim: the kernel's result and the reference's are the same function of the arguments. -/
theorem value : Cert.algebraic_KernelIdeal_ReferenceIdeal := by
  intro m g m' g' _ hm
  refine ⟨fun c => fun i : S16x2048x1024.Idx => res (kargs m c) (i 0) (i 1).val (i 2), ?_, ?_⟩
  · have hr := θ_run_and ((θ_run defs _ _).mono (fun _ h => h.1) (run_all (F := Ideal) m g)) ((θ_run defs _ _).mono (fun _ h => h.1) (frame_any (F := Ideal) m g))
    exact (θ_run defs _ _).mono (fun r h c => ⟨((h.1 c).1 23).trans (result m c), h.2 c⟩) hr
  · refine (θ_run _ _ _).mono (fun r h c => ⟨(h c Cert.ReferenceIdeal.main_v198 rfl).trans ?same, ?kept⟩) (Cert.ReferenceIdeal.Value.run_fold (F := Ideal) m' g')
    case same =>
      obtain ⟨h0, h1, h2, h3, h4, h5, h6, h7, h8, h9, h10, h11, h12, h13, h14, h15, h16, h17⟩ := hm c
      funext i
      show _ = res (kargs m c) (i 0) (i 1).val (i 2)
      rw [← args_eq m c m' h0 h1 h2 h3 h4 h5 h6 h7 h8 h9 h10 h11 h12 h13 h14 h15 h16 h17]
      refine Eq.trans ?_ (Cert.ReferenceIdeal.Hand.value m' c (i 0) (i 1) (i 2))
      refine congrArg _ ?_
      funext a; fin_cases a <;> rfl
    case kept =>
      have k : ∀ a ∈ Cert.ReferenceIdeal.Hand.argRefs, (Proc.devRef .tc a : DevRef Cert.ReferenceIdeal.τ Cert.ReferenceIdeal.sig).isScoped = false →
          r.2.mem ((c.tc : Thread Cert.ReferenceIdeal.nD Cert.ReferenceIdeal.τ).loc a) = m' ((c.tc : Thread Cert.ReferenceIdeal.nD Cert.ReferenceIdeal.τ).loc a) :=
        fun a ha hs => (h c a hs).trans (Cert.ReferenceIdeal.Hand.final_arg m' c a ha)
      exact ⟨k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl, k _ (by decide) rfl⟩

end Cert.KernelIdeal.Hand

end
-- ==== Proof.lean ====
module

public import proofs.«01_k».proof.Defs
public import proofs.«01_k».proof.Proof.Gen.Kernel
public import proofs.«01_k».proof.Proof.HandFrame
public import proofs.«01_k».proof.Proof.Modulate
public import proofs.«01_k».proof.Proof.KerValue

@[expose] public section

noncomputable section

namespace Cert.Proof

open Idealize.ShloMosaic Idealize.SL.Sem

/-- The block's kernel over extended reals terminates, leaves its arguments unchanged and its counters at zero. -/
theorem frame_kernel_ideal : Cert.quiescent_KernelIdeal := fun m g _ => Cert.KernelIdeal.Hand.frame_any m g

/-- What the run shows of the block's kernel, read at words. -/
def AtWords : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

/-- The printed kernel is the same program, read at words. -/
theorem at_words : Cert.quiescent_Kernel = AtWords := by chain_rfl

/-- The same of the printed kernel: the one run, read at words. -/
theorem frame_kernel : Cert.quiescent_Kernel := at_words.mpr fun m g _ =>
  (θ_run Cert.KernelIdeal.defs _ _).mono (fun _ h => h) (Cert.KernelIdeal.Hand.frame_any (F := Bits) m g)

/-- Everything claimed: the facts of the programs, the frames, and the values of the block and of the modulation. -/
theorem claim : Cert.Claim :=
  ⟨Cert.Kernel.Gen.facts, Cert.KernelIdeal.Gen.facts, Cert.ReferenceIdeal.Gen.facts, Cert.Modulation.Gen.facts, Cert.ModulationIdeal.Gen.facts, Cert.ModulationReferenceIdeal.Gen.facts,
    frame_kernel, frame_kernel_ideal, Cert.ReferenceIdeal.Hand.frame_reference, fun m g _ => Cert.Modulation.Gen.frame m g, fun m g _ => Cert.ModulationIdeal.Gen.frame m g,
    Cert.Modulate.frame_reference, trivial, Cert.KernelIdeal.Hand.value, trivial, Cert.Modulate.value⟩

end Cert.Proof

end
